-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7)
      ∧ r.2.mem ((c.tc : Thread Cert.Proj.nD Cert.Proj.τ).loc Cert.Proj.main_arg8) = m ((c.tc : Thread Cert.Proj.nD Cert.Proj.τ).loc Cert.Proj.main_arg8)
      ∧ r.2.mem ((c.tc : Thread Cert.Proj.nD Cert.Proj.τ).loc Cert.Proj.main_arg9) = m ((c.tc : Thread Cert.Proj.nD Cert.Proj.τ).loc Cert.Proj.main_arg9)
      ∧ r.2.mem ((c.tc : Thread Cert.Proj.nD Cert.Proj.τ).loc Cert.Proj.main_arg10) = m ((c.tc : Thread Cert.Proj.nD Cert.Proj.τ).loc Cert.Proj.main_arg10)
      ∧ r.2.mem ((c.tc : Thread Cert.Proj.nD Cert.Proj.τ).loc Cert.Proj.main_arg11) = m ((c.tc : Thread Cert.Proj.nD Cert.Proj.τ).loc Cert.Proj.main_arg11)
      ∧ r.2.mem ((c.tc : Thread Cert.Proj.nD Cert.Proj.τ).loc Cert.Proj.main_arg12) = m ((c.tc : Thread Cert.Proj.nD Cert.Proj.τ).loc Cert.Proj.main_arg12)
      ∧ r.2.mem ((c.tc : Thread Cert.Proj.nD Cert.Proj.τ).loc Cert.Proj.main_arg13) = m ((c.tc : Thread Cert.Proj.nD Cert.Proj.τ).loc Cert.Proj.main_arg13)
      ∧ r.2.mem ((c.tc : Thread Cert.Proj.nD Cert.Proj.τ).loc Cert.Proj.main_arg14) = m ((c.tc : Thread Cert.Proj.nD Cert.Proj.τ).loc Cert.Proj.main_arg14))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
      ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
      ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9)
      ∧ r.2.mem ((c.tc : Thread Cert.ProjIdeal.nD Cert.ProjIdeal.τ).loc Cert.ProjIdeal.main_arg10) = m ((c.tc : Thread Cert.ProjIdeal.nD Cert.ProjIdeal.τ).loc Cert.ProjIdeal.main_arg10)
      ∧ r.2.mem ((c.tc : Thread Cert.ProjIdeal.nD Cert.ProjIdeal.τ).loc Cert.ProjIdeal.main_arg11) = m ((c.tc : Thread Cert.ProjIdeal.nD Cert.ProjIdeal.τ).loc Cert.ProjIdeal.main_arg11)
      ∧ r.2.mem ((c.tc : Thread Cert.ProjIdeal.nD Cert.ProjIdeal.τ).loc Cert.ProjIdeal.main_arg12) = m ((c.tc : Thread Cert.ProjIdeal.nD Cert.ProjIdeal.τ).loc Cert.ProjIdeal.main_arg12)
      ∧ r.2.mem ((c.tc : Thread Cert.ProjIdeal.nD Cert.ProjIdeal.τ).loc Cert.ProjIdeal.main_arg13) = m ((c.tc : Thread Cert.ProjIdeal.nD Cert.ProjIdeal.τ).loc Cert.ProjIdeal.main_arg13)
      ∧ r.2.mem ((c.tc : Thread Cert.ProjIdeal.nD Cert.ProjIdeal.τ).loc Cert.ProjIdeal.main_arg14) = m ((c.tc : Thread Cert.ProjIdeal.nD Cert.ProjIdeal.τ).loc Cert.ProjIdeal.main_arg14))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5)
      ∧ r.2.mem ((c.tc : Thread Cert.ProjReferenceIdeal.nD Cert.ProjReferenceIdeal.τ).loc Cert.ProjReferenceIdeal.main_arg6) = m ((c.tc : Thread Cert.ProjReferenceIdeal.nD Cert.ProjReferenceIdeal.τ).loc Cert.ProjReferenceIdeal.main_arg6)
      ∧ r.2.mem ((c.tc : Thread Cert.ProjReferenceIdeal.nD Cert.ProjReferenceIdeal.τ).loc Cert.ProjReferenceIdeal.main_arg7) = m ((c.tc : Thread Cert.ProjReferenceIdeal.nD Cert.ProjReferenceIdeal.τ).loc Cert.ProjReferenceIdeal.main_arg7)
      ∧ r.2.mem ((c.tc : Thread Cert.ProjReferenceIdeal.nD Cert.ProjReferenceIdeal.τ).loc Cert.ProjReferenceIdeal.main_arg8) = m ((c.tc : Thread Cert.ProjReferenceIdeal.nD Cert.ProjReferenceIdeal.τ).loc Cert.ProjReferenceIdeal.main_arg8)
      ∧ r.2.mem ((c.tc : Thread Cert.ProjReferenceIdeal.nD Cert.ProjReferenceIdeal.τ).loc Cert.ProjReferenceIdeal.main_arg9) = m ((c.tc : Thread Cert.ProjReferenceIdeal.nD Cert.ProjReferenceIdeal.τ).loc Cert.ProjReferenceIdeal.main_arg9)
      ∧ r.2.mem ((c.tc : Thread Cert.ProjReferenceIdeal.nD Cert.ProjReferenceIdeal.τ).loc Cert.ProjReferenceIdeal.main_arg10) = m ((c.tc : Thread Cert.ProjReferenceIdeal.nD Cert.ProjReferenceIdeal.τ).loc Cert.ProjReferenceIdeal.main_arg10)
      ∧ r.2.mem ((c.tc : Thread Cert.ProjReferenceIdeal.nD Cert.ProjReferenceIdeal.τ).loc Cert.ProjReferenceIdeal.main_arg11) = m ((c.tc : Thread Cert.ProjReferenceIdeal.nD Cert.ProjReferenceIdeal.τ).loc Cert.ProjReferenceIdeal.main_arg11)
      ∧ r.2.mem ((c.tc : Thread Cert.ProjReferenceIdeal.nD Cert.ProjReferenceIdeal.τ).loc Cert.ProjReferenceIdeal.main_arg12) = m ((c.tc : Thread Cert.ProjReferenceIdeal.nD Cert.ProjReferenceIdeal.τ).loc Cert.ProjReferenceIdeal.main_arg12)
      ∧ r.2.mem ((c.tc : Thread Cert.ProjReferenceIdeal.nD Cert.ProjReferenceIdeal.τ).loc Cert.ProjReferenceIdeal.main_arg13) = m ((c.tc : Thread Cert.ProjReferenceIdeal.nD Cert.ProjReferenceIdeal.τ).loc Cert.ProjReferenceIdeal.main_arg13)
      ∧ r.2.mem ((c.tc : Thread Cert.ProjReferenceIdeal.nD Cert.ProjReferenceIdeal.τ).loc Cert.ProjReferenceIdeal.main_arg14) = m ((c.tc : Thread Cert.ProjReferenceIdeal.nD Cert.ProjReferenceIdeal.τ).loc Cert.ProjReferenceIdeal.main_arg14))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v12)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v12) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v46) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)
      ∧ m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)
      ∧ m' ((c.tc : Thread Cert.ProjReferenceIdeal.nD Cert.ProjReferenceIdeal.τ).loc Cert.ProjReferenceIdeal.main_arg4) = m ((c.tc : Thread Cert.ProjIdeal.nD Cert.ProjIdeal.τ).loc Cert.ProjIdeal.main_arg4)
      ∧ m' ((c.tc : Thread Cert.ProjReferenceIdeal.nD Cert.ProjReferenceIdeal.τ).loc Cert.ProjReferenceIdeal.main_arg5) = m ((c.tc : Thread Cert.ProjIdeal.nD Cert.ProjIdeal.τ).loc Cert.ProjIdeal.main_arg5)
      ∧ m' ((c.tc : Thread Cert.ProjReferenceIdeal.nD Cert.ProjReferenceIdeal.τ).loc Cert.ProjReferenceIdeal.main_arg6) = m ((c.tc : Thread Cert.ProjIdeal.nD Cert.ProjIdeal.τ).loc Cert.ProjIdeal.main_arg6)
      ∧ m' ((c.tc : Thread Cert.ProjReferenceIdeal.nD Cert.ProjReferenceIdeal.τ).loc Cert.ProjReferenceIdeal.main_arg7) = m ((c.tc : Thread Cert.ProjIdeal.nD Cert.ProjIdeal.τ).loc Cert.ProjIdeal.main_arg7)
      ∧ m' ((c.tc : Thread Cert.ProjReferenceIdeal.nD Cert.ProjReferenceIdeal.τ).loc Cert.ProjReferenceIdeal.main_arg8) = m ((c.tc : Thread Cert.ProjIdeal.nD Cert.ProjIdeal.τ).loc Cert.ProjIdeal.main_arg8)
      ∧ m' ((c.tc : Thread Cert.ProjReferenceIdeal.nD Cert.ProjReferenceIdeal.τ).loc Cert.ProjReferenceIdeal.main_arg9) = m ((c.tc : Thread Cert.ProjIdeal.nD Cert.ProjIdeal.τ).loc Cert.ProjIdeal.main_arg9)
      ∧ m' ((c.tc : Thread Cert.ProjReferenceIdeal.nD Cert.ProjReferenceIdeal.τ).loc Cert.ProjReferenceIdeal.main_arg10) = m ((c.tc : Thread Cert.ProjIdeal.nD Cert.ProjIdeal.τ).loc Cert.ProjIdeal.main_arg10)
      ∧ m' ((c.tc : Thread Cert.ProjReferenceIdeal.nD Cert.ProjReferenceIdeal.τ).loc Cert.ProjReferenceIdeal.main_arg11) = m ((c.tc : Thread Cert.ProjIdeal.nD Cert.ProjIdeal.τ).loc Cert.ProjIdeal.main_arg11)
      ∧ m' ((c.tc : Thread Cert.ProjReferenceIdeal.nD Cert.ProjReferenceIdeal.τ).loc Cert.ProjReferenceIdeal.main_arg12) = m ((c.tc : Thread Cert.ProjIdeal.nD Cert.ProjIdeal.τ).loc Cert.ProjIdeal.main_arg12)
      ∧ m' ((c.tc : Thread Cert.ProjReferenceIdeal.nD Cert.ProjReferenceIdeal.τ).loc Cert.ProjReferenceIdeal.main_arg13) = m ((c.tc : Thread Cert.ProjIdeal.nD Cert.ProjIdeal.τ).loc Cert.ProjIdeal.main_arg13)
      ∧ m' ((c.tc : Thread Cert.ProjReferenceIdeal.nD Cert.ProjReferenceIdeal.τ).loc Cert.ProjReferenceIdeal.main_arg14) = m ((c.tc : Thread Cert.ProjIdeal.nD Cert.ProjIdeal.τ).loc Cert.ProjIdeal.main_arg14)) →
    ∃ (v0 : (c : Dev Cert.ProjIdeal.nD) → Buf (Elt Ideal) ((c.tc : Thread Cert.ProjIdeal.nD Cert.ProjIdeal.τ).loc Cert.ProjIdeal.main_v110)) (v1 : (c : Dev Cert.ProjIdeal.nD) → Buf (Elt Ideal) ((c.tc : Thread Cert.ProjIdeal.nD Cert.ProjIdeal.τ).loc Cert.ProjIdeal.main_v109_3)) (v2 : (c : Dev Cert.ProjIdeal.nD) → Buf (Elt Ideal) ((c.tc : Thread Cert.ProjIdeal.nD Cert.ProjIdeal.τ).loc Cert.ProjIdeal.main_v109_4)) (v3 : (c : Dev Cert.ProjIdeal.nD) → Buf (Elt Ideal) ((c.tc : Thread Cert.ProjIdeal.nD Cert.ProjIdeal.τ).loc Cert.ProjIdeal.main_v109_5)) (v4 : (c : Dev Cert.ProjIdeal.nD) → Buf (Elt Ideal) ((c.tc : Thread Cert.ProjIdeal.nD Cert.ProjIdeal.τ).loc Cert.ProjIdeal.main_v109_7)) (v5 : (c : Dev Cert.ProjIdeal.nD) → Buf (Elt Ideal) ((c.tc : Thread Cert.ProjIdeal.nD Cert.ProjIdeal.τ).loc Cert.ProjIdeal.main_v109_9)) (v6 : (c : Dev Cert.ProjIdeal.nD) → Buf (Elt Ideal) ((c.tc : Thread Cert.ProjIdeal.nD Cert.ProjIdeal.τ).loc Cert.ProjIdeal.main_v111)) (v7 : (c : Dev Cert.ProjIdeal.nD) → Buf (Elt Ideal) ((c.tc : Thread Cert.ProjIdeal.nD Cert.ProjIdeal.τ).loc Cert.ProjIdeal.main_v112)) (v8 : (c : Dev Cert.ProjIdeal.nD) → Buf (Elt Ideal) ((c.tc : Thread Cert.ProjIdeal.nD Cert.ProjIdeal.τ).loc Cert.ProjIdeal.main_v109_2)) (v9 : (c : Dev Cert.ProjIdeal.nD) → Buf (Elt Ideal) ((c.tc : Thread Cert.ProjIdeal.nD Cert.ProjIdeal.τ).loc Cert.ProjIdeal.main_v109_6)) (v10 : (c : Dev Cert.ProjIdeal.nD) → Buf (Elt Ideal) ((c.tc : Thread Cert.ProjIdeal.nD Cert.ProjIdeal.τ).loc Cert.ProjIdeal.main_v109_8)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v110) = v0 c
          ∧ r.2.mem ((c.tc : Thread Cert.ProjIdeal.nD Cert.ProjIdeal.τ).loc Cert.ProjIdeal.main_v109_3) = v1 c
          ∧ r.2.mem ((c.tc : Thread Cert.ProjIdeal.nD Cert.ProjIdeal.τ).loc Cert.ProjIdeal.main_v109_4) = v2 c
          ∧ r.2.mem ((c.tc : Thread Cert.ProjIdeal.nD Cert.ProjIdeal.τ).loc Cert.ProjIdeal.main_v109_5) = v3 c
          ∧ r.2.mem ((c.tc : Thread Cert.ProjIdeal.nD Cert.ProjIdeal.τ).loc Cert.ProjIdeal.main_v109_7) = v4 c
          ∧ r.2.mem ((c.tc : Thread Cert.ProjIdeal.nD Cert.ProjIdeal.τ).loc Cert.ProjIdeal.main_v109_9) = v5 c
          ∧ r.2.mem ((c.tc : Thread Cert.ProjIdeal.nD Cert.ProjIdeal.τ).loc Cert.ProjIdeal.main_v111) = v6 c
          ∧ r.2.mem ((c.tc : Thread Cert.ProjIdeal.nD Cert.ProjIdeal.τ).loc Cert.ProjIdeal.main_v112) = v7 c
          ∧ r.2.mem ((c.tc : Thread Cert.ProjIdeal.nD Cert.ProjIdeal.τ).loc Cert.ProjIdeal.main_v109_2) = v8 c
          ∧ r.2.mem ((c.tc : Thread Cert.ProjIdeal.nD Cert.ProjIdeal.τ).loc Cert.ProjIdeal.main_v109_6) = v9 c
          ∧ r.2.mem ((c.tc : Thread Cert.ProjIdeal.nD Cert.ProjIdeal.τ).loc Cert.ProjIdeal.main_v109_8) = v10 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
          ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
          ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9)
          ∧ r.2.mem ((c.tc : Thread Cert.ProjIdeal.nD Cert.ProjIdeal.τ).loc Cert.ProjIdeal.main_arg10) = m ((c.tc : Thread Cert.ProjIdeal.nD Cert.ProjIdeal.τ).loc Cert.ProjIdeal.main_arg10)
          ∧ r.2.mem ((c.tc : Thread Cert.ProjIdeal.nD Cert.ProjIdeal.τ).loc Cert.ProjIdeal.main_arg11) = m ((c.tc : Thread Cert.ProjIdeal.nD Cert.ProjIdeal.τ).loc Cert.ProjIdeal.main_arg11)
          ∧ r.2.mem ((c.tc : Thread Cert.ProjIdeal.nD Cert.ProjIdeal.τ).loc Cert.ProjIdeal.main_arg12) = m ((c.tc : Thread Cert.ProjIdeal.nD Cert.ProjIdeal.τ).loc Cert.ProjIdeal.main_arg12)
          ∧ r.2.mem ((c.tc : Thread Cert.ProjIdeal.nD Cert.ProjIdeal.τ).loc Cert.ProjIdeal.main_arg13) = m ((c.tc : Thread Cert.ProjIdeal.nD Cert.ProjIdeal.τ).loc Cert.ProjIdeal.main_arg13)
          ∧ r.2.mem ((c.tc : Thread Cert.ProjIdeal.nD Cert.ProjIdeal.τ).loc Cert.ProjIdeal.main_arg14) = m ((c.tc : Thread Cert.ProjIdeal.nD Cert.ProjIdeal.τ).loc Cert.ProjIdeal.main_arg14))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v90) = v0 c
          ∧ r.2.mem ((c.tc : Thread Cert.ProjReferenceIdeal.nD Cert.ProjReferenceIdeal.τ).loc Cert.ProjReferenceIdeal.main_v131) = v1 c
          ∧ r.2.mem ((c.tc : Thread Cert.ProjReferenceIdeal.nD Cert.ProjReferenceIdeal.τ).loc Cert.ProjReferenceIdeal.main_v172) = v2 c
          ∧ r.2.mem ((c.tc : Thread Cert.ProjReferenceIdeal.nD Cert.ProjReferenceIdeal.τ).loc Cert.ProjReferenceIdeal.main_v213) = v3 c
          ∧ r.2.mem ((c.tc : Thread Cert.ProjReferenceIdeal.nD Cert.ProjReferenceIdeal.τ).loc Cert.ProjReferenceIdeal.main_v37) = v4 c
          ∧ r.2.mem ((c.tc : Thread Cert.ProjReferenceIdeal.nD Cert.ProjReferenceIdeal.τ).loc Cert.ProjReferenceIdeal.main_v229) = v5 c
          ∧ r.2.mem ((c.tc : Thread Cert.ProjReferenceIdeal.nD Cert.ProjReferenceIdeal.τ).loc Cert.ProjReferenceIdeal.main_v233) = v6 c
          ∧ r.2.mem ((c.tc : Thread Cert.ProjReferenceIdeal.nD Cert.ProjReferenceIdeal.τ).loc Cert.ProjReferenceIdeal.main_v239) = v7 c
          ∧ r.2.mem ((c.tc : Thread Cert.ProjReferenceIdeal.nD Cert.ProjReferenceIdeal.τ).loc Cert.ProjReferenceIdeal.main_v296) = v8 c
          ∧ r.2.mem ((c.tc : Thread Cert.ProjReferenceIdeal.nD Cert.ProjReferenceIdeal.τ).loc Cert.ProjReferenceIdeal.main_v36) = v9 c
          ∧ r.2.mem ((c.tc : Thread Cert.ProjReferenceIdeal.nD Cert.ProjReferenceIdeal.τ).loc Cert.ProjReferenceIdeal.main_v297) = v10 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4)
          ∧ r.2.mem ((c.tc : Thread Cert.ProjReferenceIdeal.nD Cert.ProjReferenceIdeal.τ).loc Cert.ProjReferenceIdeal.main_arg5) = m' ((c.tc : Thread Cert.ProjReferenceIdeal.nD Cert.ProjReferenceIdeal.τ).loc Cert.ProjReferenceIdeal.main_arg5)
          ∧ r.2.mem ((c.tc : Thread Cert.ProjReferenceIdeal.nD Cert.ProjReferenceIdeal.τ).loc Cert.ProjReferenceIdeal.main_arg6) = m' ((c.tc : Thread Cert.ProjReferenceIdeal.nD Cert.ProjReferenceIdeal.τ).loc Cert.ProjReferenceIdeal.main_arg6)
          ∧ r.2.mem ((c.tc : Thread Cert.ProjReferenceIdeal.nD Cert.ProjReferenceIdeal.τ).loc Cert.ProjReferenceIdeal.main_arg7) = m' ((c.tc : Thread Cert.ProjReferenceIdeal.nD Cert.ProjReferenceIdeal.τ).loc Cert.ProjReferenceIdeal.main_arg7)
          ∧ r.2.mem ((c.tc : Thread Cert.ProjReferenceIdeal.nD Cert.ProjReferenceIdeal.τ).loc Cert.ProjReferenceIdeal.main_arg8) = m' ((c.tc : Thread Cert.ProjReferenceIdeal.nD Cert.ProjReferenceIdeal.τ).loc Cert.ProjReferenceIdeal.main_arg8)
          ∧ r.2.mem ((c.tc : Thread Cert.ProjReferenceIdeal.nD Cert.ProjReferenceIdeal.τ).loc Cert.ProjReferenceIdeal.main_arg9) = m' ((c.tc : Thread Cert.ProjReferenceIdeal.nD Cert.ProjReferenceIdeal.τ).loc Cert.ProjReferenceIdeal.main_arg9)
          ∧ r.2.mem ((c.tc : Thread Cert.ProjReferenceIdeal.nD Cert.ProjReferenceIdeal.τ).loc Cert.ProjReferenceIdeal.main_arg10) = m' ((c.tc : Thread Cert.ProjReferenceIdeal.nD Cert.ProjReferenceIdeal.τ).loc Cert.ProjReferenceIdeal.main_arg10)
          ∧ r.2.mem ((c.tc : Thread Cert.ProjReferenceIdeal.nD Cert.ProjReferenceIdeal.τ).loc Cert.ProjReferenceIdeal.main_arg11) = m' ((c.tc : Thread Cert.ProjReferenceIdeal.nD Cert.ProjReferenceIdeal.τ).loc Cert.ProjReferenceIdeal.main_arg11)
          ∧ r.2.mem ((c.tc : Thread Cert.ProjReferenceIdeal.nD Cert.ProjReferenceIdeal.τ).loc Cert.ProjReferenceIdeal.main_arg12) = m' ((c.tc : Thread Cert.ProjReferenceIdeal.nD Cert.ProjReferenceIdeal.τ).loc Cert.ProjReferenceIdeal.main_arg12)
          ∧ r.2.mem ((c.tc : Thread Cert.ProjReferenceIdeal.nD Cert.ProjReferenceIdeal.τ).loc Cert.ProjReferenceIdeal.main_arg13) = m' ((c.tc : Thread Cert.ProjReferenceIdeal.nD Cert.ProjReferenceIdeal.τ).loc Cert.ProjReferenceIdeal.main_arg13)
          ∧ r.2.mem ((c.tc : Thread Cert.ProjReferenceIdeal.nD Cert.ProjReferenceIdeal.τ).loc Cert.ProjReferenceIdeal.main_arg14) = m' ((c.tc : Thread Cert.ProjReferenceIdeal.nD Cert.ProjReferenceIdeal.τ).loc Cert.ProjReferenceIdeal.main_arg14))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hProj : Cert.Proj.Facts) (hProjIdeal : Cert.ProjIdeal.Facts) (hProjReferenceIdeal : Cert.ProjReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Proj (hProj := hProj)
    ∧ quiescent_ProjIdeal (hProjIdeal := hProjIdeal)
    ∧ quiescent_ProjReferenceIdeal (hProjReferenceIdeal := hProjReferenceIdeal)
    ∧ preserves_Kernel_KernelIdeal
    ∧ algebraic_KernelIdeal_ReferenceIdeal (hKernelIdeal := hKernelIdeal) (hReferenceIdeal := hReferenceIdeal)
    ∧ preserves_Ffn_FfnIdeal
    ∧ algebraic_FfnIdeal_FfnReferenceIdeal (hFfnIdeal := hFfnIdeal) (hFfnReferenceIdeal := hFfnReferenceIdeal)
    ∧ preserves_Proj_ProjIdeal
    ∧ algebraic_ProjIdeal_ProjReferenceIdeal (hProjIdeal := hProjIdeal) (hProjReferenceIdeal := hProjReferenceIdeal)
-- ==== Kernel.lean ====
abbrev S2x4096x4x192 : Shape := ⟨4, ![2, 4096, 4, 192]⟩
abbrev S2x4096x192 : Shape := ⟨3, ![2, 4096, 192]⟩
abbrev S_ : Shape := ⟨0, ![]⟩
abbrev S2x4096x4x256 : Shape := ⟨4, ![2, 4096, 4, 256]⟩
abbrev S2x4096x1024 : Shape := ⟨3, ![2, 4096, 1024]⟩
abbrev S2x4096x256 : Shape := ⟨3, ![2, 4096, 256]⟩
abbrev S2x4096x512 : Shape := ⟨3, ![2, 4096, 512]⟩
abbrev S1x128x1024 : Shape := ⟨3, ![1, 128, 1024]⟩
abbrev S1x4096x256 : Shape := ⟨3, ![1, 4096, 256]⟩
abbrev S1x128x512 : Shape := ⟨3, ![1, 128, 512]⟩
abbrev S512x128 : Shape := ⟨2, ![512, 128]⟩
abbrev S4x128x1 : Shape := ⟨3, ![4, 128, 1]⟩
abbrev S1x128x256 : Shape := ⟨3, ![1, 128, 256]⟩
abbrev S128x256 : Shape := ⟨2, ![128, 256]⟩
abbrev S512x256 : Shape := ⟨2, ![512, 256]⟩
abbrev S128x1024 : Shape := ⟨2, ![128, 1024]⟩
abbrev S1x1024x256 : Shape := ⟨3, ![1, 1024, 256]⟩
abbrev S1024x256 : Shape := ⟨2, ![1024, 256]⟩
abbrev S1024x128 : Shape := ⟨2, ![1024, 128]⟩
abbrev S512x1024 : Shape := ⟨2, ![512, 1024]⟩
abbrev S4x128x1024 : Shape := ⟨3, ![4, 128, 1024]⟩
abbrev S4x128 : Shape := ⟨2, ![4, 128]⟩
abbrev S512x1 : Shape := ⟨2, ![512, 1]⟩
abbrev S128x128 : Shape := ⟨2, ![128, 128]⟩
abbrev S1x128x128 : Shape := ⟨3, ![1, 128, 128]⟩

abbrev nBuf : Space → Nat
  | .hbm => 11
  | .vmem => 9
  | .smem => 0
  | _ => 0

abbrev bufTy : (tb : Table) → Fin (tcTables nBuf tb) → BufTy
  | .hbm, ⟨0, _⟩ => ⟨S2x4096x4x192, .f32⟩
  | .hbm, ⟨1, _⟩ => ⟨S2x4096x192, .f32⟩
  | .hbm, ⟨2, _⟩ => ⟨S_, .i32⟩
  | .hbm, ⟨3, _⟩ => ⟨S_, .f32⟩
  | .hbm, ⟨4, _⟩ => ⟨S2x4096x4x256, .f32⟩
  | .hbm, ⟨5, _⟩ => ⟨S2x4096x1024, .f32⟩
  | .hbm, ⟨6, _⟩ => ⟨S_, .i32⟩
  | .hbm, ⟨7, _⟩ => ⟨S_, .f32⟩
  | .hbm, ⟨8, _⟩ => ⟨S2x4096x256, .f32⟩
  | .hbm, ⟨9, _⟩ => ⟨S2x4096x256, .bf16⟩
  | .hbm, ⟨10, _⟩ => ⟨S2x4096x512, .f32⟩
  | .local _ .vmem, ⟨0, _⟩ => ⟨S1x128x1024, .f32⟩
  | .local _ .vmem, ⟨1, _⟩ => ⟨S1x128x1024, .f32⟩
  | .local _ .vmem, ⟨2, _⟩ => ⟨S1x4096x256, .bf16⟩
  | .local _ .vmem, ⟨3, _⟩ => ⟨S1x4096x256, .bf16⟩
  | .local _ .vmem, ⟨4, _⟩ => ⟨S1x128x512, .f32⟩
  | .local _ .vmem, ⟨5, _⟩ => ⟨S1x128x512, .f32⟩
  | .local _ .vmem, ⟨6, _⟩ => ⟨S512x128, .f32⟩
  | .local _ .vmem, ⟨7, _⟩ => ⟨S4x128x1, .f32⟩
  | .local _ .vmem, ⟨8, _⟩ => ⟨S4x128x1, .f32⟩
  | _, _ => ⟨S2x4096x4x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_call1_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 32], ![false, false]⟩

@[reducible] def k0_t1_loop (i : grid0.Coords) : Scf.Loop 32 :=
  let c0_i32_35 : BitVec 32 := 0#32
  let arg1 : BitVec 32 := BitVec.ofNat 32 (i 1).val
  let c128_i32 : BitVec 32 := 128#32
  let v0 : BitVec 32 := Scalar.muli arg1 c128_i32
  let c128_i32_19 : BitVec 32 := 128#32
  let v28 : BitVec 32 := Scalar.addi v0 c128_i32_19
  let c1_i32 : BitVec 32 := 1#32
  let v29 : BitVec 32 := Scalar.subi v28 c1_i32
  let c0_i32 : BitVec 32 := 0#32
  let v31 : BitVec 1 := Scalar.cmpi .sgt v29 c0_i32
  let v32 : BitVec 32 := Scalar.extui v31
  let c0_i32_20 : BitVec 32 := 0#32
  let v33 : BitVec 1 := Scalar.cmpi .slt v29 c0_i32_20
  let v34 : BitVec 32 := Scalar.extui v33
  let v35 : BitVec 32 := Scalar.subi v32 v34
  let c1024_i32 : BitVec 32 := 1024#32
  let c0_i32_21 : BitVec 32 := 0#32
  let v36 : BitVec 1 := Scalar.cmpi .sgt c1024_i32 c0_i32_21
  let v37 : BitVec 32 := Scalar.extui v36
  let c0_i32_22 : BitVec 32 := 0#32
  let v38 : BitVec 1 := Scalar.cmpi .slt c1024_i32 c0_i32_22
  let v39 : BitVec 32 := Scalar.extui v38
  let v40 : BitVec 32 := Scalar.subi v37 v39
  let v41 : BitVec 1 := Scalar.cmpi .ne v35 v40
  let v42 : BitVec 32 := Scalar.remsi v29 c1024_i32
  let c0_i32_23 : BitVec 32 := 0#32
  let v43 : BitVec 1 := Scalar.cmpi .ne v42 c0_i32_23
  let v44 : BitVec 1 := Scalar.andi v41 v43
  let v30 : BitVec 32 := Scalar.divsi v29 c1024_i32
  let c1_i32_24 : BitVec 32 := 1#32
  let v45 : BitVec 32 := Scalar.subi v30 c1_i32_24
  let v46 : BitVec 32 := Scalar.select v44 v45 v30
  let c1_i32_25 : BitVec 32 := 1#32
  let v47 : BitVec 32 := Scalar.addi v46 c1_i32_25
  let c1_i32_26 : BitVec 32 := 1#32
  let v48 : BitVec 32 := Scalar.addi v0 c1_i32_26
  let c0_i32_28 : BitVec 32 := 0#32
  let v50 : BitVec 1 := Scalar.cmpi .sgt v48 c0_i32_28
  let v51 : BitVec 32 := Scalar.extui v50
  let c0_i32_29 : BitVec 32 := 0#32
  let v52 : BitVec 1 := Scalar.cmpi .slt v48 c0_i32_29
  let v53 : BitVec 32 := Scalar.extui v52
  let v54 : BitVec 32 := Scalar.subi v51 v53
  let c1024_i32_27 : BitVec 32 := 1024#32
  let c0_i32_30 : BitVec 32 := 0#32
  let v55 : BitVec 1 := Scalar.cmpi .sgt c1024_i32_27 c0_i32_30
  let v56 : BitVec 32 := Scalar.extui v55
  let c0_i32_31 : BitVec 32 := 0#32
  let v57 : BitVec 1 := Scalar.cmpi .slt c1024_i32_27 c0_i32_31
  let v58 : BitVec 32 := Scalar.extui v57
  let v59 : BitVec 32 := Scalar.subi v56 v58
  let v60 : BitVec 1 := Scalar.cmpi .ne v54 v59
  let v61 : BitVec 32 := Scalar.remsi v48 c1024_i32_27
  let c0_i32_32 : BitVec 32 := 0#32
  let v62 : BitVec 1 := Scalar.cmpi .ne v61 c0_i32_32
  let v63 : BitVec 1 := Scalar.andi v60 v62
  let v49 : BitVec 32 := Scalar.divsi v48 c1024_i32_27
  let c1_i32_33 : BitVec 32 := 1#32
  let v64 : BitVec 32 := Scalar.subi v49 c1_i32_33
  let v65 : BitVec 32 := Scalar.select v63 v64 v49
  let v66 : BitVec 32 := Scalar.subi v47 v65
  let v67 : BitVec 32 := Scalar.subi v66 c0_i32_35
  let c1_i32_36 : BitVec 32 := 1#32
  let v69 : BitVec 32 := Scalar.divsi v67 c1_i32_36
  let v70 : BitVec 32 := Scalar.muli v69 c1_i32_36
  let v71 : BitVec 32 := Scalar.addi c0_i32_35 v70
  let c1_i32_37 : BitVec 32 := 1#32
  ⟨c0_i32_35, v71, c1_i32_37⟩
def k0_mult1 (i : grid0.Coords) (k0_t1 : Fin (k0_t1_loop i).trips) : BitVec 32 :=
  let arg1 : BitVec 32 := BitVec.ofNat 32 (i 1).val
  let c128_i32 : BitVec 32 := 128#32
  let v0 : BitVec 32 := Scalar.muli arg1 c128_i32
  let c128_i32_19 : BitVec 32 := 128#32
  let v28 : BitVec 32 := Scalar.addi v0 c128_i32_19
  let c1_i32 : BitVec 32 := 1#32
  let v29 : BitVec 32 := Scalar.subi v28 c1_i32
  let c0_i32 : BitVec 32 := 0#32
  let v31 : BitVec 1 := Scalar.cmpi .sgt v29 c0_i32
  let v32 : BitVec 32 := Scalar.extui v31
  let c0_i32_20 : BitVec 32 := 0#32
  let v33 : BitVec 1 := Scalar.cmpi .slt v29 c0_i32_20
  let v34 : BitVec 32 := Scalar.extui v33
  let v35 : BitVec 32 := Scalar.subi v32 v34
  let c1024_i32 : BitVec 32 := 1024#32
  let c0_i32_21 : BitVec 32 := 0#32
  let v36 : BitVec 1 := Scalar.cmpi .sgt c1024_i32 c0_i32_21
  let v37 : BitVec 32 := Scalar.extui v36
  let c0_i32_22 : BitVec 32 := 0#32
  let v38 : BitVec 1 := Scalar.cmpi .slt c1024_i32 c0_i32_22
  let v39 : BitVec 32 := Scalar.extui v38
  let v40 : BitVec 32 := Scalar.subi v37 v39
  let v41 : BitVec 1 := Scalar.cmpi .ne v35 v40
  let v42 : BitVec 32 := Scalar.remsi v29 c1024_i32
  let c0_i32_23 : BitVec 32 := 0#32
  let v43 : BitVec 1 := Scalar.cmpi .ne v42 c0_i32_23
  let v44 : BitVec 1 := Scalar.andi v41 v43
  let v30 : BitVec 32 := Scalar.divsi v29 c1024_i32
  let c1_i32_24 : BitVec 32 := 1#32
  let v45 : BitVec 32 := Scalar.subi v30 c1_i32_24
  let v46 : BitVec 32 := Scalar.select v44 v45 v30
  let c1_i32_25 : BitVec 32 := 1#32
  let v47 : BitVec 32 := Scalar.addi v46 c1_i32_25
  let c1_i32_62 : BitVec 32 := 1#32
  let v103 : BitVec 32 := Scalar.subi v47 c1_i32_62
  let c0_i32_35 : BitVec 32 := 0#32
  let c1_i32_37 : BitVec 32 := 1#32
  let arg8 : BitVec 32 := Scf.iv c0_i32_35 c1_i32_37 k0_t1
  let v104 : BitVec 32 := Scalar.subi v103 arg8
  let c1024_i32_63 : BitVec 32 := 1024#32
  let v105 : BitVec 32 := Scalar.muli v104 c1024_i32_63
  v105
def k0_off1 (i : grid0.Coords) (k0_t1 : Fin (k0_t1_loop i).trips) : Fin 3 → Nat :=
  let c0_64 : Index := 0#32
  let arg1 : BitVec 32 := BitVec.ofNat 32 (i 1).val
  let c128_i32 : BitVec 32 := 128#32
  let v0 : BitVec 32 := Scalar.muli arg1 c128_i32
  let c128_i32_19 : BitVec 32 := 128#32
  let v28 : BitVec 32 := Scalar.addi v0 c128_i32_19
  let c1_i32 : BitVec 32 := 1#32
  let v29 : BitVec 32 := Scalar.subi v28 c1_i32
  let c0_i32 : BitVec 32 := 0#32
  let v31 : BitVec 1 := Scalar.cmpi .sgt v29 c0_i32
  let v32 : BitVec 32 := Scalar.extui v31
  let c0_i32_20 : BitVec 32 := 0#32
  let v33 : BitVec 1 := Scalar.cmpi .slt v29 c0_i32_20
  let v34 : BitVec 32 := Scalar.extui v33
  let v35 : BitVec 32 := Scalar.subi v32 v34
  let c1024_i32 : BitVec 32 := 1024#32
  let c0_i32_21 : BitVec 32 := 0#32
  let v36 : BitVec 1 := Scalar.cmpi .sgt c1024_i32 c0_i32_21
  let v37 : BitVec 32 := Scalar.extui v36
  let c0_i32_22 : BitVec 32 := 0#32
  let v38 : BitVec 1 := Scalar.cmpi .slt c1024_i32 c0_i32_22
  let v39 : BitVec 32 := Scalar.extui v38
  let v40 : BitVec 32 := Scalar.subi v37 v39
  let v41 : BitVec 1 := Scalar.cmpi .ne v35 v40
  let v42 : BitVec 32 := Scalar.remsi v29 c1024_i32
  let c0_i32_23 : BitVec 32 := 0#32
  let v43 : BitVec 1 := Scalar.cmpi .ne v42 c0_i32_23
  let v44 : BitVec 1 := Scalar.andi v41 v43
  let v30 : BitVec 32 := Scalar.divsi v29 c1024_i32
  let c1_i32_24 : BitVec 32 := 1#32
  let v45 : BitVec 32 := Scalar.subi v30 c1_i32_24
  let v46 : BitVec 32 := Scalar.select v44 v45 v30
  let c1_i32_25 : BitVec 32 := 1#32
  let v47 : BitVec 32 := Scalar.addi v46 c1_i32_25
  let c1_i32_62 : BitVec 32 := 1#32
  let v103 : BitVec 32 := Scalar.subi v47 c1_i32_62
  let c0_i32_35 : BitVec 32 := 0#32
  let c1_i32_37 : BitVec 32 := 1#32
  let arg8 : BitVec 32 := Scf.iv c0_i32_35 c1_i32_37 k0_t1
  let v104 : BitVec 32 := Scalar.subi v103 arg8
  let c1024_i32_63 : BitVec 32 := 1024#32
  let v105 : BitVec 32 := Scalar.muli v104 c1024_i32_63
  let v106 : BitVec 32 := v105
  let v107 : Index := Scalar.indexCast v106
  let c0_65 : Index := 0#32
  ![0, v107.toNat, 0]
@[reducible] def k0_t2_loop (i : grid0.Coords) : Scf.Loop 32 :=
  let c0_i32_35 : BitVec 32 := 0#32
  let arg1 : BitVec 32 := BitVec.ofNat 32 (i 1).val
  let c128_i32 : BitVec 32 := 128#32
  let v0 : BitVec 32 := Scalar.muli arg1 c128_i32
  let c128_i32_19 : BitVec 32 := 128#32
  let v28 : BitVec 32 := Scalar.addi v0 c128_i32_19
  let c1_i32 : BitVec 32 := 1#32
  let v29 : BitVec 32 := Scalar.subi v28 c1_i32
  let c0_i32 : BitVec 32 := 0#32
  let v31 : BitVec 1 := Scalar.cmpi .sgt v29 c0_i32
  let v32 : BitVec 32 := Scalar.extui v31
  let c0_i32_20 : BitVec 32 := 0#32
  let v33 : BitVec 1 := Scalar.cmpi .slt v29 c0_i32_20
  let v34 : BitVec 32 := Scalar.extui v33
  let v35 : BitVec 32 := Scalar.subi v32 v34
  let c1024_i32 : BitVec 32 := 1024#32
  let c0_i32_21 : BitVec 32 := 0#32
  let v36 : BitVec 1 := Scalar.cmpi .sgt c1024_i32 c0_i32_21
  let v37 : BitVec 32 := Scalar.extui v36
  let c0_i32_22 : BitVec 32 := 0#32
  let v38 : BitVec 1 := Scalar.cmpi .slt c1024_i32 c0_i32_22
  let v39 : BitVec 32 := Scalar.extui v38
  let v40 : BitVec 32 := Scalar.subi v37 v39
  let v41 : BitVec 1 := Scalar.cmpi .ne v35 v40
  let v42 : BitVec 32 := Scalar.remsi v29 c1024_i32
  let c0_i32_23 : BitVec 32 := 0#32
  let v43 : BitVec 1 := Scalar.cmpi .ne v42 c0_i32_23
  let v44 : BitVec 1 := Scalar.andi v41 v43
  let v30 : BitVec 32 := Scalar.divsi v29 c1024_i32
  let c1_i32_24 : BitVec 32 := 1#32
  let v45 : BitVec 32 := Scalar.subi v30 c1_i32_24
  let v46 : BitVec 32 := Scalar.select v44 v45 v30
  let c1_i32_25 : BitVec 32 := 1#32
  let v47 : BitVec 32 := Scalar.addi v46 c1_i32_25
  let c1_i32_26 : BitVec 32 := 1#32
  let v48 : BitVec 32 := Scalar.addi v0 c1_i32_26
  let c0_i32_28 : BitVec 32 := 0#32
  let v50 : BitVec 1 := Scalar.cmpi .sgt v48 c0_i32_28
  let v51 : BitVec 32 := Scalar.extui v50
  let c0_i32_29 : BitVec 32 := 0#32
  let v52 : BitVec 1 := Scalar.cmpi .slt v48 c0_i32_29
  let v53 : BitVec 32 := Scalar.extui v52
  let v54 : BitVec 32 := Scalar.subi v51 v53
  let c1024_i32_27 : BitVec 32 := 1024#32
  let c0_i32_30 : BitVec 32 := 0#32
  let v55 : BitVec 1 := Scalar.cmpi .sgt c1024_i32_27 c0_i32_30
  let v56 : BitVec 32 := Scalar.extui v55
  let c0_i32_31 : BitVec 32 := 0#32
  let v57 : BitVec 1 := Scalar.cmpi .slt c1024_i32_27 c0_i32_31
  let v58 : BitVec 32 := Scalar.extui v57
  let v59 : BitVec 32 := Scalar.subi v56 v58
  let v60 : BitVec 1 := Scalar.cmpi .ne v54 v59
  let v61 : BitVec 32 := Scalar.remsi v48 c1024_i32_27
  let c0_i32_32 : BitVec 32 := 0#32
  let v62 : BitVec 1 := Scalar.cmpi .ne v61 c0_i32_32
  let v63 : BitVec 1 := Scalar.andi v60 v62
  let v49 : BitVec 32 := Scalar.divsi v48 c1024_i32_27
  let c1_i32_33 : BitVec 32 := 1#32
  let v64 : BitVec 32 := Scalar.subi v49 c1_i32_33
  let v65 : BitVec 32 := Scalar.select v63 v64 v49
  let v66 : BitVec 32 := Scalar.subi v47 v65
  let v67 : BitVec 32 := Scalar.subi v66 c0_i32_35
  let c1_i32_36 : BitVec 32 := 1#32
  let v69 : BitVec 32 := Scalar.divsi v67 c1_i32_36
  let v70 : BitVec 32 := Scalar.muli v69 c1_i32_36
  let v71 : BitVec 32 := Scalar.addi c0_i32_35 v70
  let v68 : BitVec 32 := Scalar.addi c0_i32_35 v67
  let c1_i32_38 : BitVec 32 := 1#32
  ⟨v71, v68, c1_i32_38⟩
def k0_mult2 (i : grid0.Coords) (k0_t2 : Fin (k0_t2_loop i).trips) : BitVec 32 :=
  let arg1 : BitVec 32 := BitVec.ofNat 32 (i 1).val
  let c128_i32 : BitVec 32 := 128#32
  let v0 : BitVec 32 := Scalar.muli arg1 c128_i32
  let c128_i32_19 : BitVec 32 := 128#32
  let v28 : BitVec 32 := Scalar.addi v0 c128_i32_19
  let c1_i32 : BitVec 32 := 1#32
  let v29 : BitVec 32 := Scalar.subi v28 c1_i32
  let c0_i32 : BitVec 32 := 0#32
  let v31 : BitVec 1 := Scalar.cmpi .sgt v29 c0_i32
  let v32 : BitVec 32 := Scalar.extui v31
  let c0_i32_20 : BitVec 32 := 0#32
  let v33 : BitVec 1 := Scalar.cmpi .slt v29 c0_i32_20
  let v34 : BitVec 32 := Scalar.extui v33
  let v35 : BitVec 32 := Scalar.subi v32 v34
  let c1024_i32 : BitVec 32 := 1024#32
  let c0_i32_21 : BitVec 32 := 0#32
  let v36 : BitVec 1 := Scalar.cmpi .sgt c1024_i32 c0_i32_21
  let v37 : BitVec 32 := Scalar.extui v36
  let c0_i32_22 : BitVec 32 := 0#32
  let v38 : BitVec 1 := Scalar.cmpi .slt c1024_i32 c0_i32_22
  let v39 : BitVec 32 := Scalar.extui v38
  let v40 : BitVec 32 := Scalar.subi v37 v39
  let v41 : BitVec 1 := Scalar.cmpi .ne v35 v40
  let v42 : BitVec 32 := Scalar.remsi v29 c1024_i32
  let c0_i32_23 : BitVec 32 := 0#32
  let v43 : BitVec 1 := Scalar.cmpi .ne v42 c0_i32_23
  let v44 : BitVec 1 := Scalar.andi v41 v43
  let v30 : BitVec 32 := Scalar.divsi v29 c1024_i32
  let c1_i32_24 : BitVec 32 := 1#32
  let v45 : BitVec 32 := Scalar.subi v30 c1_i32_24
  let v46 : BitVec 32 := Scalar.select v44 v45 v30
  let c1_i32_25 : BitVec 32 := 1#32
  let v47 : BitVec 32 := Scalar.addi v46 c1_i32_25
  let c1_i32_62 : BitVec 32 := 1#32
  let v103 : BitVec 32 := Scalar.subi v47 c1_i32_62
  let c0_i32_35 : BitVec 32 := 0#32
  let c1_i32_26 : BitVec 32 := 1#32
  let v48 : BitVec 32 := Scalar.addi v0 c1_i32_26
  let c0_i32_28 : BitVec 32 := 0#32
  let v50 : BitVec 1 := Scalar.cmpi .sgt v48 c0_i32_28
  let v51 : BitVec 32 := Scalar.extui v50
  let c0_i32_29 : BitVec 32 := 0#32
  let v52 : BitVec 1 := Scalar.cmpi .slt v48 c0_i32_29
  let v53 : BitVec 32 := Scalar.extui v52
  let v54 : BitVec 32 := Scalar.subi v51 v53
  let c1024_i32_27 : BitVec 32 := 1024#32
  let c0_i32_30 : BitVec 32 := 0#32
  let v55 : BitVec 1 := Scalar.cmpi .sgt c1024_i32_27 c0_i32_30
  let v56 : BitVec 32 := Scalar.extui v55
  let c0_i32_31 : BitVec 32 := 0#32
  let v57 : BitVec 1 := Scalar.cmpi .slt c1024_i32_27 c0_i32_31
  let v58 : BitVec 32 := Scalar.extui v57
  let v59 : BitVec 32 := Scalar.subi v56 v58
  let v60 : BitVec 1 := Scalar.cmpi .ne v54 v59
  let v61 : BitVec 32 := Scalar.remsi v48 c1024_i32_27
  let c0_i32_32 : BitVec 32 := 0#32
  let v62 : BitVec 1 := Scalar.cmpi .ne v61 c0_i32_32
  let v63 : BitVec 1 := Scalar.andi v60 v62
  let v49 : BitVec 32 := Scalar.divsi v48 c1024_i32_27
  let c1_i32_33 : BitVec 32 := 1#32
  let v64 : BitVec 32 := Scalar.subi v49 c1_i32_33
  let v65 : BitVec 32 := Scalar.select v63 v64 v49
  let v66 : BitVec 32 := Scalar.subi v47 v65
  let v67 : BitVec 32 := Scalar.subi v66 c0_i32_35
  let c1_i32_36 : BitVec 32 := 1#32
  let v69 : BitVec 32 := Scalar.divsi v67 c1_i32_36
  let v70 : BitVec 32 := Scalar.muli v69 c1_i32_36
  let v71 : BitVec 32 := Scalar.addi c0_i32_35 v70
  let c1_i32_38 : BitVec 32 := 1#32
  let arg8 : BitVec 32 := Scf.iv v71 c1_i32_38 k0_t2
  let v104 : BitVec 32 := Scalar.subi v103 arg8
  let c1024_i32_63 : BitVec 32 := 1024#32
  let v105 : BitVec 32 := Scalar.muli v104 c1024_i32_63
  v105
def k0_off2 (i : grid0.Coords) (k0_t2 : Fin (k0_t2_loop i).trips) : Fin 3 → Nat :=
  let c0_64 : Index := 0#32
  let arg1 : BitVec 32 := BitVec.ofNat 32 (i 1).val
  let c128_i32 : BitVec 32 := 128#32
  let v0 : BitVec 32 := Scalar.muli arg1 c128_i32
  let c128_i32_19 : BitVec 32 := 128#32
  let v28 : BitVec 32 := Scalar.addi v0 c128_i32_19
  let c1_i32 : BitVec 32 := 1#32
  let v29 : BitVec 32 := Scalar.subi v28 c1_i32
  let c0_i32 : BitVec 32 := 0#32
  let v31 : BitVec 1 := Scalar.cmpi .sgt v29 c0_i32
  let v32 : BitVec 32 := Scalar.extui v31
  let c0_i32_20 : BitVec 32 := 0#32
  let v33 : BitVec 1 := Scalar.cmpi .slt v29 c0_i32_20
  let v34 : BitVec 32 := Scalar.extui v33
  let v35 : BitVec 32 := Scalar.subi v32 v34
  let c1024_i32 : BitVec 32 := 1024#32
  let c0_i32_21 : BitVec 32 := 0#32
  let v36 : BitVec 1 := Scalar.cmpi .sgt c1024_i32 c0_i32_21
  let v37 : BitVec 32 := Scalar.extui v36
  let c0_i32_22 : BitVec 32 := 0#32
  let v38 : BitVec 1 := Scalar.cmpi .slt c1024_i32 c0_i32_22
  let v39 : BitVec 32 := Scalar.extui v38
  let v40 : BitVec 32 := Scalar.subi v37 v39
  let v41 : BitVec 1 := Scalar.cmpi .ne v35 v40
  let v42 : BitVec 32 := Scalar.remsi v29 c1024_i32
  let c0_i32_23 : BitVec 32 := 0#32
  let v43 : BitVec 1 := Scalar.cmpi .ne v42 c0_i32_23
  let v44 : BitVec 1 := Scalar.andi v41 v43
  let v30 : BitVec 32 := Scalar.divsi v29 c1024_i32
  let c1_i32_24 : BitVec 32 := 1#32
  let v45 : BitVec 32 := Scalar.subi v30 c1_i32_24
  let v46 : BitVec 32 := Scalar.select v44 v45 v30
  let c1_i32_25 : BitVec 32 := 1#32
  let v47 : BitVec 32 := Scalar.addi v46 c1_i32_25
  let c1_i32_62 : BitVec 32 := 1#32
  let v103 : BitVec 32 := Scalar.subi v47 c1_i32_62
  let c0_i32_35 : BitVec 32 := 0#32
  let c1_i32_26 : BitVec 32 := 1#32
  let v48 : BitVec 32 := Scalar.addi v0 c1_i32_26
  let c0_i32_28 : BitVec 32 := 0#32
  let v50 : BitVec 1 := Scalar.cmpi .sgt v48 c0_i32_28
  let v51 : BitVec 32 := Scalar.extui v50
  let c0_i32_29 : BitVec 32 := 0#32
  let v52 : BitVec 1 := Scalar.cmpi .slt v48 c0_i32_29
  let v53 : BitVec 32 := Scalar.extui v52
  let v54 : BitVec 32 := Scalar.subi v51 v53
  let c1024_i32_27 : BitVec 32 := 1024#32
  let c0_i32_30 : BitVec 32 := 0#32
  let v55 : BitVec 1 := Scalar.cmpi .sgt c1024_i32_27 c0_i32_30
  let v56 : BitVec 32 := Scalar.extui v55
  let c0_i32_31 : BitVec 32 := 0#32
  let v57 : BitVec 1 := Scalar.cmpi .slt c1024_i32_27 c0_i32_31
  let v58 : BitVec 32 := Scalar.extui v57
  let v59 : BitVec 32 := Scalar.subi v56 v58
  let v60 : BitVec 1 := Scalar.cmpi .ne v54 v59
  let v61 : BitVec 32 := Scalar.remsi v48 c1024_i32_27
  let c0_i32_32 : BitVec 32 := 0#32
  let v62 : BitVec 1 := Scalar.cmpi .ne v61 c0_i32_32
  let v63 : BitVec 1 := Scalar.andi v60 v62
  let v49 : BitVec 32 := Scalar.divsi v48 c1024_i32_27
  let c1_i32_33 : BitVec 32 := 1#32
  let v64 : BitVec 32 := Scalar.subi v49 c1_i32_33
  let v65 : BitVec 32 := Scalar.select v63 v64 v49
  let v66 : BitVec 32 := Scalar.subi v47 v65
  let v67 : BitVec 32 := Scalar.subi v66 c0_i32_35
  let c1_i32_36 : BitVec 32 := 1#32
  let v69 : BitVec 32 := Scalar.divsi v67 c1_i32_36
  let v70 : BitVec 32 := Scalar.muli v69 c1_i32_36
  let v71 : BitVec 32 := Scalar.addi c0_i32_35 v70
  let c1_i32_38 : BitVec 32 := 1#32
  let arg8 : BitVec 32 := Scf.iv v71 c1_i32_38 k0_t2
  let v104 : BitVec 32 := Scalar.subi v103 arg8
  let c1024_i32_63 : BitVec 32 := 1024#32
  let v105 : BitVec 32 := Scalar.muli v104 c1024_i32_63
  let v106 : BitVec 32 := v105
  let v107 : Index := Scalar.indexCast v106
  let c0_65 : Index := 0#32
  ![0, v107.toNat, 0]
@[reducible] def k0_t3_loop (i : grid0.Coords) : Scf.Loop 32 :=
  let c0_i32_41 : BitVec 32 := 0#32
  let arg1 : BitVec 32 := BitVec.ofNat 32 (i 1).val
  let c128_i32 : BitVec 32 := 128#32
  let v0 : BitVec 32 := Scalar.muli arg1 c128_i32
  let c1_i32_26 : BitVec 32 := 1#32
  let v48 : BitVec 32 := Scalar.addi v0 c1_i32_26
  let c0_i32_28 : BitVec 32 := 0#32
  let v50 : BitVec 1 := Scalar.cmpi .sgt v48 c0_i32_28
  let v51 : BitVec 32 := Scalar.extui v50
  let c0_i32_29 : BitVec 32 := 0#32
  let v52 : BitVec 1 := Scalar.cmpi .slt v48 c0_i32_29
  let v53 : BitVec 32 := Scalar.extui v52
  let v54 : BitVec 32 := Scalar.subi v51 v53
  let c1024_i32_27 : BitVec 32 := 1024#32
  let c0_i32_30 : BitVec 32 := 0#32
  let v55 : BitVec 1 := Scalar.cmpi .sgt c1024_i32_27 c0_i32_30
  let v56 : BitVec 32 := Scalar.extui v55
  let c0_i32_31 : BitVec 32 := 0#32
  let v57 : BitVec 1 := Scalar.cmpi .slt c1024_i32_27 c0_i32_31
  let v58 : BitVec 32 := Scalar.extui v57
  let v59 : BitVec 32 := Scalar.subi v56 v58
  let v60 : BitVec 1 := Scalar.cmpi .ne v54 v59
  let v61 : BitVec 32 := Scalar.remsi v48 c1024_i32_27
  let c0_i32_32 : BitVec 32 := 0#32
  let v62 : BitVec 1 := Scalar.cmpi .ne v61 c0_i32_32
  let v63 : BitVec 1 := Scalar.andi v60 v62
  let v49 : BitVec 32 := Scalar.divsi v48 c1024_i32_27
  let c1_i32_33 : BitVec 32 := 1#32
  let v64 : BitVec 32 := Scalar.subi v49 c1_i32_33
  let v65 : BitVec 32 := Scalar.select v63 v64 v49
  let c0_i32_39 : BitVec 32 := 0#32
  let v72 : BitVec 32 := Scalar.subi v65 c0_i32_39
  let v73 : BitVec 32 := Scalar.subi v72 c0_i32_41
  let c1_i32_42 : BitVec 32 := 1#32
  let v75 : BitVec 32 := Scalar.divsi v73 c1_i32_42
  let v76 : BitVec 32 := Scalar.muli v75 c1_i32_42
  let v77 : BitVec 32 := Scalar.addi c0_i32_41 v76
  let c1_i32_43 : BitVec 32 := 1#32
  ⟨c0_i32_41, v77, c1_i32_43⟩
def k0_mult3 (i : grid0.Coords) (k0_t3 : Fin (k0_t3_loop i).trips) : BitVec 32 :=
  let arg1 : BitVec 32 := BitVec.ofNat 32 (i 1).val
  let c128_i32 : BitVec 32 := 128#32
  let v0 : BitVec 32 := Scalar.muli arg1 c128_i32
  let c1_i32_26 : BitVec 32 := 1#32
  let v48 : BitVec 32 := Scalar.addi v0 c1_i32_26
  let c0_i32_28 : BitVec 32 := 0#32
  let v50 : BitVec 1 := Scalar.cmpi .sgt v48 c0_i32_28
  let v51 : BitVec 32 := Scalar.extui v50
  let c0_i32_29 : BitVec 32 := 0#32
  let v52 : BitVec 1 := Scalar.cmpi .slt v48 c0_i32_29
  let v53 : BitVec 32 := Scalar.extui v52
  let v54 : BitVec 32 := Scalar.subi v51 v53
  let c1024_i32_27 : BitVec 32 := 1024#32
  let c0_i32_30 : BitVec 32 := 0#32
  let v55 : BitVec 1 := Scalar.cmpi .sgt c1024_i32_27 c0_i32_30
  let v56 : BitVec 32 := Scalar.extui v55
  let c0_i32_31 : BitVec 32 := 0#32
  let v57 : BitVec 1 := Scalar.cmpi .slt c1024_i32_27 c0_i32_31
  let v58 : BitVec 32 := Scalar.extui v57
  let v59 : BitVec 32 := Scalar.subi v56 v58
  let v60 : BitVec 1 := Scalar.cmpi .ne v54 v59
  let v61 : BitVec 32 := Scalar.remsi v48 c1024_i32_27
  let c0_i32_32 : BitVec 32 := 0#32
  let v62 : BitVec 1 := Scalar.cmpi .ne v61 c0_i32_32
  let v63 : BitVec 1 := Scalar.andi v60 v62
  let v49 : BitVec 32 := Scalar.divsi v48 c1024_i32_27
  let c1_i32_33 : BitVec 32 := 1#32
  let v64 : BitVec 32 := Scalar.subi v49 c1_i32_33
  let v65 : BitVec 32 := Scalar.select v63 v64 v49
  let c1_i32_62 : BitVec 32 := 1#32
  let v103 : BitVec 32 := Scalar.subi v65 c1_i32_62
  let c0_i32_41 : BitVec 32 := 0#32
  let c1_i32_43 : BitVec 32 := 1#32
  let arg8 : BitVec 32 := Scf.iv c0_i32_41 c1_i32_43 k0_t3
  let v104 : BitVec 32 := Scalar.subi v103 arg8
  let c1024_i32_63 : BitVec 32 := 1024#32
  let v105 : BitVec 32 := Scalar.muli v104 c1024_i32_63
  v105
def k0_off3 (i : grid0.Coords) (k0_t3 : Fin (k0_t3_loop i).trips) : Fin 3 → Nat :=
  let c0_64 : Index := 0#32
  let arg1 : BitVec 32 := BitVec.ofNat 32 (i 1).val
  let c128_i32 : BitVec 32 := 128#32
  let v0 : BitVec 32 := Scalar.muli arg1 c128_i32
  let c1_i32_26 : BitVec 32 := 1#32
  let v48 : BitVec 32 := Scalar.addi v0 c1_i32_26
  let c0_i32_28 : BitVec 32 := 0#32
  let v50 : BitVec 1 := Scalar.cmpi .sgt v48 c0_i32_28
  let v51 : BitVec 32 := Scalar.extui v50
  let c0_i32_29 : BitVec 32 := 0#32
  let v52 : BitVec 1 := Scalar.cmpi .slt v48 c0_i32_29
  let v53 : BitVec 32 := Scalar.extui v52
  let v54 : BitVec 32 := Scalar.subi v51 v53
  let c1024_i32_27 : BitVec 32 := 1024#32
  let c0_i32_30 : BitVec 32 := 0#32
  let v55 : BitVec 1 := Scalar.cmpi .sgt c1024_i32_27 c0_i32_30
  let v56 : BitVec 32 := Scalar.extui v55
  let c0_i32_31 : BitVec 32 := 0#32
  let v57 : BitVec 1 := Scalar.cmpi .slt c1024_i32_27 c0_i32_31
  let v58 : BitVec 32 := Scalar.extui v57
  let v59 : BitVec 32 := Scalar.subi v56 v58
  let v60 : BitVec 1 := Scalar.cmpi .ne v54 v59
  let v61 : BitVec 32 := Scalar.remsi v48 c1024_i32_27
  let c0_i32_32 : BitVec 32 := 0#32
  let v62 : BitVec 1 := Scalar.cmpi .ne v61 c0_i32_32
  let v63 : BitVec 1 := Scalar.andi v60 v62
  let v49 : BitVec 32 := Scalar.divsi v48 c1024_i32_27
  let c1_i32_33 : BitVec 32 := 1#32
  let v64 : BitVec 32 := Scalar.subi v49 c1_i32_33
  let v65 : BitVec 32 := Scalar.select v63 v64 v49
  let c1_i32_62 : BitVec 32 := 1#32
  let v103 : BitVec 32 := Scalar.subi v65 c1_i32_62
  let c0_i32_41 : BitVec 32 := 0#32
  let c1_i32_43 : BitVec 32 := 1#32
  let arg8 : BitVec 32 := Scf.iv c0_i32_41 c1_i32_43 k0_t3
  let v104 : BitVec 32 := Scalar.subi v103 arg8
  let c1024_i32_63 : BitVec 32 := 1024#32
  let v105 : BitVec 32 := Scalar.muli v104 c1024_i32_63
  let v106 : BitVec 32 := v105
  let v107 : Index := Scalar.indexCast v106
  let c0_65 : Index := 0#32
  ![0, v107.toNat, 0]
@[reducible] def k0_t4_loop (i : grid0.Coords) : Scf.Loop 32 :=
  let c0_i32_41 : BitVec 32 := 0#32
  let arg1 : BitVec 32 := BitVec.ofNat 32 (i 1).val
  let c128_i32 : BitVec 32 := 128#32
  let v0 : BitVec 32 := Scalar.muli arg1 c128_i32
  let c1_i32_26 : BitVec 32 := 1#32
  let v48 : BitVec 32 := Scalar.addi v0 c1_i32_26
  let c0_i32_28 : BitVec 32 := 0#32
  let v50 : BitVec 1 := Scalar.cmpi .sgt v48 c0_i32_28
  let v51 : BitVec 32 := Scalar.extui v50
  let c0_i32_29 : BitVec 32 := 0#32
  let v52 : BitVec 1 := Scalar.cmpi .slt v48 c0_i32_29
  let v53 : BitVec 32 := Scalar.extui v52
  let v54 : BitVec 32 := Scalar.subi v51 v53
  let c1024_i32_27 : BitVec 32 := 1024#32
  let c0_i32_30 : BitVec 32 := 0#32
  let v55 : BitVec 1 := Scalar.cmpi .sgt c1024_i32_27 c0_i32_30
  let v56 : BitVec 32 := Scalar.extui v55
  let c0_i32_31 : BitVec 32 := 0#32
  let v57 : BitVec 1 := Scalar.cmpi .slt c1024_i32_27 c0_i32_31
  let v58 : BitVec 32 := Scalar.extui v57
  let v59 : BitVec 32 := Scalar.subi v56 v58
  let v60 : BitVec 1 := Scalar.cmpi .ne v54 v59
  let v61 : BitVec 32 := Scalar.remsi v48 c1024_i32_27
  let c0_i32_32 : BitVec 32 := 0#32
  let v62 : BitVec 1 := Scalar.cmpi .ne v61 c0_i32_32
  let v63 : BitVec 1 := Scalar.andi v60 v62
  let v49 : BitVec 32 := Scalar.divsi v48 c1024_i32_27
  let c1_i32_33 : BitVec 32 := 1#32
  let v64 : BitVec 32 := Scalar.subi v49 c1_i32_33
  let v65 : BitVec 32 := Scalar.select v63 v64 v49
  let c0_i32_39 : BitVec 32 := 0#32
  let v72 : BitVec 32 := Scalar.subi v65 c0_i32_39
  let v73 : BitVec 32 := Scalar.subi v72 c0_i32_41
  let c1_i32_42 : BitVec 32 := 1#32
  let v75 : BitVec 32 := Scalar.divsi v73 c1_i32_42
  let v76 : BitVec 32 := Scalar.muli v75 c1_i32_42
  let v77 : BitVec 32 := Scalar.addi c0_i32_41 v76
  let v74 : BitVec 32 := Scalar.addi c0_i32_41 v73
  let c1_i32_44 : BitVec 32 := 1#32
  ⟨v77, v74, c1_i32_44⟩
def k0_mult4 (i : grid0.Coords) (k0_t4 : Fin (k0_t4_loop i).trips) : BitVec 32 :=
  let arg1 : BitVec 32 := BitVec.ofNat 32 (i 1).val
  let c128_i32 : BitVec 32 := 128#32
  let v0 : BitVec 32 := Scalar.muli arg1 c128_i32
  let c1_i32_26 : BitVec 32 := 1#32
  let v48 : BitVec 32 := Scalar.addi v0 c1_i32_26
  let c0_i32_28 : BitVec 32 := 0#32
  let v50 : BitVec 1 := Scalar.cmpi .sgt v48 c0_i32_28
  let v51 : BitVec 32 := Scalar.extui v50
  let c0_i32_29 : BitVec 32 := 0#32
  let v52 : BitVec 1 := Scalar.cmpi .slt v48 c0_i32_29
  let v53 : BitVec 32 := Scalar.extui v52
  let v54 : BitVec 32 := Scalar.subi v51 v53
  let c1024_i32_27 : BitVec 32 := 1024#32
  let c0_i32_30 : BitVec 32 := 0#32
  let v55 : BitVec 1 := Scalar.cmpi .sgt c1024_i32_27 c0_i32_30
  let v56 : BitVec 32 := Scalar.extui v55
  let c0_i32_31 : BitVec 32 := 0#32
  let v57 : BitVec 1 := Scalar.cmpi .slt c1024_i32_27 c0_i32_31
  let v58 : BitVec 32 := Scalar.extui v57
  let v59 : BitVec 32 := Scalar.subi v56 v58
  let v60 : BitVec 1 := Scalar.cmpi .ne v54 v59
  let v61 : BitVec 32 := Scalar.remsi v48 c1024_i32_27
  let c0_i32_32 : BitVec 32 := 0#32
  let v62 : BitVec 1 := Scalar.cmpi .ne v61 c0_i32_32
  let v63 : BitVec 1 := Scalar.andi v60 v62
  let v49 : BitVec 32 := Scalar.divsi v48 c1024_i32_27
  let c1_i32_33 : BitVec 32 := 1#32
  let v64 : BitVec 32 := Scalar.subi v49 c1_i32_33
  let v65 : BitVec 32 := Scalar.select v63 v64 v49
  let c1_i32_62 : BitVec 32 := 1#32
  let v103 : BitVec 32 := Scalar.subi v65 c1_i32_62
  let c0_i32_41 : BitVec 32 := 0#32
  let c0_i32_39 : BitVec 32 := 0#32
  let v72 : BitVec 32 := Scalar.subi v65 c0_i32_39
  let v73 : BitVec 32 := Scalar.subi v72 c0_i32_41
  let c1_i32_42 : BitVec 32 := 1#32
  let v75 : BitVec 32 := Scalar.divsi v73 c1_i32_42
  let v76 : BitVec 32 := Scalar.muli v75 c1_i32_42
  let v77 : BitVec 32 := Scalar.addi c0_i32_41 v76
  let c1_i32_44 : BitVec 32 := 1#32
  let arg8 : BitVec 32 := Scf.iv v77 c1_i32_44 k0_t4
  let v104 : BitVec 32 := Scalar.subi v103 arg8
  let c1024_i32_63 : BitVec 32 := 1024#32
  let v105 : BitVec 32 := Scalar.muli v104 c1024_i32_63
  v105
def k0_off4 (i : grid0.Coords) (k0_t4 : Fin (k0_t4_loop i).trips) : Fin 3 → Nat :=
  let c0_64 : Index := 0#32
  let arg1 : BitVec 32 := BitVec.ofNat 32 (i 1).val
  let c128_i32 : BitVec 32 := 128#32
  let v0 : BitVec 32 := Scalar.muli arg1 c128_i32
  let c1_i32_26 : BitVec 32 := 1#32
  let v48 : BitVec 32 := Scalar.addi v0 c1_i32_26
  let c0_i32_28 : BitVec 32 := 0#32
  let v50 : BitVec 1 := Scalar.cmpi .sgt v48 c0_i32_28
  let v51 : BitVec 32 := Scalar.extui v50
  let c0_i32_29 : BitVec 32 := 0#32
  let v52 : BitVec 1 := Scalar.cmpi .slt v48 c0_i32_29
  let v53 : BitVec 32 := Scalar.extui v52
  let v54 : BitVec 32 := Scalar.subi v51 v53
  let c1024_i32_27 : BitVec 32 := 1024#32
  let c0_i32_30 : BitVec 32 := 0#32
  let v55 : BitVec 1 := Scalar.cmpi .sgt c1024_i32_27 c0_i32_30
  let v56 : BitVec 32 := Scalar.extui v55
  let c0_i32_31 : BitVec 32 := 0#32
  let v57 : BitVec 1 := Scalar.cmpi .slt c1024_i32_27 c0_i32_31
  let v58 : BitVec 32 := Scalar.extui v57
  let v59 : BitVec 32 := Scalar.subi v56 v58
  let v60 : BitVec 1 := Scalar.cmpi .ne v54 v59
  let v61 : BitVec 32 := Scalar.remsi v48 c1024_i32_27
  let c0_i32_32 : BitVec 32 := 0#32
  let v62 : BitVec 1 := Scalar.cmpi .ne v61 c0_i32_32
  let v63 : BitVec 1 := Scalar.andi v60 v62
  let v49 : BitVec 32 := Scalar.divsi v48 c1024_i32_27
  let c1_i32_33 : BitVec 32 := 1#32
  let v64 : BitVec 32 := Scalar.subi v49 c1_i32_33
  let v65 : BitVec 32 := Scalar.select v63 v64 v49
  let c1_i32_62 : BitVec 32 := 1#32
  let v103 : BitVec 32 := Scalar.subi v65 c1_i32_62
  let c0_i32_41 : BitVec 32 := 0#32
  let c0_i32_39 : BitVec 32 := 0#32
  let v72 : BitVec 32 := Scalar.subi v65 c0_i32_39
  let v73 : BitVec 32 := Scalar.subi v72 c0_i32_41
  let c1_i32_42 : BitVec 32 := 1#32
  let v75 : BitVec 32 := Scalar.divsi v73 c1_i32_42
  let v76 : BitVec 32 := Scalar.muli v75 c1_i32_42
  let v77 : BitVec 32 := Scalar.addi c0_i32_41 v76
  let c1_i32_44 : BitVec 32 := 1#32
  let arg8 : BitVec 32 := Scf.iv v77 c1_i32_44 k0_t4
  let v104 : BitVec 32 := Scalar.subi v103 arg8
  let c1024_i32_63 : BitVec 32 := 1024#32
  let v105 : BitVec 32 := Scalar.muli v104 c1024_i32_63
  let v106 : BitVec 32 := v105
  let v107 : Index := Scalar.indexCast v106
  let c0_65 : Index := 0#32
  ![0, v107.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S2x4096x4x192 : Shape := ⟨4, ![2, 4096, 4, 192]⟩
abbrev S2x4096x192 : Shape := ⟨3, ![2, 4096, 192]⟩
abbrev S4096 : Shape := ⟨1, ![4096]⟩
abbrev S2x4096x128 : Shape := ⟨3, ![2, 4096, 128]⟩
abbrev S2x4096x4096x4 : Shape := ⟨4, ![2, 4096, 4096, 4]⟩
abbrev S2x4x4096x4096 : Shape := ⟨4, ![2, 4, 4096, 4096]⟩
abbrev S_ : Shape := ⟨0, ![]⟩
abbrev S1x4096 : Shape := ⟨2, ![1, 4096]⟩
abbrev S4096x1 : Shape := ⟨2, ![4096, 1]⟩
abbrev S4096x4096 : Shape := ⟨2, ![4096, 4096]⟩
abbrev S1x1x4096x4096 : Shape := ⟨4, ![1, 1, 4096, 4096]⟩
abbrev S2x4x4096 : Shape := ⟨3, ![2, 4, 4096]⟩
abbrev S2x4x4096x1 : Shape := ⟨4, ![2, 4, 4096, 1]⟩
abbrev S2x128x4x4096 : Shape := ⟨4, ![2, 128, 4, 4096]⟩
abbrev S2x4096x4x128 : Shape := ⟨4, ![2, 4096, 4, 128]⟩
abbrev S2x4096x512 : Shape := ⟨3, ![2, 4096, 512]⟩

abbrev nBuf : Space → Nat
  | .hbm => 54
  | .vmem => 0
  | .smem => 0
  | _ => 0

abbrev bufTy : (tb : Table) → Fin (tcTables nBuf tb) → BufTy
  | .hbm, ⟨0, _⟩ => ⟨S2x4096x4x192, .f32⟩
  | .hbm, ⟨1, _⟩ => ⟨S2x4096x192, .f32⟩
  | .hbm, ⟨2, _⟩ => ⟨S4096, .i32⟩
  | .hbm, ⟨3, _⟩ => ⟨S2x4096x128, .f32⟩
  | .hbm, ⟨4, _⟩ => ⟨S2x4096x4096x4, .f32⟩
  | .hbm, ⟨5, _⟩ => ⟨S2x4x4096x4096, .f32⟩
  | .hbm, ⟨6, _⟩ => ⟨S_, .f32⟩
  | .hbm, ⟨7, _⟩ => ⟨S2x4x4096x4096, .f32⟩
  | .hbm, ⟨8, _⟩ => ⟨S2x4x4096x4096, .f32⟩
  | .hbm, ⟨9, _⟩ => ⟨S1x4096, .i32⟩
  | .hbm, ⟨10, _⟩ => ⟨S4096x1, .i32⟩
  | .hbm, ⟨11, _⟩ => ⟨S4096x4096, .i32⟩
  | .hbm, ⟨12, _⟩ => ⟨S4096x4096, .i32⟩
  | .hbm, ⟨13, _⟩ => ⟨S4096x4096, .i1⟩
  | .hbm, ⟨14, _⟩ => ⟨S1x1x4096x4096, .i1⟩
  | .hbm, ⟨15, _⟩ => ⟨S_, .f32⟩
  | .hbm, ⟨16, _⟩ => ⟨S_, .f32⟩
  | .hbm, ⟨17, _⟩ => ⟨S2x4x4096x4096, .i1⟩
  | .hbm, ⟨18, _⟩ => ⟨S2x4x4096x4096, .f32⟩
  | .hbm, ⟨19, _⟩ => ⟨S2x4x4096x4096, .f32⟩
  | .hbm, ⟨20, _⟩ => ⟨S_, .f32⟩
  | .hbm, ⟨21, _⟩ => ⟨S2x4x4096, .f32⟩
  | .hbm, ⟨22, _⟩ => ⟨S2x4x4096x1, .f32⟩
  | .hbm, ⟨23, _⟩ => ⟨S2x4x4096x1, .f32⟩
  | .hbm, ⟨24, _⟩ => ⟨S_, .f32⟩
  | .hbm, ⟨25, _⟩ => ⟨S2x4x4096x1, .f32⟩
  | .hbm, ⟨26, _⟩ => ⟨S2x4x4096x1, .i1⟩
  | .hbm, ⟨27, _⟩ => ⟨S_, .f32⟩
  | .hbm, ⟨28, _⟩ => ⟨S_, .f32⟩
  | .hbm, ⟨29, _⟩ => ⟨S2x4x4096x1, .f32⟩
  | .hbm, ⟨30, _⟩ => ⟨S2x4x4096x1, .f32⟩
  | .hbm, ⟨31, _⟩ => ⟨S2x4x4096x4096, .f32⟩
  | .hbm, ⟨32, _⟩ => ⟨S2x4x4096x4096, .f32⟩
  | .hbm, ⟨33, _⟩ => ⟨S2x4x4096x4096, .f32⟩
  | .hbm, ⟨34, _⟩ => ⟨S_, .f32⟩
  | .hbm, ⟨35, _⟩ => ⟨S_, .f32⟩
  | .hbm, ⟨36, _⟩ => ⟨S2x4x4096x4096, .i1⟩
  | .hbm, ⟨37, _⟩ => ⟨S2x4x4096x4096, .f32⟩
  | .hbm, ⟨38, _⟩ => ⟨S2x4x4096x4096, .f32⟩
  | .hbm, ⟨39, _⟩ => ⟨S_, .f32⟩
  | .hbm, ⟨40, _⟩ => ⟨S2x4x4096, .f32⟩
  | .hbm, ⟨41, _⟩ => ⟨S2x4x4096x1, .f32⟩
  | .hbm, ⟨42, _⟩ => ⟨S_, .f32⟩
  | .hbm, ⟨43, _⟩ => ⟨S2x4x4096x1, .f32⟩
  | .hbm, ⟨44, _⟩ => ⟨S2x4x4096x1, .i1⟩
  | .hbm, ⟨45, _⟩ => ⟨S_, .f32⟩
  | .hbm, ⟨46, _⟩ => ⟨S_, .f32⟩
  | .hbm, ⟨47, _⟩ => ⟨S2x4x4096x1, .f32⟩
  | .hbm, ⟨48, _⟩ => ⟨S2x4x4096x1, .f32⟩
  | .hbm, ⟨49, _⟩ => ⟨S2x4x4096x4096, .f32⟩
  | .hbm, ⟨50, _⟩ => ⟨S2x4x4096x4096, .f32⟩
  | .hbm, ⟨51, _⟩ => ⟨S2x128x4x4096, .f32⟩
  | .hbm, ⟨52, _⟩ => ⟨S2x4096x4x128, .f32⟩
  | .hbm, ⟨53, _⟩ => ⟨S2x4096x512, .f32⟩
  | _, _ => ⟨S2x4096x4x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_call1_v0 : Ref sig .tc := ⟨.hbm, 28, rfl⟩
abbrev main_call1_v1 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_call2_v0 : Ref sig .tc := ⟨.hbm, 35, rfl⟩
abbrev main_call2_v1 : Ref sig .tc := ⟨.hbm, 36, rfl⟩
abbrev main_call2_v2 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_v24 : Ref sig .tc := ⟨.hbm, 41, rfl⟩
abbrev main_cst_6 : Ref sig .tc := ⟨.hbm, 42, rfl⟩
abbrev main_v25 : Ref sig .tc := ⟨.hbm, 43, rfl⟩
abbrev main_v26 : Ref sig .tc := ⟨.hbm, 44, rfl⟩
abbrev main_cst_7 : Ref sig .tc := ⟨.hbm, 45, rfl⟩
abbrev main_call3_v0 : Ref sig .tc := ⟨.hbm, 46, rfl⟩
abbrev main_call3_v1 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩

abbrev nD : Nat := 1
abbrev τ : Topo := Topo.v7x

variable {F : FTy → Type} [FloatOps F]
-- ==== Ffn.lean ====
abbrev S2x4096x2048 : Shape := ⟨3, ![2, 4096, 2048]⟩
abbrev S128x4x2048 : Shape := ⟨3, ![128, 4, 2048]⟩
abbrev S2048 : Shape := ⟨1, ![2048]⟩
abbrev S2048x11008 : Shape := ⟨2, ![2048, 11008]⟩
abbrev S5504x2048 : Shape := ⟨2, ![5504, 2048]⟩
abbrev S8192x2048 : Shape := ⟨2, ![8192, 2048]⟩
abbrev S512x2048 : Shape := ⟨2, ![512, 2048]⟩
abbrev S8704x2048 : Shape := ⟨2, ![8704, 2048]⟩
abbrev S2048x5504 : Shape := ⟨2, ![2048, 5504]⟩
abbrev S_ : Shape := ⟨0, ![]⟩
abbrev S2048x5632 : Shape := ⟨2, ![2048, 5632]⟩
abbrev S5632x2048 : Shape := ⟨2, ![5632, 2048]⟩
abbrev S1x2048 : Shape := ⟨2, ![1, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩

abbrev nBuf : Space → Nat
  | .hbm => 24
  | .vmem => 13
  | .smem => 0
  | _ => 0

abbrev bufTy : (tb : Table) → Fin (tcTables nBuf tb) → BufTy
  | .hbm, ⟨0, _⟩ => ⟨S2x4096x2048, .f32⟩
  | .hbm, ⟨1, _⟩ => ⟨S128x4x2048, .f32⟩
  | .hbm, ⟨2, _⟩ => ⟨S2048, .f32⟩
  | .hbm, ⟨3, _⟩ => ⟨S2048x11008, .f32⟩
  | .hbm, ⟨4, _⟩ => ⟨S5504x2048, .f32⟩
  | .hbm, ⟨5, _⟩ => ⟨S8192x2048, .f32⟩
  | .hbm, ⟨6, _⟩ => ⟨S512x2048, .f32⟩
  | .hbm, ⟨7, _⟩ => ⟨S8704x2048, .f32⟩
  | .hbm, ⟨8, _⟩ => ⟨S2048x5504, .f32⟩
  | .hbm, ⟨9, _⟩ => ⟨S_, .i32⟩
  | .hbm, ⟨10, _⟩ => ⟨S_, .f32⟩
  | .hbm, ⟨11, _⟩ => ⟨S2048x5632, .f32⟩
  | .hbm, ⟨12, _⟩ => ⟨S2048x5632, .bf16⟩
  | .hbm, ⟨13, _⟩ => ⟨S2048x5504, .f32⟩
  | .hbm, ⟨14, _⟩ => ⟨S_, .i32⟩
  | .hbm, ⟨15, _⟩ => ⟨S_, .f32⟩
  | .hbm, ⟨16, _⟩ => ⟨S2048x5632, .f32⟩
  | .hbm, ⟨17, _⟩ => ⟨S2048x5632, .bf16⟩
  | .hbm, ⟨18, _⟩ => ⟨S_, .i32⟩
  | .hbm, ⟨19, _⟩ => ⟨S_, .f32⟩
  | .hbm, ⟨20, _⟩ => ⟨S5632x2048, .f32⟩
  | .hbm, ⟨21, _⟩ => ⟨S5632x2048, .bf16⟩
  | .hbm, ⟨22, _⟩ => ⟨S1x2048, .f32⟩
  | .hbm, ⟨23, _⟩ => ⟨S8704x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_call1_v0 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_call2_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![17, 11], ![false, false]⟩

def k0_cond2 (i : grid0.Coords) : BitVec 1 :=
  let arg1 : BitVec 32 := BitVec.ofNat 32 (i 1).val
  let c10_i32 : BitVec 32 := 10#32
  let v22 : BitVec 1 := Scalar.cmpi .eq arg1 c10_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnReferenceIdeal.lean ====
abbrev S2x4096x2048 : Shape := ⟨3, ![2, 4096, 2048]⟩
abbrev S128x4x2048 : Shape := ⟨3, ![128, 4, 2048]⟩
abbrev S2048 : Shape := ⟨1, ![2048]⟩
abbrev S2048x11008 : Shape := ⟨2, ![2048, 11008]⟩
abbrev S5504x2048 : Shape := ⟨2, ![5504, 2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2x4096x11008 : Shape := ⟨3, ![2, 4096, 11008]⟩
abbrev S2x4096x5504 : Shape := ⟨3, ![2, 4096, 5504]⟩
abbrev S128x4 : Shape := ⟨2, ![128, 4]⟩
abbrev S128x4x1 : Shape := ⟨3, ![128, 4, 1]⟩
abbrev S128x4x11008 : Shape := ⟨3, ![128, 4, 11008]⟩
abbrev S128x4x5504 : Shape := ⟨3, ![128, 4, 5504]⟩
abbrev S8192x2048 : Shape := ⟨2, ![8192, 2048]⟩
abbrev S512x2048 : Shape := ⟨2, ![512, 2048]⟩
abbrev S8704x2048 : Shape := ⟨2, ![8704, 2048]⟩

abbrev nBuf : Space → Nat
  | .hbm => 76
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S128x4x2048, .f32⟩
  | .hbm, ⟨2, _⟩ => ⟨S2048, .f32⟩
  | .hbm, ⟨3, _⟩ => ⟨S2048x11008, .f32⟩
  | .hbm, ⟨4, _⟩ => ⟨S5504x2048, .f32⟩
  | .hbm, ⟨5, _⟩ => ⟨S2x4096x2048, .f32⟩
  | .hbm, ⟨6, _⟩ => ⟨S_, .f32⟩
  | .hbm, ⟨7, _⟩ => ⟨S2x4096, .f32⟩
  | .hbm, ⟨8, _⟩ => ⟨S2x4096x1, .f32⟩
  | .hbm, ⟨9, _⟩ => ⟨S_, .f32⟩
  | .hbm, ⟨10, _⟩ => ⟨S2x4096x1, .f32⟩
  | .hbm, ⟨11, _⟩ => ⟨S2x4096x1, .f32⟩
  | .hbm, ⟨12, _⟩ => ⟨S_, .f32⟩
  | .hbm, ⟨13, _⟩ => ⟨S2x4096x1, .f32⟩
  | .hbm, ⟨14, _⟩ => ⟨S2x4096x1, .f32⟩
  | .hbm, ⟨15, _⟩ => ⟨S2x4096x1, .f32⟩
  | .hbm, ⟨16, _⟩ => ⟨S2x4096x2048, .f32⟩
  | .hbm, ⟨17, _⟩ => ⟨S2x4096x2048, .f32⟩
  | .hbm, ⟨18, _⟩ => ⟨S1x1x2048, .f32⟩
  | .hbm, ⟨19, _⟩ => ⟨S2x4096x2048, .f32⟩
  | .hbm, ⟨20, _⟩ => ⟨S2x4096x2048, .f32⟩
  | .hbm, ⟨21, _⟩ => ⟨S2x4096x11008, .f32⟩
  | .hbm, ⟨22, _⟩ => ⟨S2x4096x5504, .f32⟩
  | .hbm, ⟨23, _⟩ => ⟨S2x4096x5504, .f32⟩
  | .hbm, ⟨24, _⟩ => ⟨S2x4096x5504, .f32⟩
  | .hbm, ⟨25, _⟩ => ⟨S2x4096x5504, .f32⟩
  | .hbm, ⟨26, _⟩ => ⟨S_, .f32⟩
  | .hbm, ⟨27, _⟩ => ⟨S2x4096x5504, .f32⟩
  | .hbm, ⟨28, _⟩ => ⟨S2x4096x5504, .f32⟩
  | .hbm, ⟨29, _⟩ => ⟨S_, .f32⟩
  | .hbm, ⟨30, _⟩ => ⟨S2x4096x5504, .f32⟩
  | .hbm, ⟨31, _⟩ => ⟨S2x4096x5504, .f32⟩
  | .hbm, ⟨32, _⟩ => ⟨S2x4096x5504, .f32⟩
  | .hbm, ⟨33, _⟩ => ⟨S2x4096x5504, .f32⟩
  | .hbm, ⟨34, _⟩ => ⟨S2x4096x2048, .f32⟩
  | .hbm, ⟨35, _⟩ => ⟨S_, .f32⟩
  | .hbm, ⟨36, _⟩ => ⟨S2x4096x2048, .f32⟩
  | .hbm, ⟨37, _⟩ => ⟨S2x4096x2048, .f32⟩
  | .hbm, ⟨38, _⟩ => ⟨S2x4096x2048, .f32⟩
  | .hbm, ⟨39, _⟩ => ⟨S128x4x2048, .f32⟩
  | .hbm, ⟨40, _⟩ => ⟨S_, .f32⟩
  | .hbm, ⟨41, _⟩ => ⟨S128x4, .f32⟩
  | .hbm, ⟨42, _⟩ => ⟨S128x4x1, .f32⟩
  | .hbm, ⟨43, _⟩ => ⟨S_, .f32⟩
  | .hbm, ⟨44, _⟩ => ⟨S128x4x1, .f32⟩
  | .hbm, ⟨45, _⟩ => ⟨S128x4x1, .f32⟩
  | .hbm, ⟨46, _⟩ => ⟨S_, .f32⟩
  | .hbm, ⟨47, _⟩ => ⟨S128x4x1, .f32⟩
  | .hbm, ⟨48, _⟩ => ⟨S128x4x1, .f32⟩
  | .hbm, ⟨49, _⟩ => ⟨S128x4x1, .f32⟩
  | .hbm, ⟨50, _⟩ => ⟨S128x4x2048, .f32⟩
  | .hbm, ⟨51, _⟩ => ⟨S128x4x2048, .f32⟩
  | .hbm, ⟨52, _⟩ => ⟨S1x1x2048, .f32⟩
  | .hbm, ⟨53, _⟩ => ⟨S128x4x2048, .f32⟩
  | .hbm, ⟨54, _⟩ => ⟨S128x4x2048, .f32⟩
  | .hbm, ⟨55, _⟩ => ⟨S128x4x11008, .f32⟩
  | .hbm, ⟨56, _⟩ => ⟨S128x4x5504, .f32⟩
  | .hbm, ⟨57, _⟩ => ⟨S128x4x5504, .f32⟩
  | .hbm, ⟨58, _⟩ => ⟨S128x4x5504, .f32⟩
  | .hbm, ⟨59, _⟩ => ⟨S128x4x5504, .f32⟩
  | .hbm, ⟨60, _⟩ => ⟨S_, .f32⟩
  | .hbm, ⟨61, _⟩ => ⟨S128x4x5504, .f32⟩
  | .hbm, ⟨62, _⟩ => ⟨S128x4x5504, .f32⟩
  | .hbm, ⟨63, _⟩ => ⟨S_, .f32⟩
  | .hbm, ⟨64, _⟩ => ⟨S128x4x5504, .f32⟩
  | .hbm, ⟨65, _⟩ => ⟨S128x4x5504, .f32⟩
  | .hbm, ⟨66, _⟩ => ⟨S128x4x5504, .f32⟩
  | .hbm, ⟨67, _⟩ => ⟨S128x4x5504, .f32⟩
  | .hbm, ⟨68, _⟩ => ⟨S128x4x2048, .f32⟩
  | .hbm, ⟨69, _⟩ => ⟨S_, .f32⟩
  | .hbm, ⟨70, _⟩ => ⟨S128x4x2048, .f32⟩
  | .hbm, ⟨71, _⟩ => ⟨S128x4x2048, .f32⟩
  | .hbm, ⟨72, _⟩ => ⟨S128x4x2048, .f32⟩
  | .hbm, ⟨73, _⟩ => ⟨S8192x2048, .f32⟩
  | .hbm, ⟨74, _⟩ => ⟨S512x2048, .f32⟩
  | .hbm, ⟨75, _⟩ => ⟨S8704x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_cst_4 : Ref sig .tc := ⟨.hbm, 43, rfl⟩
abbrev main_v25 : Ref sig .tc := ⟨.hbm, 44, rfl⟩
abbrev main_v26 : Ref sig .tc := ⟨.hbm, 45, rfl⟩
abbrev main_cst_5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_call1_v0 : Ref sig .tc := ⟨.hbm, 58, rfl⟩
abbrev main_call1_v1 : Ref sig .tc := ⟨.hbm, 59, rfl⟩
abbrev main_call1_cst : Ref sig .tc := ⟨.hbm, 60, rfl⟩
abbrev main_call1_v2 : Ref sig .tc := ⟨.hbm, 61, rfl⟩
abbrev main_call1_v3 : Ref sig .tc := ⟨.hbm, 62, rfl⟩
abbrev main_call1_cst_0 : Ref sig .tc := ⟨.hbm, 63, rfl⟩
abbrev main_call1_v4 : Ref sig .tc := ⟨.hbm, 64, rfl⟩
abbrev main_call1_v5 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_6 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩

abbrev nD : Nat := 1
abbrev τ : Topo := Topo.v7x

variable {F : FTy → Type} [FloatOps F]
-- ==== Proj.lean ====
abbrev S2x4096x2048 : Shape := ⟨3, ![2, 4096, 2048]⟩
abbrev S128x4x2048 : Shape := ⟨3, ![128, 4, 2048]⟩
abbrev S2048 : Shape := ⟨1, ![2048]⟩
abbrev S2048x3408 : Shape := ⟨2, ![2048, 3408]⟩
abbrev S384 : Shape := ⟨1, ![384]⟩
abbrev S384x768 : Shape := ⟨2, ![384, 768]⟩
abbrev S192 : Shape := ⟨1, ![192]⟩
abbrev S128 : Shape := ⟨1, ![128]⟩
abbrev S64 : Shape := ⟨1, ![64]⟩
abbrev S4x128x128 : Shape := ⟨3, ![4, 128, 128]⟩
abbrev S3x128 : Shape := ⟨2, ![3, 128]⟩
abbrev S4 : Shape := ⟨1, ![4]⟩
abbrev S8192x2048 : Shape := ⟨2, ![8192, 2048]⟩
abbrev S512x2048 : Shape := ⟨2, ![512, 2048]⟩
abbrev S8704x2048 : Shape := ⟨2, ![8704, 2048]⟩
abbrev S4096 : Shape := ⟨1, ![4096]⟩
abbrev S1x4096 : Shape := ⟨2, ![1, 4096]⟩
abbrev S2x4096 : Shape := ⟨2, ![2, 4096]⟩
abbrev S8192 : Shape := ⟨1, ![8192]⟩
abbrev S_ : Shape := ⟨0, ![]⟩
abbrev S1x4 : Shape := ⟨2, ![1, 4]⟩
abbrev S128x4 : Shape := ⟨2, ![128, 4]⟩
abbrev S512 : Shape := ⟨1, ![512]⟩
abbrev S8704 : Shape := ⟨1, ![8704]⟩
abbrev S8704x1 : Shape := ⟨2, ![8704, 1]⟩
abbrev S1x64 : Shape := ⟨2, ![1, 64]⟩
abbrev S8704x64 : Shape := ⟨2, ![8704, 64]⟩
abbrev S8704x128 : Shape := ⟨2, ![8704, 128]⟩
abbrev S32 : Shape := ⟨1, ![32]⟩
abbrev S1x32 : Shape := ⟨2, ![1, 32]⟩
abbrev S8704x32 : Shape := ⟨2, ![8704, 32]⟩
abbrev S384x4x192 : Shape := ⟨3, ![384, 4, 192]⟩
abbrev S384x4x256 : Shape := ⟨3, ![384, 4, 256]⟩
abbrev S384x1024 : Shape := ⟨2, ![384, 1024]⟩
abbrev S1x128 : Shape := ⟨2, ![1, 128]⟩
abbrev S1x384 : Shape := ⟨2, ![1, 384]⟩
abbrev S11x384 : Shape := ⟨2, ![11, 384]⟩
abbrev S16x384 : Shape := ⟨2, ![16, 384]⟩
abbrev S1 : Shape := ⟨1, ![1]⟩
abbrev S2 : Shape := ⟨1, ![2]⟩
abbrev S1x2048 : Shape := ⟨2, ![1, 2048]⟩
abbrev S2048x384 : Shape := ⟨2, ![2048, 384]⟩
abbrev S2048x128 : Shape := ⟨2, ![2048, 128]⟩
abbrev S2048x64 : Shape := ⟨2, ![2048, 64]⟩
abbrev S2048x512 : Shape := ⟨2, ![2048, 512]⟩
abbrev S2048x256 : Shape := ⟨2, ![2048, 256]⟩
abbrev S2048x12 : Shape := ⟨2, ![2048, 12]⟩
abbrev S2048x4 : Shape := ⟨2, ![2048, 4]⟩
abbrev S2048x112 : Shape := ⟨2, ![2048, 112]⟩
abbrev S2048x3584 : Shape := ⟨2, ![2048, 3584]⟩
abbrev S8704x1024 : Shape := ⟨2, ![8704, 1024]⟩
abbrev S8704x256 : Shape := ⟨2, ![8704, 256]⟩
abbrev S8704x512 : Shape := ⟨2, ![8704, 512]⟩
abbrev S256x2048 : Shape := ⟨2, ![256, 2048]⟩
abbrev S256x128 : Shape := ⟨2, ![256, 128]⟩
abbrev S256x1024 : Shape := ⟨2, ![256, 1024]⟩
abbrev S256x256 : Shape := ⟨2, ![256, 256]⟩
abbrev S256x512 : Shape := ⟨2, ![256, 512]⟩
abbrev S256 : Shape := ⟨1, ![256]⟩
abbrev S256x1 : Shape := ⟨2, ![256, 1]⟩
abbrev S256x3584 : Shape := ⟨2, ![256, 3584]⟩
abbrev S256x384 : Shape := ⟨2, ![256, 384]⟩
abbrev S1x128x128 : Shape := ⟨3, ![1, 128, 128]⟩
abbrev S128x128 : Shape := ⟨2, ![128, 128]⟩
abbrev S8704x192 : Shape := ⟨2, ![8704, 192]⟩
abbrev S8704x4 : Shape := ⟨2, ![8704, 4]⟩
abbrev S8704x12 : Shape := ⟨2, ![8704, 12]⟩

abbrev nBuf : Space → Nat
  | .hbm => 176
  | .vmem => 42
  | .smem => 0
  | _ => 0

abbrev hbmTy0_0 (i : Nat) : BufTy := match i % 128 with
  | 0 => ⟨S2x4096x2048, .f32⟩
  | 1 => ⟨S128x4x2048, .f32⟩
  | 2 => ⟨S2048, .f32⟩
  | 3 => ⟨S2048x3408, .f32⟩
  | 4 => ⟨S384, .f32⟩
  | 5 => ⟨S384x768, .f32⟩
  | 6 => ⟨S192, .f32⟩
  | 7 => ⟨S128, .f32⟩
  | 8 => ⟨S64, .f32⟩
  | 9 => ⟨S4x128x128, .f32⟩
  | 10 => ⟨S128, .f32⟩
  | 11 => ⟨S3x128, .f32⟩
  | 12 => ⟨S128, .f32⟩
  | 13 => ⟨S128, .f32⟩
  | 14 => ⟨S4, .f32⟩
  | 15 => ⟨S8192x2048, .f32⟩
  | 16 => ⟨S512x2048, .f32⟩
  | 17 => ⟨S8704x2048, .f32⟩
  | 18 => ⟨S4096, .i32⟩
  | 19 => ⟨S1x4096, .i32⟩
  | 20 => ⟨S2x4096, .i32⟩
  | 21 => ⟨S8192, .i32⟩
  | 22 => ⟨S4, .i32⟩
  | 23 => ⟨S_, .i32⟩
  | 24 => ⟨S4, .i32⟩
  | 25 => ⟨S4, .i32⟩
  | 26 => ⟨S1x4, .i32⟩
  | 27 => ⟨S128x4, .i32⟩
  | 28 => ⟨S512, .i32⟩
  | 29 => ⟨S8704, .i32⟩
  | 30 => ⟨S8704, .f32⟩
  | 31 => ⟨S8704x1, .f32⟩
  | 32 => ⟨S64, .f32⟩
  | 33 => ⟨S64, .f32⟩
  | 34 => ⟨S_, .f32⟩
  | 35 => ⟨S64, .f32⟩
  | 36 => ⟨S64, .f32⟩
  | 37 => ⟨S_, .f32⟩
  | 38 => ⟨S64, .f32⟩
  | 39 => ⟨S64, .f32⟩
  | 40 => ⟨S1x64, .f32⟩
  | 41 => ⟨S8704x64, .f32⟩
  | 42 => ⟨S8704x64, .f32⟩
  | 43 => ⟨S8704x64, .f32⟩
  | 44 => ⟨S8704x64, .f32⟩
  | 45 => ⟨S8704x64, .f32⟩
  | 46 => ⟨S8704x128, .f32⟩
  | 47 => ⟨S8704x64, .f32⟩
  | 48 => ⟨S8704x128, .f32⟩
  | 49 => ⟨S32, .f32⟩
  | 50 => ⟨S32, .f32⟩
  | 51 => ⟨S_, .f32⟩
  | 52 => ⟨S32, .f32⟩
  | 53 => ⟨S32, .f32⟩
  | 54 => ⟨S_, .f32⟩
  | 55 => ⟨S32, .f32⟩
  | 56 => ⟨S32, .f32⟩
  | 57 => ⟨S1x32, .f32⟩
  | 58 => ⟨S8704x32, .f32⟩
  | 59 => ⟨S8704x32, .f32⟩
  | 60 => ⟨S8704x32, .f32⟩
  | 61 => ⟨S8704x32, .f32⟩
  | 62 => ⟨S8704x32, .f32⟩
  | 63 => ⟨S_, .f32⟩
  | 64 => ⟨S8704x32, .f32⟩
  | 65 => ⟨S8704x128, .f32⟩
  | 66 => ⟨S8704x32, .f32⟩
  | 67 => ⟨S8704x128, .f32⟩
  | 68 => ⟨S8704x128, .f32⟩
  | 69 => ⟨S384x4x192, .f32⟩
  | 70 => ⟨S_, .i32⟩
  | 71 => ⟨S_, .f32⟩
  | 72 => ⟨S384x4x256, .f32⟩
  | 73 => ⟨S384x1024, .f32⟩
  | 74 => ⟨S128, .f32⟩
  | 75 => ⟨S64, .f32⟩
  | 76 => ⟨S1x128, .f32⟩
  | 77 => ⟨S128, .f32⟩
  | 78 => ⟨S1x128, .f32⟩
  | 79 => ⟨S128, .f32⟩
  | 80 => ⟨S1x128, .f32⟩
  | 81 => ⟨S128, .f32⟩
  | 82 => ⟨S_, .i32⟩
  | 83 => ⟨S_, .f32⟩
  | 84 => ⟨S384, .f32⟩
  | 85 => ⟨S_, .i32⟩
  | 86 => ⟨S_, .f32⟩
  | 87 => ⟨S384, .f32⟩
  | 88 => ⟨S_, .i32⟩
  | 89 => ⟨S_, .f32⟩
  | 90 => ⟨S384, .f32⟩
  | 91 => ⟨S_, .i32⟩
  | 92 => ⟨S_, .f32⟩
  | 93 => ⟨S384, .f32⟩
  | 94 => ⟨S_, .i32⟩
  | 95 => ⟨S_, .f32⟩
  | 96 => ⟨S384, .f32⟩
  | 97 => ⟨S_, .i32⟩
  | 98 => ⟨S_, .f32⟩
  | 99 => ⟨S384, .f32⟩
  | 100 => ⟨S_, .i32⟩
  | 101 => ⟨S_, .f32⟩
  | 102 => ⟨S384, .f32⟩
  | 103 => ⟨S_, .i32⟩
  | 104 => ⟨S_, .f32⟩
  | 105 => ⟨S384, .f32⟩
  | 106 => ⟨S_, .i32⟩
  | 107 => ⟨S_, .f32⟩
  | 108 => ⟨S384, .f32⟩
  | 109 => ⟨S_, .i32⟩
  | 110 => ⟨S_, .f32⟩
  | 111 => ⟨S384, .f32⟩
  | 112 => ⟨S_, .i32⟩
  | 113 => ⟨S_, .f32⟩
  | 114 => ⟨S384, .f32⟩
  | 115 => ⟨S1x384, .f32⟩
  | 116 => ⟨S1x384, .f32⟩
  | 117 => ⟨S1x384, .f32⟩
  | 118 => ⟨S1x384, .f32⟩
  | 119 => ⟨S1x384, .f32⟩
  | 120 => ⟨S1x384, .f32⟩
  | 121 => ⟨S1x384, .f32⟩
  | 122 => ⟨S1x384, .f32⟩
  | 123 => ⟨S1x384, .f32⟩
  | 124 => ⟨S1x384, .f32⟩
  | 125 => ⟨S1x384, .f32⟩
  | 126 => ⟨S11x384, .f32⟩
  | 127 => ⟨S_, .i32⟩
  | _ => ⟨S2x4096x2048, .f32⟩

abbrev hbmTy0_1 (i : Nat) : BufTy := match i % 128 with
  | 0 => ⟨S_, .f32⟩
  | 1 => ⟨S16x384, .f32⟩
  | 2 => ⟨S_, .f32⟩
  | 3 => ⟨S1x128, .f32⟩
  | 4 => ⟨S_, .i32⟩
  | 5 => ⟨S1, .i32⟩
  | 6 => ⟨S_, .i32⟩
  | 7 => ⟨S1, .i32⟩
  | 8 => ⟨S2, .i32⟩
  | 9 => ⟨S1x128, .f32⟩
  | 10 => ⟨S1x2048, .f32⟩
  | 11 => ⟨S2048x384, .f32⟩
  | 12 => ⟨S2048x128, .f32⟩
  | 13 => ⟨S2048x64, .f32⟩
  | 14 => ⟨S2048x512, .f32⟩
  | 15 => ⟨S2048x256, .f32⟩
  | 16 => ⟨S2048x256, .f32⟩
  | 17 => ⟨S2048x256, .f32⟩
  | 18 => ⟨S2048x12, .f32⟩
  | 19 => ⟨S2048x512, .f32⟩
  | 20 => ⟨S2048x256, .f32⟩
  | 21 => ⟨S2048x512, .f32⟩
  | 22 => ⟨S2048x256, .f32⟩
  | 23 => ⟨S2048x4, .f32⟩
  | 24 => ⟨S_, .f32⟩
  | 25 => ⟨S2048x64, .f32⟩
  | 26 => ⟨S_, .f32⟩
  | 27 => ⟨S2048x112, .f32⟩
  | 28 => ⟨S2048x3584, .f32⟩
  | 29 => ⟨S2048x3584, .bf16⟩
  | 30 => ⟨S384x1024, .bf16⟩
  | 31 => ⟨S4x128x128, .f32⟩
  | 32 => ⟨S4x128x128, .bf16⟩
  | 33 => ⟨S8704x1024, .f32⟩
  | 34 => ⟨S8704x256, .f32⟩
  | 35 => ⟨S8704x512, .f32⟩
  | 36 => ⟨S8704x256, .f32⟩
  | 37 => ⟨S8704x256, .f32⟩
  | 38 => ⟨S8704x256, .f32⟩
  | 39 => ⟨S8704x512, .f32⟩
  | 40 => ⟨S8704x256, .f32⟩
  | 41 => ⟨S8704x512, .f32⟩
  | 42 => ⟨S8704x256, .f32⟩
  | 43 => ⟨S8704x128, .f32⟩
  | 44 => ⟨S8704x128, .f32⟩
  | 45 => ⟨S8704x192, .f32⟩
  | 46 => ⟨S8704x4, .f32⟩
  | 47 => ⟨S8704x12, .f32⟩
  | _ => ⟨S2x4096x2048, .f32⟩

abbrev hbmTy (i : Nat) : BufTy := match i / 128 with
  | 0 => hbmTy0_0 i
  | 1 => hbmTy0_1 i
  | _ => ⟨S2x4096x2048, .f32⟩

abbrev bufTy : (tb : Table) → Fin (tcTables nBuf tb) → BufTy
  | .hbm, ⟨i, _⟩ => hbmTy i
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S2048x3584, .bf16⟩
  | .local _ .vmem, ⟨4, _⟩ => ⟨S384x1024, .bf16⟩
  | .local _ .vmem, ⟨5, _⟩ => ⟨S4x128x128, .bf16⟩
  | .local _ .vmem, ⟨6, _⟩ => ⟨S16x384, .f32⟩
  | .local _ .vmem, ⟨7, _⟩ => ⟨S1x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | .local _ .vmem, ⟨18, _⟩ => ⟨S256x1024, .f32⟩
  | .local _ .vmem, ⟨19, _⟩ => ⟨S256x1024, .f32⟩
  | .local _ .vmem, ⟨20, _⟩ => ⟨S256x256, .f32⟩
  | .local _ .vmem, ⟨21, _⟩ => ⟨S256x256, .f32⟩
  | .local _ .vmem, ⟨22, _⟩ => ⟨S256x512, .f32⟩
  | .local _ .vmem, ⟨23, _⟩ => ⟨S256x512, .f32⟩
  | .local _ .vmem, ⟨24, _⟩ => ⟨S256x256, .f32⟩
  | .local _ .vmem, ⟨25, _⟩ => ⟨S256x256, .f32⟩
  | .local _ .vmem, ⟨26, _⟩ => ⟨S256x256, .f32⟩
  | .local _ .vmem, ⟨27, _⟩ => ⟨S256x256, .f32⟩
  | .local _ .vmem, ⟨28, _⟩ => ⟨S256x256, .f32⟩
  | .local _ .vmem, ⟨29, _⟩ => ⟨S256x256, .f32⟩
  | .local _ .vmem, ⟨30, _⟩ => ⟨S256x512, .f32⟩
  | .local _ .vmem, ⟨31, _⟩ => ⟨S256x512, .f32⟩
  | .local _ .vmem, ⟨32, _⟩ => ⟨S256x256, .f32⟩
  | .local _ .vmem, ⟨33, _⟩ => ⟨S256x256, .f32⟩
  | .local _ .vmem, ⟨34, _⟩ => ⟨S256x512, .f32⟩
  | .local _ .vmem, ⟨35, _⟩ => ⟨S256x512, .f32⟩
  | .local _ .vmem, ⟨36, _⟩ => ⟨S256x256, .f32⟩
  | .local _ .vmem, ⟨37, _⟩ => ⟨S256x256, .f32⟩
  | .local _ .vmem, ⟨38, _⟩ => ⟨S256x128, .f32⟩
  | .local _ .vmem, ⟨39, _⟩ => ⟨S256x128, .f32⟩
  | .local _ .vmem, ⟨40, _⟩ => ⟨S256x128, .f32⟩
  | .local _ .vmem, ⟨41, _⟩ => ⟨S256x128, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_c : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst : Ref sig .tc := ⟨.hbm, 34, rfl⟩
abbrev main_v18 : Ref sig .tc := ⟨.hbm, 35, rfl⟩
abbrev main_v19 : Ref sig .tc := ⟨.hbm, 36, rfl⟩
abbrev main_cst_0 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_1 : Ref sig .tc := ⟨.hbm, 51, rfl⟩
abbrev main_v33 : Ref sig .tc := ⟨.hbm, 52, rfl⟩
abbrev main_v34 : Ref sig .tc := ⟨.hbm, 53, rfl⟩
abbrev main_cst_2 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_3 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_c_4 : Ref sig .tc := ⟨.hbm, 70, rfl⟩
abbrev main_call0_v0 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_c_5 : Ref sig .tc := ⟨.hbm, 82, rfl⟩
abbrev main_call1_v0 : Ref sig .tc := ⟨.hbm, 83, rfl⟩
abbrev main_v59 : Ref sig .tc := ⟨.hbm, 84, rfl⟩
abbrev main_c_6 : Ref sig .tc := ⟨.hbm, 85, rfl⟩
abbrev main_call2_v0 : Ref sig .tc := ⟨.hbm, 86, rfl⟩
abbrev main_v60 : Ref sig .tc := ⟨.hbm, 87, rfl⟩
abbrev main_c_7 : Ref sig .tc := ⟨.hbm, 88, rfl⟩
abbrev main_call3_v0 : Ref sig .tc := ⟨.hbm, 89, rfl⟩
abbrev main_v61 : Ref sig .tc := ⟨.hbm, 90, rfl⟩
abbrev main_c_8 : Ref sig .tc := ⟨.hbm, 91, rfl⟩
abbrev main_call4_v0 : Ref sig .tc := ⟨.hbm, 92, rfl⟩
abbrev main_v62 : Ref sig .tc := ⟨.hbm, 93, rfl⟩
abbrev main_c_9 : Ref sig .tc := ⟨.hbm, 94, rfl⟩
abbrev main_call5_v0 : Ref sig .tc := ⟨.hbm, 95, rfl⟩
abbrev main_v63 : Ref sig .tc := ⟨.hbm, 96, rfl⟩
abbrev main_c_10 : Ref sig .tc := ⟨.hbm, 97, rfl⟩
abbrev main_call6_v0 : Ref sig .tc := ⟨.hbm, 98, rfl⟩
abbrev main_v64 : Ref sig .tc := ⟨.hbm, 99, rfl⟩
abbrev main_c_11 : Ref sig .tc := ⟨.hbm, 100, rfl⟩
abbrev main_call7_v0 : Ref sig .tc := ⟨.hbm, 101, rfl⟩
abbrev main_v65 : Ref sig .tc := ⟨.hbm, 102, rfl⟩
abbrev main_c_12 : Ref sig .tc := ⟨.hbm, 103, rfl⟩
abbrev main_call8_v0 : Ref sig .tc := ⟨.hbm, 104, rfl⟩
abbrev main_v66 : Ref sig .tc := ⟨.hbm, 105, rfl⟩
abbrev main_c_13 : Ref sig .tc := ⟨.hbm, 106, rfl⟩
abbrev main_call9_v0 : Ref sig .tc := ⟨.hbm, 107, rfl⟩
abbrev main_v67 : Ref sig .tc := ⟨.hbm, 108, rfl⟩
abbrev main_c_14 : Ref sig .tc := ⟨.hbm, 109, rfl⟩
abbrev main_call10_v0 : Ref sig .tc := ⟨.hbm, 110, rfl⟩
abbrev main_v68 : Ref sig .tc := ⟨.hbm, 111, rfl⟩
abbrev main_c_15 : Ref sig .tc := ⟨.hbm, 112, rfl⟩
abbrev main_call11_v0 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_c_16 : Ref sig .tc := ⟨.hbm, 127, rfl⟩
abbrev main_call12_v0 : Ref sig .tc := ⟨.hbm, 128, rfl⟩
abbrev main_v82 : Ref sig .tc := ⟨.hbm, 129, rfl⟩
abbrev main_cst_17 : Ref sig .tc := ⟨.hbm, 130, rfl⟩
abbrev main_v83 : Ref sig .tc := ⟨.hbm, 131, rfl⟩
abbrev main_c_18 : Ref sig .tc := ⟨.hbm, 132, rfl⟩
abbrev main_v84 : Ref sig .tc := ⟨.hbm, 133, rfl⟩
abbrev main_c_19 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_cst_20 : Ref sig .tc := ⟨.hbm, 152, rfl⟩
abbrev main_v102 : Ref sig .tc := ⟨.hbm, 153, rfl⟩
abbrev main_cst_21 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109_0 : Ref sig .tc := ⟨.hbm, 161, rfl⟩
abbrev main_v109_1 : Ref sig .tc := ⟨.hbm, 162, rfl⟩
abbrev main_v109_2 : Ref sig .tc := ⟨.hbm, 163, rfl⟩
abbrev main_v109_3 : Ref sig .tc := ⟨.hbm, 164, rfl⟩
abbrev main_v109_4 : Ref sig .tc := ⟨.hbm, 165, rfl⟩
abbrev main_v109_5 : Ref sig .tc := ⟨.hbm, 166, rfl⟩
abbrev main_v109_6 : Ref sig .tc := ⟨.hbm, 167, rfl⟩
abbrev main_v109_7 : Ref sig .tc := ⟨.hbm, 168, rfl⟩
abbrev main_v109_8 : Ref sig .tc := ⟨.hbm, 169, rfl⟩
abbrev main_v109_9 : Ref sig .tc := ⟨.hbm, 170, rfl⟩
abbrev main_v109_10 : Ref sig .tc := ⟨.hbm, 171, rfl⟩
abbrev main_v109_11 : Ref sig .tc := ⟨.hbm, 172, rfl⟩
abbrev main_v110 : Ref sig .tc := ⟨.hbm, 173, rfl⟩
abbrev main_v111 : Ref sig .tc := ⟨.hbm, 174, rfl⟩
abbrev main_v112 : Ref sig .tc := ⟨.hbm, 175, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_stg20_0 : Ref sig .tc := ⟨.vmem, 34, rfl⟩
abbrev cc0_stg20_1 : Ref sig .tc := ⟨.vmem, 35, rfl⟩
abbrev cc0_stg21_0 : Ref sig .tc := ⟨.vmem, 36, rfl⟩
abbrev cc0_stg21_1 : Ref sig .tc := ⟨.vmem, 37, rfl⟩
abbrev cc0_stg22_0 : Ref sig .tc := ⟨.vmem, 38, rfl⟩
abbrev cc0_stg22_1 : Ref sig .tc := ⟨.vmem, 39, rfl⟩
abbrev cc0_stg23_0 : Ref sig .tc := ⟨.vmem, 40, rfl⟩
abbrev cc0_stg23_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33
abbrev cc0_sem20_0 : DmaSem sig := 34
abbrev cc0_sem20_1 : DmaSem sig := 35
abbrev cc0_sem21_0 : DmaSem sig := 36
abbrev cc0_sem21_1 : DmaSem sig := 37
abbrev cc0_sem22_0 : DmaSem sig := 38
abbrev cc0_sem22_1 : DmaSem sig := 39
abbrev cc0_sem23_0 : DmaSem sig := 40
abbrev cc0_sem23_1 : DmaSem sig := 41

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S384x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x256 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S256x128 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]
-- ==== ProjReferenceIdeal.lean ====
abbrev S2x4096x2048 : Shape := ⟨3, ![2, 4096, 2048]⟩
abbrev S128x4x2048 : Shape := ⟨3, ![128, 4, 2048]⟩
abbrev S2048 : Shape := ⟨1, ![2048]⟩
abbrev S2048x3408 : Shape := ⟨2, ![2048, 3408]⟩
abbrev S384 : Shape := ⟨1, ![384]⟩
abbrev S384x768 : Shape := ⟨2, ![384, 768]⟩
abbrev S192 : Shape := ⟨1, ![192]⟩
abbrev S128 : Shape := ⟨1, ![128]⟩
abbrev S64 : Shape := ⟨1, ![64]⟩
abbrev S4x128x128 : Shape := ⟨3, ![4, 128, 128]⟩
abbrev S3x128 : Shape := ⟨2, ![3, 128]⟩
abbrev S4 : Shape := ⟨1, ![4]⟩
abbrev S8192x2048 : Shape := ⟨2, ![8192, 2048]⟩
abbrev S512x2048 : Shape := ⟨2, ![512, 2048]⟩
abbrev S8704x2048 : Shape := ⟨2, ![8704, 2048]⟩
abbrev S4096 : Shape := ⟨1, ![4096]⟩
abbrev S1x4096 : Shape := ⟨2, ![1, 4096]⟩
abbrev S2x4096 : Shape := ⟨2, ![2, 4096]⟩
abbrev S8192 : Shape := ⟨1, ![8192]⟩
abbrev S_ : Shape := ⟨0, ![]⟩
abbrev S1x4 : Shape := ⟨2, ![1, 4]⟩
abbrev S128x4 : Shape := ⟨2, ![128, 4]⟩
abbrev S512 : Shape := ⟨1, ![512]⟩
abbrev S8704 : Shape := ⟨1, ![8704]⟩
abbrev S8704x1 : Shape := ⟨2, ![8704, 1]⟩
abbrev S1x2048 : Shape := ⟨2, ![1, 2048]⟩
abbrev S8704x3408 : Shape := ⟨2, ![8704, 3408]⟩
abbrev S8704x384 : Shape := ⟨2, ![8704, 384]⟩
abbrev S8704x128 : Shape := ⟨2, ![8704, 128]⟩
abbrev S8704x64 : Shape := ⟨2, ![8704, 64]⟩
abbrev S8704x512 : Shape := ⟨2, ![8704, 512]⟩
abbrev S8704x256 : Shape := ⟨2, ![8704, 256]⟩
abbrev S8704x12 : Shape := ⟨2, ![8704, 12]⟩
abbrev S8704x4 : Shape := ⟨2, ![8704, 4]⟩
abbrev S1x128 : Shape := ⟨2, ![1, 128]⟩
abbrev S1x64 : Shape := ⟨2, ![1, 64]⟩
abbrev S32 : Shape := ⟨1, ![32]⟩
abbrev S1x32 : Shape := ⟨2, ![1, 32]⟩
abbrev S8704x32 : Shape := ⟨2, ![8704, 32]⟩
abbrev S8704x192 : Shape := ⟨2, ![8704, 192]⟩
abbrev S8704x4x128 : Shape := ⟨3, ![8704, 4, 128]⟩
abbrev S8704x4x1 : Shape := ⟨3, ![8704, 4, 1]⟩
abbrev S1x1x128 : Shape := ⟨3, ![1, 1, 128]⟩
abbrev S8704x1x64 : Shape := ⟨3, ![8704, 1, 64]⟩
abbrev S8704x4x64 : Shape := ⟨3, ![8704, 4, 64]⟩

abbrev nBuf : Space → Nat
  | .hbm => 368
  | .vmem => 0
  | .smem => 0
  | _ => 0

abbrev hbmTy0_0 (i : Nat) : BufTy := match i % 128 with
  | 0 => ⟨S2x4096x2048, .f32⟩
  | 1 => ⟨S128x4x2048, .f32⟩
  | 2 => ⟨S2048, .f32⟩
  | 3 => ⟨S2048x3408, .f32⟩
  | 4 => ⟨S384, .f32⟩
  | 5 => ⟨S384x768, .f32⟩
  | 6 => ⟨S192, .f32⟩
  | 7 => ⟨S128, .f32⟩
  | 8 => ⟨S64, .f32⟩
  | 9 => ⟨S4x128x128, .f32⟩
  | 10 => ⟨S128, .f32⟩
  | 11 => ⟨S3x128, .f32⟩
  | 12 => ⟨S128, .f32⟩
  | 13 => ⟨S128, .f32⟩
  | 14 => ⟨S4, .f32⟩
  | 15 => ⟨S8192x2048, .f32⟩
  | 16 => ⟨S512x2048, .f32⟩
  | 17 => ⟨S8704x2048, .f32⟩
  | 18 => ⟨S4096, .i32⟩
  | 19 => ⟨S1x4096, .i32⟩
  | 20 => ⟨S2x4096, .i32⟩
  | 21 => ⟨S8192, .i32⟩
  | 22 => ⟨S4, .i32⟩
  | 23 => ⟨S_, .i32⟩
  | 24 => ⟨S4, .i32⟩
  | 25 => ⟨S4, .i32⟩
  | 26 => ⟨S1x4, .i32⟩
  | 27 => ⟨S128x4, .i32⟩
  | 28 => ⟨S512, .i32⟩
  | 29 => ⟨S8704, .i32⟩
  | 30 => ⟨S8704x2048, .f32⟩
  | 31 => ⟨S_, .f32⟩
  | 32 => ⟨S8704, .f32⟩
  | 33 => ⟨S8704x1, .f32⟩
  | 34 => ⟨S_, .f32⟩
  | 35 => ⟨S8704x1, .f32⟩
  | 36 => ⟨S8704x1, .f32⟩
  | 37 => ⟨S_, .f32⟩
  | 38 => ⟨S8704x1, .f32⟩
  | 39 => ⟨S8704x1, .f32⟩
  | 40 => ⟨S8704x1, .f32⟩
  | 41 => ⟨S8704x2048, .f32⟩
  | 42 => ⟨S8704x2048, .f32⟩
  | 43 => ⟨S1x2048, .f32⟩
  | 44 => ⟨S8704x2048, .f32⟩
  | 45 => ⟨S8704x2048, .f32⟩
  | 46 => ⟨S8704x3408, .f32⟩
  | 47 => ⟨S8704x384, .f32⟩
  | 48 => ⟨S8704x128, .f32⟩
  | 49 => ⟨S8704x64, .f32⟩
  | 50 => ⟨S8704x512, .f32⟩
  | 51 => ⟨S8704x256, .f32⟩
  | 52 => ⟨S8704x256, .f32⟩
  | 53 => ⟨S8704x256, .f32⟩
  | 54 => ⟨S8704x12, .f32⟩
  | 55 => ⟨S8704x512, .f32⟩
  | 56 => ⟨S8704x256, .f32⟩
  | 57 => ⟨S8704x512, .f32⟩
  | 58 => ⟨S8704x256, .f32⟩
  | 59 => ⟨S8704x4, .f32⟩
  | 60 => ⟨S8704x128, .f32⟩
  | 61 => ⟨S_, .f32⟩
  | 62 => ⟨S8704, .f32⟩
  | 63 => ⟨S8704x1, .f32⟩
  | 64 => ⟨S_, .f32⟩
  | 65 => ⟨S8704x1, .f32⟩
  | 66 => ⟨S8704x1, .f32⟩
  | 67 => ⟨S_, .f32⟩
  | 68 => ⟨S8704x1, .f32⟩
  | 69 => ⟨S8704x1, .f32⟩
  | 70 => ⟨S8704x1, .f32⟩
  | 71 => ⟨S8704x128, .f32⟩
  | 72 => ⟨S8704x128, .f32⟩
  | 73 => ⟨S1x128, .f32⟩
  | 74 => ⟨S8704x128, .f32⟩
  | 75 => ⟨S8704x128, .f32⟩
  | 76 => ⟨S8704x64, .f32⟩
  | 77 => ⟨S_, .f32⟩
  | 78 => ⟨S8704, .f32⟩
  | 79 => ⟨S8704x1, .f32⟩
  | 80 => ⟨S_, .f32⟩
  | 81 => ⟨S8704x1, .f32⟩
  | 82 => ⟨S8704x1, .f32⟩
  | 83 => ⟨S_, .f32⟩
  | 84 => ⟨S8704x1, .f32⟩
  | 85 => ⟨S8704x1, .f32⟩
  | 86 => ⟨S8704x1, .f32⟩
  | 87 => ⟨S8704x64, .f32⟩
  | 88 => ⟨S8704x64, .f32⟩
  | 89 => ⟨S1x64, .f32⟩
  | 90 => ⟨S8704x64, .f32⟩
  | 91 => ⟨S8704x64, .f32⟩
  | 92 => ⟨S32, .f32⟩
  | 93 => ⟨S32, .f32⟩
  | 94 => ⟨S_, .f32⟩
  | 95 => ⟨S32, .f32⟩
  | 96 => ⟨S32, .f32⟩
  | 97 => ⟨S_, .f32⟩
  | 98 => ⟨S32, .f32⟩
  | 99 => ⟨S32, .f32⟩
  | 100 => ⟨S8704, .f32⟩
  | 101 => ⟨S8704x1, .f32⟩
  | 102 => ⟨S1x32, .f32⟩
  | 103 => ⟨S8704x32, .f32⟩
  | 104 => ⟨S8704x32, .f32⟩
  | 105 => ⟨S8704x32, .f32⟩
  | 106 => ⟨S8704x32, .f32⟩
  | 107 => ⟨S8704x32, .f32⟩
  | 108 => ⟨S8704x32, .f32⟩
  | 109 => ⟨S8704x32, .f32⟩
  | 110 => ⟨S8704x32, .f32⟩
  | 111 => ⟨S8704x32, .f32⟩
  | 112 => ⟨S8704x32, .f32⟩
  | 113 => ⟨S8704x32, .f32⟩
  | 114 => ⟨S8704x32, .f32⟩
  | 115 => ⟨S8704x32, .f32⟩
  | 116 => ⟨S8704x64, .f32⟩
  | 117 => ⟨S8704x192, .f32⟩
  | 118 => ⟨S8704x128, .f32⟩
  | 119 => ⟨S1x128, .f32⟩
  | 120 => ⟨S128, .f32⟩
  | 121 => ⟨S8704x128, .f32⟩
  | 122 => ⟨S_, .f32⟩
  | 123 => ⟨S8704, .f32⟩
  | 124 => ⟨S8704x1, .f32⟩
  | 125 => ⟨S_, .f32⟩
  | 126 => ⟨S8704x1, .f32⟩
  | 127 => ⟨S8704x1, .f32⟩
  | _ => ⟨S2x4096x2048, .f32⟩

abbrev hbmTy0_1 (i : Nat) : BufTy := match i % 128 with
  | 0 => ⟨S_, .f32⟩
  | 1 => ⟨S8704x1, .f32⟩
  | 2 => ⟨S8704x1, .f32⟩
  | 3 => ⟨S8704x1, .f32⟩
  | 4 => ⟨S8704x128, .f32⟩
  | 5 => ⟨S8704x128, .f32⟩
  | 6 => ⟨S1x128, .f32⟩
  | 7 => ⟨S8704x128, .f32⟩
  | 8 => ⟨S8704x128, .f32⟩
  | 9 => ⟨S64, .f32⟩
  | 10 => ⟨S64, .f32⟩
  | 11 => ⟨S_, .f32⟩
  | 12 => ⟨S64, .f32⟩
  | 13 => ⟨S64, .f32⟩
  | 14 => ⟨S_, .f32⟩
  | 15 => ⟨S64, .f32⟩
  | 16 => ⟨S64, .f32⟩
  | 17 => ⟨S8704, .f32⟩
  | 18 => ⟨S8704x1, .f32⟩
  | 19 => ⟨S1x64, .f32⟩
  | 20 => ⟨S8704x64, .f32⟩
  | 21 => ⟨S8704x64, .f32⟩
  | 22 => ⟨S8704x64, .f32⟩
  | 23 => ⟨S8704x64, .f32⟩
  | 24 => ⟨S8704x64, .f32⟩
  | 25 => ⟨S8704x64, .f32⟩
  | 26 => ⟨S8704x64, .f32⟩
  | 27 => ⟨S8704x64, .f32⟩
  | 28 => ⟨S8704x64, .f32⟩
  | 29 => ⟨S8704x64, .f32⟩
  | 30 => ⟨S8704x64, .f32⟩
  | 31 => ⟨S8704x64, .f32⟩
  | 32 => ⟨S8704x64, .f32⟩
  | 33 => ⟨S8704x128, .f32⟩
  | 34 => ⟨S8704x128, .f32⟩
  | 35 => ⟨S8704x256, .f32⟩
  | 36 => ⟨S8704x128, .f32⟩
  | 37 => ⟨S1x128, .f32⟩
  | 38 => ⟨S128, .f32⟩
  | 39 => ⟨S8704x128, .f32⟩
  | 40 => ⟨S_, .f32⟩
  | 41 => ⟨S8704, .f32⟩
  | 42 => ⟨S8704x1, .f32⟩
  | 43 => ⟨S_, .f32⟩
  | 44 => ⟨S8704x1, .f32⟩
  | 45 => ⟨S8704x1, .f32⟩
  | 46 => ⟨S_, .f32⟩
  | 47 => ⟨S8704x1, .f32⟩
  | 48 => ⟨S8704x1, .f32⟩
  | 49 => ⟨S8704x1, .f32⟩
  | 50 => ⟨S8704x128, .f32⟩
  | 51 => ⟨S8704x128, .f32⟩
  | 52 => ⟨S1x128, .f32⟩
  | 53 => ⟨S8704x128, .f32⟩
  | 54 => ⟨S8704x128, .f32⟩
  | 55 => ⟨S64, .f32⟩
  | 56 => ⟨S64, .f32⟩
  | 57 => ⟨S_, .f32⟩
  | 58 => ⟨S64, .f32⟩
  | 59 => ⟨S64, .f32⟩
  | 60 => ⟨S_, .f32⟩
  | 61 => ⟨S64, .f32⟩
  | 62 => ⟨S64, .f32⟩
  | 63 => ⟨S8704, .f32⟩
  | 64 => ⟨S8704x1, .f32⟩
  | 65 => ⟨S1x64, .f32⟩
  | 66 => ⟨S8704x64, .f32⟩
  | 67 => ⟨S8704x64, .f32⟩
  | 68 => ⟨S8704x64, .f32⟩
  | 69 => ⟨S8704x64, .f32⟩
  | 70 => ⟨S8704x64, .f32⟩
  | 71 => ⟨S8704x64, .f32⟩
  | 72 => ⟨S8704x64, .f32⟩
  | 73 => ⟨S8704x64, .f32⟩
  | 74 => ⟨S8704x64, .f32⟩
  | 75 => ⟨S8704x64, .f32⟩
  | 76 => ⟨S8704x64, .f32⟩
  | 77 => ⟨S8704x64, .f32⟩
  | 78 => ⟨S8704x64, .f32⟩
  | 79 => ⟨S8704x128, .f32⟩
  | 80 => ⟨S8704x128, .f32⟩
  | 81 => ⟨S8704x256, .f32⟩
  | 82 => ⟨S8704x128, .f32⟩
  | 83 => ⟨S1x128, .f32⟩
  | 84 => ⟨S128, .f32⟩
  | 85 => ⟨S8704x128, .f32⟩
  | 86 => ⟨S_, .f32⟩
  | 87 => ⟨S8704, .f32⟩
  | 88 => ⟨S8704x1, .f32⟩
  | 89 => ⟨S_, .f32⟩
  | 90 => ⟨S8704x1, .f32⟩
  | 91 => ⟨S8704x1, .f32⟩
  | 92 => ⟨S_, .f32⟩
  | 93 => ⟨S8704x1, .f32⟩
  | 94 => ⟨S8704x1, .f32⟩
  | 95 => ⟨S8704x1, .f32⟩
  | 96 => ⟨S8704x128, .f32⟩
  | 97 => ⟨S8704x128, .f32⟩
  | 98 => ⟨S1x128, .f32⟩
  | 99 => ⟨S8704x128, .f32⟩
  | 100 => ⟨S8704x128, .f32⟩
  | 101 => ⟨S64, .f32⟩
  | 102 => ⟨S64, .f32⟩
  | 103 => ⟨S_, .f32⟩
  | 104 => ⟨S64, .f32⟩
  | 105 => ⟨S64, .f32⟩
  | 106 => ⟨S_, .f32⟩
  | 107 => ⟨S64, .f32⟩
  | 108 => ⟨S64, .f32⟩
  | 109 => ⟨S8704, .f32⟩
  | 110 => ⟨S8704x1, .f32⟩
  | 111 => ⟨S1x64, .f32⟩
  | 112 => ⟨S8704x64, .f32⟩
  | 113 => ⟨S8704x64, .f32⟩
  | 114 => ⟨S8704x64, .f32⟩
  | 115 => ⟨S8704x64, .f32⟩
  | 116 => ⟨S8704x64, .f32⟩
  | 117 => ⟨S8704x64, .f32⟩
  | 118 => ⟨S8704x64, .f32⟩
  | 119 => ⟨S8704x64, .f32⟩
  | 120 => ⟨S8704x64, .f32⟩
  | 121 => ⟨S8704x64, .f32⟩
  | 122 => ⟨S8704x64, .f32⟩
  | 123 => ⟨S8704x64, .f32⟩
  | 124 => ⟨S8704x64, .f32⟩
  | 125 => ⟨S8704x128, .f32⟩
  | 126 => ⟨S8704x128, .f32⟩
  | 127 => ⟨S8704x256, .f32⟩
  | _ => ⟨S2x4096x2048, .f32⟩

abbrev hbmTy0_2 (i : Nat) : BufTy := match i % 128 with
  | 0 => ⟨S8704x128, .f32⟩
  | 1 => ⟨S8704x128, .f32⟩
  | 2 => ⟨S_, .f32⟩
  | 3 => ⟨S8704, .f32⟩
  | 4 => ⟨S8704x1, .f32⟩
  | 5 => ⟨S_, .f32⟩
  | 6 => ⟨S8704x1, .f32⟩
  | 7 => ⟨S8704x1, .f32⟩
  | 8 => ⟨S_, .f32⟩
  | 9 => ⟨S8704x1, .f32⟩
  | 10 => ⟨S8704x1, .f32⟩
  | 11 => ⟨S8704x1, .f32⟩
  | 12 => ⟨S8704x128, .f32⟩
  | 13 => ⟨S8704x128, .f32⟩
  | 14 => ⟨S1x128, .f32⟩
  | 15 => ⟨S8704x128, .f32⟩
  | 16 => ⟨S8704x128, .f32⟩
  | 17 => ⟨S8704x128, .f32⟩
  | 18 => ⟨S8704x256, .f32⟩
  | 19 => ⟨S1x4, .f32⟩
  | 20 => ⟨S8704x4, .f32⟩
  | 21 => ⟨S8704x4, .f32⟩
  | 22 => ⟨S8704x4, .f32⟩
  | 23 => ⟨S_, .f32⟩
  | 24 => ⟨S8704x4, .f32⟩
  | 25 => ⟨S8704x4, .f32⟩
  | 26 => ⟨S8704x4, .f32⟩
  | 27 => ⟨S8704x4, .f32⟩
  | 28 => ⟨S8704x4, .i1⟩
  | 29 => ⟨S8704x4, .f32⟩
  | 30 => ⟨S8704x4, .f32⟩
  | 31 => ⟨S8704x4, .f32⟩
  | 32 => ⟨S8704x4, .f32⟩
  | 33 => ⟨S8704x4, .f32⟩
  | 34 => ⟨S8704x4, .f32⟩
  | 35 => ⟨S8704x4, .f32⟩
  | 36 => ⟨S8704x4, .f32⟩
  | 37 => ⟨S8704x4, .f32⟩
  | 38 => ⟨S8704x12, .f32⟩
  | 39 => ⟨S8704x12, .f32⟩
  | 40 => ⟨S_, .f32⟩
  | 41 => ⟨S8704x12, .f32⟩
  | 42 => ⟨S8704x12, .f32⟩
  | 43 => ⟨S_, .f32⟩
  | 44 => ⟨S8704x12, .f32⟩
  | 45 => ⟨S8704x12, .f32⟩
  | 46 => ⟨S8704x4x128, .f32⟩
  | 47 => ⟨S8704x4x128, .f32⟩
  | 48 => ⟨S_, .f32⟩
  | 49 => ⟨S8704x4, .f32⟩
  | 50 => ⟨S8704x4x1, .f32⟩
  | 51 => ⟨S_, .f32⟩
  | 52 => ⟨S8704x4x1, .f32⟩
  | 53 => ⟨S8704x4x1, .f32⟩
  | 54 => ⟨S_, .f32⟩
  | 55 => ⟨S8704x4x1, .f32⟩
  | 56 => ⟨S8704x4x1, .f32⟩
  | 57 => ⟨S8704x4x1, .f32⟩
  | 58 => ⟨S8704x4x128, .f32⟩
  | 59 => ⟨S8704x4x128, .f32⟩
  | 60 => ⟨S1x1x128, .f32⟩
  | 61 => ⟨S8704x4x128, .f32⟩
  | 62 => ⟨S8704x4x128, .f32⟩
  | 63 => ⟨S64, .f32⟩
  | 64 => ⟨S64, .f32⟩
  | 65 => ⟨S_, .f32⟩
  | 66 => ⟨S64, .f32⟩
  | 67 => ⟨S64, .f32⟩
  | 68 => ⟨S_, .f32⟩
  | 69 => ⟨S64, .f32⟩
  | 70 => ⟨S64, .f32⟩
  | 71 => ⟨S8704, .f32⟩
  | 72 => ⟨S8704x1, .f32⟩
  | 73 => ⟨S1x64, .f32⟩
  | 74 => ⟨S8704x64, .f32⟩
  | 75 => ⟨S8704x64, .f32⟩
  | 76 => ⟨S8704x64, .f32⟩
  | 77 => ⟨S8704x1x64, .f32⟩
  | 78 => ⟨S8704x1x64, .f32⟩
  | 79 => ⟨S8704x1x64, .f32⟩
  | 80 => ⟨S8704x4x64, .f32⟩
  | 81 => ⟨S8704x4x64, .f32⟩
  | 82 => ⟨S8704x4x64, .f32⟩
  | 83 => ⟨S8704x4x64, .f32⟩
  | 84 => ⟨S8704x4x64, .f32⟩
  | 85 => ⟨S8704x4x64, .f32⟩
  | 86 => ⟨S8704x4x64, .f32⟩
  | 87 => ⟨S8704x4x64, .f32⟩
  | 88 => ⟨S8704x4x64, .f32⟩
  | 89 => ⟨S8704x4x64, .f32⟩
  | 90 => ⟨S8704x4x64, .f32⟩
  | 91 => ⟨S8704x4x64, .f32⟩
  | 92 => ⟨S8704x4x128, .f32⟩
  | 93 => ⟨S8704x4x128, .f32⟩
  | 94 => ⟨S8704x4x128, .f32⟩
  | 95 => ⟨S_, .f32⟩
  | 96 => ⟨S8704x4, .f32⟩
  | 97 => ⟨S8704x4x1, .f32⟩
  | 98 => ⟨S_, .f32⟩
  | 99 => ⟨S8704x4x1, .f32⟩
  | 100 => ⟨S8704x4x1, .f32⟩
  | 101 => ⟨S_, .f32⟩
  | 102 => ⟨S8704x4x1, .f32⟩
  | 103 => ⟨S8704x4x1, .f32⟩
  | 104 => ⟨S8704x4x1, .f32⟩
  | 105 => ⟨S8704x4x128, .f32⟩
  | 106 => ⟨S8704x4x128, .f32⟩
  | 107 => ⟨S1x1x128, .f32⟩
  | 108 => ⟨S8704x4x128, .f32⟩
  | 109 => ⟨S8704x4x128, .f32⟩
  | 110 => ⟨S8704x512, .f32⟩
  | 111 => ⟨S8704x512, .f32⟩
  | _ => ⟨S2x4096x2048, .f32⟩

abbrev hbmTy (i : Nat) : BufTy := match i / 128 with
  | 0 => hbmTy0_0 i
  | 1 => hbmTy0_1 i
  | 2 => hbmTy0_2 i
  | _ => ⟨S2x4096x2048, .f32⟩

abbrev bufTy : (tb : Table) → Fin (tcTables nBuf tb) → BufTy
  | .hbm, ⟨i, _⟩ => hbmTy i
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_c : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst : Ref sig .tc := ⟨.hbm, 31, rfl⟩
abbrev main_v15 : Ref sig .tc := ⟨.hbm, 32, rfl⟩
abbrev main_v16 : Ref sig .tc := ⟨.hbm, 33, rfl⟩
abbrev main_cst_0 : Ref sig .tc := ⟨.hbm, 34, rfl⟩
abbrev main_v17 : Ref sig .tc := ⟨.hbm, 35, rfl⟩
abbrev main_v18 : Ref sig .tc := ⟨.hbm, 36, rfl⟩
abbrev main_cst_1 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_2 : Ref sig .tc := ⟨.hbm, 61, rfl⟩
abbrev main_v42 : Ref sig .tc := ⟨.hbm, 62, rfl⟩
abbrev main_v43 : Ref sig .tc := ⟨.hbm, 63, rfl⟩
abbrev main_cst_3 : Ref sig .tc := ⟨.hbm, 64, rfl⟩
abbrev main_v44 : Ref sig .tc := ⟨.hbm, 65, rfl⟩
abbrev main_v45 : Ref sig .tc := ⟨.hbm, 66, rfl⟩
abbrev main_cst_4 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_5 : Ref sig .tc := ⟨.hbm, 77, rfl⟩
abbrev main_v55 : Ref sig .tc := ⟨.hbm, 78, rfl⟩
abbrev main_v56 : Ref sig .tc := ⟨.hbm, 79, rfl⟩
abbrev main_cst_6 : Ref sig .tc := ⟨.hbm, 80, rfl⟩
abbrev main_v57 : Ref sig .tc := ⟨.hbm, 81, rfl⟩
abbrev main_v58 : Ref sig .tc := ⟨.hbm, 82, rfl⟩
abbrev main_cst_7 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_8 : Ref sig .tc := ⟨.hbm, 94, rfl⟩
abbrev main_v69 : Ref sig .tc := ⟨.hbm, 95, rfl⟩
abbrev main_v70 : Ref sig .tc := ⟨.hbm, 96, rfl⟩
abbrev main_cst_9 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_cst_10 : Ref sig .tc := ⟨.hbm, 122, rfl⟩
abbrev main_v95 : Ref sig .tc := ⟨.hbm, 123, rfl⟩
abbrev main_v96 : Ref sig .tc := ⟨.hbm, 124, rfl⟩
abbrev main_cst_11 : Ref sig .tc := ⟨.hbm, 125, rfl⟩
abbrev main_v97 : Ref sig .tc := ⟨.hbm, 126, rfl⟩
abbrev main_v98 : Ref sig .tc := ⟨.hbm, 127, rfl⟩
abbrev main_cst_12 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_cst_13 : Ref sig .tc := ⟨.hbm, 139, rfl⟩
abbrev main_v109 : Ref sig .tc := ⟨.hbm, 140, rfl⟩
abbrev main_v110 : Ref sig .tc := ⟨.hbm, 141, rfl⟩
abbrev main_cst_14 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_cst_15 : Ref sig .tc := ⟨.hbm, 168, rfl⟩
abbrev main_v136 : Ref sig .tc := ⟨.hbm, 169, rfl⟩
abbrev main_v137 : Ref sig .tc := ⟨.hbm, 170, rfl⟩
abbrev main_cst_16 : Ref sig .tc := ⟨.hbm, 171, rfl⟩
abbrev main_v138 : Ref sig .tc := ⟨.hbm, 172, rfl⟩
abbrev main_v139 : Ref sig .tc := ⟨.hbm, 173, rfl⟩
abbrev main_cst_17 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_cst_18 : Ref sig .tc := ⟨.hbm, 185, rfl⟩
abbrev main_v150 : Ref sig .tc := ⟨.hbm, 186, rfl⟩
abbrev main_v151 : Ref sig .tc := ⟨.hbm, 187, rfl⟩
abbrev main_cst_19 : Ref sig .tc := ⟨.hbm, 188, rfl⟩
abbrev main_v152 : Ref sig .tc := ⟨.hbm, 189, rfl⟩
abbrev main_v153 : Ref sig .tc := ⟨.hbm, 190, rfl⟩
abbrev main_v154 : Ref sig .tc := ⟨.hbm, 191, rfl⟩
abbrev main_v155 : Ref sig .tc := ⟨.hbm, 192, rfl⟩
abbrev main_v156 : Ref sig .tc := ⟨.hbm, 193, rfl⟩
abbrev main_v157 : Ref sig .tc := ⟨.hbm, 194, rfl⟩
abbrev main_v158 : Ref sig .tc := ⟨.hbm, 195, rfl⟩
abbrev main_v159 : Ref sig .tc := ⟨.hbm, 196, rfl⟩
abbrev main_v160 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_v165 : Ref sig .tc := ⟨.hbm, 202, rfl⟩
abbrev main_v166 : Ref sig .tc := ⟨.hbm, 203, rfl⟩
abbrev main_v167 : Ref sig .tc := ⟨.hbm, 204, rfl⟩
abbrev main_v168 : Ref sig .tc := ⟨.hbm, 205, rfl⟩
abbrev main_v169 : Ref sig .tc := ⟨.hbm, 206, rfl⟩
abbrev main_v170 : Ref sig .tc := ⟨.hbm, 207, rfl⟩
abbrev main_v171 : Ref sig .tc := ⟨.hbm, 208, rfl⟩
abbrev main_v172 : Ref sig .tc := ⟨.hbm, 209, rfl⟩
abbrev main_v173 : Ref sig .tc := ⟨.hbm, 210, rfl⟩
abbrev main_v174 : Ref sig .tc := ⟨.hbm, 211, rfl⟩
abbrev main_v175 : Ref sig .tc := ⟨.hbm, 212, rfl⟩
abbrev main_v176 : Ref sig .tc := ⟨.hbm, 213, rfl⟩
abbrev main_cst_20 : Ref sig .tc := ⟨.hbm, 214, rfl⟩
abbrev main_v177 : Ref sig .tc := ⟨.hbm, 215, rfl⟩
abbrev main_v178 : Ref sig .tc := ⟨.hbm, 216, rfl⟩
abbrev main_cst_21 : Ref sig .tc := ⟨.hbm, 217, rfl⟩
abbrev main_v179 : Ref sig .tc := ⟨.hbm, 218, rfl⟩
abbrev main_v180 : Ref sig .tc := ⟨.hbm, 219, rfl⟩
abbrev main_cst_22 : Ref sig .tc := ⟨.hbm, 220, rfl⟩
abbrev main_v181 : Ref sig .tc := ⟨.hbm, 221, rfl⟩
abbrev main_v182 : Ref sig .tc := ⟨.hbm, 222, rfl⟩
abbrev main_v183 : Ref sig .tc := ⟨.hbm, 223, rfl⟩
abbrev main_v184 : Ref sig .tc := ⟨.hbm, 224, rfl⟩
abbrev main_v185 : Ref sig .tc := ⟨.hbm, 225, rfl⟩
abbrev main_v186 : Ref sig .tc := ⟨.hbm, 226, rfl⟩
abbrev main_v187 : Ref sig .tc := ⟨.hbm, 227, rfl⟩
abbrev main_v188 : Ref sig .tc := ⟨.hbm, 228, rfl⟩
abbrev main_v189 : Ref sig .tc := ⟨.hbm, 229, rfl⟩
abbrev main_v190 : Ref sig .tc := ⟨.hbm, 230, rfl⟩
abbrev main_cst_23 : Ref sig .tc := ⟨.hbm, 231, rfl⟩
abbrev main_v191 : Ref sig .tc := ⟨.hbm, 232, rfl⟩
abbrev main_v192 : Ref sig .tc := ⟨.hbm, 233, rfl⟩
abbrev main_cst_24 : Ref sig .tc := ⟨.hbm, 234, rfl⟩
abbrev main_v193 : Ref sig .tc := ⟨.hbm, 235, rfl⟩
abbrev main_v194 : Ref sig .tc := ⟨.hbm, 236, rfl⟩
abbrev main_v195 : Ref sig .tc := ⟨.hbm, 237, rfl⟩
abbrev main_v196 : Ref sig .tc := ⟨.hbm, 238, rfl⟩
abbrev main_v197 : Ref sig .tc := ⟨.hbm, 239, rfl⟩
abbrev main_v198 : Ref sig .tc := ⟨.hbm, 240, rfl⟩
abbrev main_v199 : Ref sig .tc := ⟨.hbm, 241, rfl⟩
abbrev main_v200 : Ref sig .tc := ⟨.hbm, 242, rfl⟩
abbrev main_v201 : Ref sig .tc := ⟨.hbm, 243, rfl⟩
abbrev main_v202 : Ref sig .tc := ⟨.hbm, 244, rfl⟩
abbrev main_v203 : Ref sig .tc := ⟨.hbm, 245, rfl⟩
abbrev main_v204 : Ref sig .tc := ⟨.hbm, 246, rfl⟩
abbrev main_v205 : Ref sig .tc := ⟨.hbm, 247, rfl⟩
abbrev main_v206 : Ref sig .tc := ⟨.hbm, 248, rfl⟩
abbrev main_v207 : Ref sig .tc := ⟨.hbm, 249, rfl⟩
abbrev main_v208 : Ref sig .tc := ⟨.hbm, 250, rfl⟩
abbrev main_v209 : Ref sig .tc := ⟨.hbm, 251, rfl⟩
abbrev main_v210 : Ref sig .tc := ⟨.hbm, 252, rfl⟩
abbrev main_v211 : Ref sig .tc := ⟨.hbm, 253, rfl⟩
abbrev main_v212 : Ref sig .tc := ⟨.hbm, 254, rfl⟩
abbrev main_v213 : Ref sig .tc := ⟨.hbm, 255, rfl⟩
abbrev main_v214 : Ref sig .tc := ⟨.hbm, 256, rfl⟩
abbrev main_v215 : Ref sig .tc := ⟨.hbm, 257, rfl⟩
abbrev main_cst_25 : Ref sig .tc := ⟨.hbm, 258, rfl⟩
abbrev main_v216 : Ref sig .tc := ⟨.hbm, 259, rfl⟩
abbrev main_v217 : Ref sig .tc := ⟨.hbm, 260, rfl⟩
abbrev main_cst_26 : Ref sig .tc := ⟨.hbm, 261, rfl⟩
abbrev main_v218 : Ref sig .tc := ⟨.hbm, 262, rfl⟩
abbrev main_v219 : Ref sig .tc := ⟨.hbm, 263, rfl⟩
abbrev main_cst_27 : Ref sig .tc := ⟨.hbm, 264, rfl⟩
abbrev main_v220 : Ref sig .tc := ⟨.hbm, 265, rfl⟩
abbrev main_v221 : Ref sig .tc := ⟨.hbm, 266, rfl⟩
abbrev main_v222 : Ref sig .tc := ⟨.hbm, 267, rfl⟩
abbrev main_v223 : Ref sig .tc := ⟨.hbm, 268, rfl⟩
abbrev main_v224 : Ref sig .tc := ⟨.hbm, 269, rfl⟩
abbrev main_v225 : Ref sig .tc := ⟨.hbm, 270, rfl⟩
abbrev main_v226 : Ref sig .tc := ⟨.hbm, 271, rfl⟩
abbrev main_v227 : Ref sig .tc := ⟨.hbm, 272, rfl⟩
abbrev main_v228 : Ref sig .tc := ⟨.hbm, 273, rfl⟩
abbrev main_v229 : Ref sig .tc := ⟨.hbm, 274, rfl⟩
abbrev main_v230 : Ref sig .tc := ⟨.hbm, 275, rfl⟩
abbrev main_v231 : Ref sig .tc := ⟨.hbm, 276, rfl⟩
abbrev main_v232 : Ref sig .tc := ⟨.hbm, 277, rfl⟩
abbrev main_call0_v0 : Ref sig .tc := ⟨.hbm, 278, rfl⟩
abbrev main_call0_call0_cst : Ref sig .tc := ⟨.hbm, 279, rfl⟩
abbrev main_call0_call0_v0 : Ref sig .tc := ⟨.hbm, 280, rfl⟩
abbrev main_call0_call0_v1 : Ref sig .tc := ⟨.hbm, 281, rfl⟩
abbrev main_call0_call0_v2 : Ref sig .tc := ⟨.hbm, 282, rfl⟩
abbrev main_call0_call0_v3 : Ref sig .tc := ⟨.hbm, 283, rfl⟩
abbrev main_call0_call0_v4 : Ref sig .tc := ⟨.hbm, 284, rfl⟩
abbrev main_call0_call0_v5 : Ref sig .tc := ⟨.hbm, 285, rfl⟩
abbrev main_call0_call0_v6 : Ref sig .tc := ⟨.hbm, 286, rfl⟩
abbrev main_call0_call0_v7 : Ref sig .tc := ⟨.hbm, 287, rfl⟩
abbrev main_call0_call0_v8 : Ref sig .tc := ⟨.hbm, 288, rfl⟩
abbrev main_call0_call0_v9 : Ref sig .tc := ⟨.hbm, 289, rfl⟩
abbrev main_call0_call0_v10 : Ref sig .tc := ⟨.hbm, 290, rfl⟩
abbrev main_call0_call0_v11 : Ref sig .tc := ⟨.hbm, 291, rfl⟩
abbrev main_call0_v1 : Ref sig .tc := ⟨.hbm, 292, rfl⟩
abbrev main_v233 : Ref sig .tc := ⟨.hbm, 293, rfl⟩
abbrev main_v234 : Ref sig .tc := ⟨.hbm, 294, rfl⟩
abbrev main_v235 : Ref sig .tc := ⟨.hbm, 295, rfl⟩
abbrev main_cst_28 : Ref sig .tc := ⟨.hbm, 296, rfl⟩
abbrev main_v236 : Ref sig .tc := ⟨.hbm, 297, rfl⟩
abbrev main_v237 : Ref sig .tc := ⟨.hbm, 298, rfl⟩
abbrev main_cst_29 : Ref sig .tc := ⟨.hbm, 299, rfl⟩
abbrev main_v238 : Ref sig .tc := ⟨.hbm, 300, rfl⟩
abbrev main_v239 : Ref sig .tc := ⟨.hbm, 301, rfl⟩
abbrev main_v240 : Ref sig .tc := ⟨.hbm, 302, rfl⟩
abbrev main_v241 : Ref sig .tc := ⟨.hbm, 303, rfl⟩
abbrev main_cst_30 : Ref sig .tc := ⟨.hbm, 304, rfl⟩
abbrev main_v242 : Ref sig .tc := ⟨.hbm, 305, rfl⟩
abbrev main_v243 : Ref sig .tc := ⟨.hbm, 306, rfl⟩
abbrev main_cst_31 : Ref sig .tc := ⟨.hbm, 307, rfl⟩
abbrev main_v244 : Ref sig .tc := ⟨.hbm, 308, rfl⟩
abbrev main_v245 : Ref sig .tc := ⟨.hbm, 309, rfl⟩
abbrev main_cst_32 : Ref sig .tc := ⟨.hbm, 310, rfl⟩
abbrev main_v246 : Ref sig .tc := ⟨.hbm, 311, rfl⟩
abbrev main_v247 : Ref sig .tc := ⟨.hbm, 312, rfl⟩
abbrev main_v248 : Ref sig .tc := ⟨.hbm, 313, rfl⟩
abbrev main_v249 : Ref sig .tc := ⟨.hbm, 314, rfl⟩
abbrev main_v250 : Ref sig .tc := ⟨.hbm, 315, rfl⟩
abbrev main_v251 : Ref sig .tc := ⟨.hbm, 316, rfl⟩
abbrev main_v252 : Ref sig .tc := ⟨.hbm, 317, rfl⟩
abbrev main_v253 : Ref sig .tc := ⟨.hbm, 318, rfl⟩
abbrev main_v254 : Ref sig .tc := ⟨.hbm, 319, rfl⟩
abbrev main_v255 : Ref sig .tc := ⟨.hbm, 320, rfl⟩
abbrev main_cst_33 : Ref sig .tc := ⟨.hbm, 321, rfl⟩
abbrev main_v256 : Ref sig .tc := ⟨.hbm, 322, rfl⟩
abbrev main_v257 : Ref sig .tc := ⟨.hbm, 323, rfl⟩
abbrev main_cst_34 : Ref sig .tc := ⟨.hbm, 324, rfl⟩
abbrev main_v258 : Ref sig .tc := ⟨.hbm, 325, rfl⟩
abbrev main_v259 : Ref sig .tc := ⟨.hbm, 326, rfl⟩
abbrev main_v260 : Ref sig .tc := ⟨.hbm, 327, rfl⟩
abbrev main_v261 : Ref sig .tc := ⟨.hbm, 328, rfl⟩
abbrev main_v262 : Ref sig .tc := ⟨.hbm, 329, rfl⟩
abbrev main_v263 : Ref sig .tc := ⟨.hbm, 330, rfl⟩
abbrev main_v264 : Ref sig .tc := ⟨.hbm, 331, rfl⟩
abbrev main_v265 : Ref sig .tc := ⟨.hbm, 332, rfl⟩
abbrev main_v266 : Ref sig .tc := ⟨.hbm, 333, rfl⟩
abbrev main_v267 : Ref sig .tc := ⟨.hbm, 334, rfl⟩
abbrev main_v268 : Ref sig .tc := ⟨.hbm, 335, rfl⟩
abbrev main_v269 : Ref sig .tc := ⟨.hbm, 336, rfl⟩
abbrev main_v270 : Ref sig .tc := ⟨.hbm, 337, rfl⟩
abbrev main_v271 : Ref sig .tc := ⟨.hbm, 338, rfl⟩
abbrev main_v272 : Ref sig .tc := ⟨.hbm, 339, rfl⟩
abbrev main_v273 : Ref sig .tc := ⟨.hbm, 340, rfl⟩
abbrev main_v274 : Ref sig .tc := ⟨.hbm, 341, rfl⟩
abbrev main_v275 : Ref sig .tc := ⟨.hbm, 342, rfl⟩
abbrev main_v276 : Ref sig .tc := ⟨.hbm, 343, rfl⟩
abbrev main_v277 : Ref sig .tc := ⟨.hbm, 344, rfl⟩
abbrev main_v278 : Ref sig .tc := ⟨.hbm, 345, rfl⟩
abbrev main_v279 : Ref sig .tc := ⟨.hbm, 346, rfl⟩
abbrev main_v280 : Ref sig .tc := ⟨.hbm, 347, rfl⟩
abbrev main_v281 : Ref sig .tc := ⟨.hbm, 348, rfl⟩
abbrev main_v282 : Ref sig .tc := ⟨.hbm, 349, rfl⟩
abbrev main_v283 : Ref sig .tc := ⟨.hbm, 350, rfl⟩
abbrev main_cst_35 : Ref sig .tc := ⟨.hbm, 351, rfl⟩
abbrev main_v284 : Ref sig .tc := ⟨.hbm, 352, rfl⟩
abbrev main_v285 : Ref sig .tc := ⟨.hbm, 353, rfl⟩
abbrev main_cst_36 : Ref sig .tc := ⟨.hbm, 354, rfl⟩
abbrev main_v286 : Ref sig .tc := ⟨.hbm, 355, rfl⟩
abbrev main_v287 : Ref sig .tc := ⟨.hbm, 356, rfl⟩
abbrev main_cst_37 : Ref sig .tc := ⟨.hbm, 357, rfl⟩
abbrev main_v288 : Ref sig .tc := ⟨.hbm, 358, rfl⟩
abbrev main_v289 : Ref sig .tc := ⟨.hbm, 359, rfl⟩
abbrev main_v290 : Ref sig .tc := ⟨.hbm, 360, rfl⟩
abbrev main_v291 : Ref sig .tc := ⟨.hbm, 361, rfl⟩
abbrev main_v292 : Ref sig .tc := ⟨.hbm, 362, rfl⟩
abbrev main_v293 : Ref sig .tc := ⟨.hbm, 363, rfl⟩
abbrev main_v294 : Ref sig .tc := ⟨.hbm, 364, rfl⟩
abbrev main_v295 : Ref sig .tc := ⟨.hbm, 365, rfl⟩
abbrev main_v296 : Ref sig .tc := ⟨.hbm, 366, rfl⟩
abbrev main_v297 : Ref sig .tc := ⟨.hbm, 367, rfl⟩

abbrev nD : Nat := 1
abbrev τ : Topo := Topo.v7x

variable {F : FTy → Type} [FloatOps F]
-- ==== Proof.Consts.lean ====
/-
  The f32 constants of the two programs as extended reals.
-/
module

public import Idealize.ShloMosaic.PureOps.Ideal

@[expose] public section

namespace Cert.Consts

open Idealize.ShloMosaic

theorem f32_2048 : Ideal.ofBits .f32 0x45000000#32 = ((2048 : ℝ) : EReal) := by
  simp [Ideal.ofBits, Ideal.ieee, -EReal.coe_mul]; norm_num

theorem f32_inv_2048 : Ideal.ofBits .f32 0x3A000000#32 = ((1 / 2048 : ℝ) : EReal) := by
  simp [Ideal.ofBits, Ideal.ieee, -EReal.coe_mul]; norm_num

theorem f32_zero : Ideal.ofBits .f32 0x00000000#32 = 0 := by simp [Ideal.ofBits, Ideal.ieee]

theorem f32_one : Ideal.ofBits .f32 0x3F800000#32 = 1 := by
  simp [Ideal.ofBits, Ideal.ieee]
  rw [← EReal.coe_mul]
  norm_num

theorem f32_neg_inf : Ideal.ofBits .f32 0xFF800000#32 = ⊥ := by simp [Ideal.ofBits, Ideal.ieee]

theorem f32_inf : Ideal.ofBits .f32 0x7F800000#32 = ⊤ := by simp [Ideal.ofBits, Ideal.ieee]

theorem f32_scale : Ideal.ofBits .f32 0x3D93CD3A#32 = ((9686330 / 134217728 : ℝ) : EReal) := by
  simp [Ideal.ofBits, Ideal.ieee, -EReal.coe_mul]; norm_num

end Cert.Consts
-- ==== Proof.FfnBody.lean ====
/-
  The feed-forward kernel's body, read as values: what one grid point leaves in the normalized-row scratch, in the
  accumulator and, at the last column tile, in the output block. The three cases are the generated run's: the first
  column tile (the scratch is filled, the accumulator reset), a middle tile, and the last tile (the output is stored).
-/
module

public import proofs.«01_k».proof.Proof.Gen.FfnIdeal.Value
public import Idealize.ShloMosaic.Lib.Tactic

@[expose] public section

set_option maxRecDepth 16384

noncomputable section

namespace Cert.FfnIdeal.Body

open Cert.FfnIdeal Cert.FfnIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

section
variable (c : Dev nD) (i : grid0.Coords)
  (a2 : Memref sig .tc .vmem S512x2048 .f32) (h2 : a2.IsWhole) (a3 : Memref sig .tc .vmem S1x2048 .f32) (h3 : a3.IsWhole)
  (a4 : Memref sig .tc .vmem S2048x512 .bf16) (h4 : a4.IsWhole) (a5 : Memref sig .tc .vmem S2048x512 .bf16) (h5 : a5.IsWhole)
  (a6 : Memref sig .tc .vmem S512x2048 .bf16) (h6 : a6.IsWhole) (a7 : Memref sig .tc .vmem S512x2048 .f32) (h7 : a7.IsWhole)
  (a8 : Memref sig .tc .vmem S512x2048 .bf16) (h8 : a8.IsWhole) (a9 : Memref sig .tc .vmem S512x2048 .f32) (h9 : a9.IsWhole)
  (x0 : Vec F S512x2048 .f32) (x1 : Vec F S1x2048 .f32) (x2 x3 : Vec F S2048x512 .bf16) (x4 : Vec F S512x2048 .bf16)

/-- At the first column tile the normalized rows are stored into their scratch. -/
theorem rows_A (hc0 : cond0_0 i) (hc1 : ¬cond0_1 i) :
    sout0_A_0 c i a2 h2 a3 h3 a4 h4 a5 h5 a6 h6 a7 h7 a8 h8 a9 h9 hc0 hc1 x0 x1 x2 x3 x4 = k0_pay1 x0 x1 := by
  unfold sout0_A_0
  rw [View.read_writes_eq_canon _ _ _ (scover0_A_0 c i a2 h2 a3 h3 a4 h4 a5 h5 a6 h6 a7 h7 a8 h8 a9 h9 hc0 hc1 x0 x1 x2 x3 x4)]
  unfold kernelRun0_A
  dsimp only
  sl_unfold_words
  rw [View.canon_unit_zero hz]
  simp only [View.readAt_eq_ld, h2.read_unread, h3.read_unread, View.ld_unit_zero (S := S512x2048) hz, View.ld_unit_zero (S := S1x2048) hz]

/-- At the first column tile the accumulator ends at the tile's product over the zero block. -/
theorem acc_A (hc0 : cond0_0 i) (hc1 : ¬cond0_1 i) :
    sout0_A_1 c i a2 h2 a3 h3 a4 h4 a5 h5 a6 h6 a7 h7 a8 h8 a9 h9 hc0 hc1 x0 x1 x2 x3 x4
      = k0_pay3 (k0_pay1 x0 x1) x2 x3 k0_pay2 x4 := by
  unfold sout0_A_1
  rw [View.read_writes_eq_canon _ _ _ (scover0_A_1 c i a2 h2 a3 h3 a4 h4 a5 h5 a6 h6 a7 h7 a8 h8 a9 h9 hc0 hc1 x0 x1 x2 x3 x4)]
  unfold kernelRun0_A
  dsimp only
  sl_unfold_words
  rw [View.canon_cons_unit_zero (S := S512x2048) hz]
  simp only [View.readCov_unit_zero (S := S512x2048) _ hz, View.readAt_eq_ld, h2.read_unread, h3.read_unread, h4.read_unread, h5.read_unread, h6.read_unread,
    View.ld_unit_zero (S := S512x2048) hz, View.ld_unit_zero (S := S1x2048) hz, View.ld_unit_zero (S := S2048x512) hz]

/-- At a middle column tile the accumulator gains the tile's product. -/
theorem acc_B (hc0 : ¬cond0_0 i) (hc1 : ¬cond0_1 i) (y0 : Vec F S512x2048 .bf16) (y1 : Vec F S512x2048 .f32) :
    sout0_B_1 c i a2 h2 a3 h3 a4 h4 a5 h5 a6 h6 a7 h7 a8 h8 a9 h9 hc0 hc1 x0 x1 x2 x3 x4 y0 y1
      = k0_pay3 y0 x2 x3 y1 x4 := by
  unfold sout0_B_1
  rw [View.read_writes_eq_canon _ _ _ (scover0_B_1 c i a2 h2 a3 h3 a4 h4 a5 h5 a6 h6 a7 h7 a8 h8 a9 h9 hc0 hc1 x0 x1 x2 x3 x4 y0 y1)]
  unfold kernelRun0_B
  dsimp only
  sl_unfold_words
  rw [View.canon_unit_zero hz]
  simp only [View.readAt_eq_ld, h4.read_unread, h5.read_unread, h6.read_unread, h8.read_unread, h9.read_unread,
    View.ld_unit_zero (S := S512x2048) hz, View.ld_unit_zero (S := S2048x512) hz]

/-- At the last column tile the accumulator gains the tile's product. -/
theorem acc_C (hc0 : ¬cond0_0 i) (hc1 : cond0_1 i) (y0 : Vec F S512x2048 .bf16) (y1 : Vec F S512x2048 .f32) :
    sout0_C_1 c i a2 h2 a3 h3 a4 h4 a5 h5 a6 h6 a7 h7 a8 h8 a9 h9 hc0 hc1 x0 x1 x2 x3 x4 y0 y1
      = k0_pay3 y0 x2 x3 y1 x4 := by
  unfold sout0_C_1
  rw [View.read_writes_eq_canon _ _ _ (scover0_C_1 c i a2 h2 a3 h3 a4 h4 a5 h5 a6 h6 a7 h7 a8 h8 a9 h9 hc0 hc1 x0 x1 x2 x3 x4 y0 y1)]
  unfold kernelRun0_C
  dsimp only
  sl_unfold_words
  rw [View.canon_unit_zero hz]
  simp only [View.readAt_eq_ld, h4.read_unread, h5.read_unread, h6.read_unread, h8.read_unread, h9.read_unread,
    View.ld_unit_zero (S := S512x2048) hz, View.ld_unit_zero (S := S2048x512) hz]

/-- At the last column tile the output block is the input block plus half the finished accumulator. -/
theorem out_C (hc0 : ¬cond0_0 i) (hc1 : cond0_1 i) (y0 : Vec F S512x2048 .bf16) (y1 : Vec F S512x2048 .f32) :
    out0_C_5 c i a2 h2 a3 h3 a4 h4 a5 h5 a6 h6 a7 h7 a8 h8 a9 h9 hc0 hc1 x0 x1 x2 x3 x4 y0 y1
      = k0_pay4 x0 (k0_pay3 y0 x2 x3 y1 x4) := by
  unfold out0_C_5
  rw [View.read_writes_eq_canon _ _ _ (cover0_C_5 c i a2 h2 a3 h3 a4 h4 a5 h5 a6 h6 a7 h7 a8 h8 a9 h9 hc0 hc1 x0 x1 x2 x3 x4 y0 y1)]
  unfold kernelRun0_C
  dsimp only
  sl_unfold_words
  rw [View.canon_unit_zero hz]
  simp only [View.readCov_unit_zero (S := S512x2048) _ hz, View.readAt_eq_ld, h2.read_unread, h4.read_unread, h5.read_unread, h6.read_unread, h8.read_unread, h9.read_unread,
    View.ld_unit_zero (S := S512x2048) hz, View.ld_unit_zero (S := S2048x512) hz]
end

end Cert.FfnIdeal.Body

end
-- ==== Proof.FfnHost.lean ====
/-
  The arrays the feed-forward kernel reads, as the host operations before the call leave them: the two inputs stacked
  into one array of rows, the two halves of the input weight and the output weight padded with zeros to a whole number
  of tiles, and the norm weight as a row. Then the blocks the grid points see of them.
-/
module

public import proofs.«01_k».proof.Proof.Gen.FfnIdeal.Value
public import Idealize.ShloMosaic.Lib.Tactic
public import Idealize.ShloMosaic.Lib.Pointwise
public import Idealize.ShloMosaic.Lib.StableHlo.Run

@[expose] public section

set_option maxRecDepth 16384

noncomputable section

namespace Cert.FfnIdeal.Host

open Cert.FfnIdeal Cert.FfnIdeal.Gen Idealize.ShloMosaic Idealize.ShloMosaic.TcCoe Idealize.SL.Sem

section
variable {F : FTy → Type} [FloatOps F] (m : (ℓ : Loc nD τ sig) → Buf (Elt F) ℓ) (c : Dev nD)

theorem V_rows : (V m c main_v2 : Vec F S8704x2048 .f32)
    = concatenate S8704x2048 0 [⟨S8192x2048, shapeCast S8192x2048 (m (c, main_arg0) : Vec F S2x4096x2048 .f32) shapeCasts_S2x4096x2048_S8192x2048⟩,
        ⟨S512x2048, shapeCast S512x2048 (m (c, main_arg1) : Vec F S128x4x2048 .f32) shapeCasts_S128x4x2048_S512x2048⟩] concatenates_S8192x2048_S512x2048_S8704x2048_d0 := by
  unfold V
  simp only [hostOps0, hostOps0_1, hostOps0_2, hostOps0_3, hostOps0_4, hostOps0_5, hostOps0_6, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp <;> rfl

theorem V_norm : (V m c main_v11 : Vec F S1x2048 .f32)
    = broadcastInDim S1x2048 ![1] bcast_S2048_S1x2048_1 (m (c, main_arg2) : Vec F S2048 .f32) := by
  unfold V
  simp only [hostOps0, hostOps0_1, hostOps0_2, hostOps0_3, hostOps0_4, hostOps0_5, hostOps0_6, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp <;> rfl

theorem V_wa : (V m c main_v5 : Vec F S2048x5632 .bf16)
    = truncf .bf16 (pad S2048x5632 ![0, 0] ![0, 128] ![0, 0] (extractStridedSlice S2048x5504 ![0, 0] (m (c, main_arg3) : Vec F S2048x11008 .f32) slices_S2048x11008_S2048x5504_0_0) (sitofp .f32 (constantI S_ 32 0#32) : FVec F S_ .f32) pads_S2048x5504_S2048x5632_000_01280 h_S_) bitsLt_bf16_f32 := by
  unfold V
  simp only [hostOps0, hostOps0_1, hostOps0_2, hostOps0_3, hostOps0_4, hostOps0_5, hostOps0_6, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp <;> rfl

theorem V_wb : (V m c main_v8 : Vec F S2048x5632 .bf16)
    = truncf .bf16 (pad S2048x5632 ![0, 0] ![0, 128] ![0, 0] (extractStridedSlice S2048x5504 ![0, 5504] (m (c, main_arg3) : Vec F S2048x11008 .f32) slices_S2048x11008_S2048x5504_0_5504) (sitofp .f32 (constantI S_ 32 0#32) : FVec F S_ .f32) pads_S2048x5504_S2048x5632_000_01280 h_S_) bitsLt_bf16_f32 := by
  unfold V
  simp only [hostOps0, hostOps0_1, hostOps0_2, hostOps0_3, hostOps0_4, hostOps0_5, hostOps0_6, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp <;> rfl

theorem V_wo : (V m c main_v10 : Vec F S5632x2048 .bf16)
    = truncf .bf16 (pad S5632x2048 ![0, 0] ![128, 0] ![0, 0] (m (c, main_arg4) : Vec F S5504x2048 .f32) (sitofp .f32 (constantI S_ 32 0#32) : FVec F S_ .f32) pads_S5504x2048_S5632x2048_01280_000 h_S_) bitsLt_bf16_f32 := by
  unfold V
  simp only [hostOps0, hostOps0_1, hostOps0_2, hostOps0_3, hostOps0_4, hostOps0_5, hostOps0_6, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp <;> rfl
end

/-- The zero the padding writes. -/
theorem pad_zero : (FloatOps.sitofp .f32 (0#32) : Ideal .f32) = (0 : EReal) := by
  show (((0#32 : BitVec 32).toInt : ℝ) : EReal) = 0
  simp

/-- The first half of the input weight, padded with zero columns. -/
theorem padFirst_at (x : Vec Ideal S2048x11008 .f32) (d : Fin 2048) (f : Fin 5632) :
    (truncf .bf16 (pad S2048x5632 ![0, 0] ![0, 128] ![0, 0] (extractStridedSlice S2048x5504 ![0, 0] x slices_S2048x11008_S2048x5504_0_0) (sitofp .f32 (constantI S_ 32 0#32) : FVec Ideal S_ .f32) pads_S2048x5504_S2048x5632_000_01280 h_S_) bitsLt_bf16_f32 : Vec Ideal S2048x5632 .bf16) (ix2 d f)
      = if h : f.val < 5504 then x (ix2 d ⟨f.val, by omega⟩) else (0 : EReal) := by
  pointwise
  rw [pad_zero]

/-- The second half of the input weight, padded with zero columns. -/
theorem padSecond_at (x : Vec Ideal S2048x11008 .f32) (d : Fin 2048) (f : Fin 5632) :
    (truncf .bf16 (pad S2048x5632 ![0, 0] ![0, 128] ![0, 0] (extractStridedSlice S2048x5504 ![0, 5504] x slices_S2048x11008_S2048x5504_0_5504) (sitofp .f32 (constantI S_ 32 0#32) : FVec Ideal S_ .f32) pads_S2048x5504_S2048x5632_000_01280 h_S_) bitsLt_bf16_f32 : Vec Ideal S2048x5632 .bf16) (ix2 d f)
      = if h : f.val < 5504 then x (ix2 d ⟨5504 + f.val, by omega⟩) else (0 : EReal) := by
  pointwise
  rw [pad_zero]

/-- The output weight, padded with zero rows. -/
theorem padRows_at (x : Vec Ideal S5504x2048 .f32) (f : Fin 5632) (l : Fin 2048) :
    (truncf .bf16 (pad S5632x2048 ![0, 0] ![128, 0] ![0, 0] x (sitofp .f32 (constantI S_ 32 0#32) : FVec Ideal S_ .f32) pads_S5504x2048_S5632x2048_01280_000 h_S_) bitsLt_bf16_f32 : Vec Ideal S5632x2048 .bf16) (ix2 f l)
      = if h : f.val < 5504 then x (ix2 ⟨f.val, h⟩ l) else (0 : EReal) := by
  pointwise
  rw [pad_zero]

/-- The stacked rows: the prompt's 8192 rows, then the sample's 512. -/
theorem stack_at (x : Vec Ideal S2x4096x2048 .f32) (y : Vec Ideal S128x4x2048 .f32) (r : Fin 8704) (d : Fin 2048) :
    (concatenate S8704x2048 0 [⟨S8192x2048, shapeCast S8192x2048 x shapeCasts_S2x4096x2048_S8192x2048⟩, ⟨S512x2048, shapeCast S512x2048 y shapeCasts_S128x4x2048_S512x2048⟩] concatenates_S8192x2048_S512x2048_S8704x2048_d0 : Vec Ideal S8704x2048 .f32) (ix2 r d)
      = if h : r.val < 8192 then x (ix3 ⟨r.val / 4096, by omega⟩ ⟨r.val % 4096, by omega⟩ d)
        else y (ix3 ⟨(r.val - 8192) / 4, by omega⟩ ⟨(r.val - 8192) % 4, by omega⟩ d) := by
  pointwise

/-! ## The arrays, indexed by naturals: zero past the end -/

variable (m : (ℓ : Loc nD τ sig) → Buf (Elt Ideal) ℓ) (c : Dev nD)

/-- Row `R` of the stacked inputs. -/
def xN (R : ℕ) (d : Fin 2048) : EReal :=
  if h : R < 8192 then (m (c, main_arg0) : Vec Ideal S2x4096x2048 .f32) (ix3 ⟨R / 4096, by omega⟩ ⟨R % 4096, by omega⟩ d)
  else if h' : R < 8704 then (m (c, main_arg1) : Vec Ideal S128x4x2048 .f32) (ix3 ⟨(R - 8192) / 4, by omega⟩ ⟨(R - 8192) % 4, by omega⟩ d)
  else 0

/-- Column `f` of the first half of the input weight. -/
def waN (d : Fin 2048) (f : ℕ) : EReal :=
  if h : f < 5504 then (m (c, main_arg3) : Vec Ideal S2048x11008 .f32) (ix2 d ⟨f, by omega⟩) else 0

/-- Column `f` of the second half of the input weight. -/
def wbN (d : Fin 2048) (f : ℕ) : EReal :=
  if h : f < 5504 then (m (c, main_arg3) : Vec Ideal S2048x11008 .f32) (ix2 d ⟨5504 + f, by omega⟩) else 0

/-- Row `f` of the output weight. -/
def woN (f : ℕ) (l : Fin 2048) : EReal :=
  if h : f < 5504 then (m (c, main_arg4) : Vec Ideal S5504x2048 .f32) (ix2 ⟨f, h⟩ l) else 0

/-! ## The blocks a grid point sees -/

theorem index_rows : ∀ t : Fin grid0.N, win0_0.index t 0 = t.val / 11 ∧ win0_0.index t 1 = 0 := by decide +kernel
theorem index_norm : ∀ t : Fin grid0.N, win0_1.index t 0 = 0 ∧ win0_1.index t 1 = 0 := by decide +kernel
theorem index_wa : ∀ t : Fin grid0.N, win0_2.index t 0 = 0 ∧ win0_2.index t 1 = t.val % 11 := by decide +kernel
theorem index_wb : ∀ t : Fin grid0.N, win0_3.index t 0 = 0 ∧ win0_3.index t 1 = t.val % 11 := by decide +kernel
theorem index_wo : ∀ t : Fin grid0.N, win0_4.index t 0 = t.val % 11 ∧ win0_4.index t 1 = 0 := by decide +kernel

theorem t_lt (t : Fin cfg0.N) : t.val < 187 := lt_of_lt_of_eq t.isLt (show cfg0.N = 187 from N_0)

theorem rows_block (t : Fin cfg0.N) (r : Fin 512) (d : Fin 2048) :
    (iblk m c 0 t : Vec Ideal S512x2048 .f32) (ix2 r d) = xN m c (512 * (t.val / 11) + r.val) d := by
  have ht := t_lt t
  have e : (iblk m c 0 t : Vec Ideal S512x2048 .f32) (ix2 r d)
      = (V m c main_v2 : Vec Ideal S8704x2048 .f32) (ix2 ⟨512 * (t.val / 11) + r.val, by omega⟩ d) := by
    unfold iblk
    rw [View.read_apply]
    show V m c main_v2 _ = V m c main_v2 _
    congr 1
    funext a
    apply Fin.ext
    match a with
    | ⟨0, _⟩ => show win0_0.index t 0 * 512 + 1 * r.val = 512 * (t.val / 11) + r.val; rw [(index_rows t).1]; omega
    | ⟨1, _⟩ => show win0_0.index t 1 * 2048 + 1 * d.val = d.val; rw [(index_rows t).2]; omega
  rw [e, V_rows, stack_at]
  unfold xN
  split
  · rfl
  · rw [dif_pos (by omega)]

theorem norm_block (t : Fin cfg0.N) (d : Fin 2048) :
    (iblk m c 1 t : Vec Ideal S1x2048 .f32) (ix2 0 d) = (m (c, main_arg2) : Vec Ideal S2048 .f32) (ix1 d) := by
  have e : (iblk m c 1 t : Vec Ideal S1x2048 .f32) (ix2 0 d) = (V m c main_v11 : Vec Ideal S1x2048 .f32) (ix2 0 d) := by
    unfold iblk
    rw [View.read_apply]
    show V m c main_v11 _ = V m c main_v11 _
    congr 1
    funext a
    apply Fin.ext
    match a with
    | ⟨0, _⟩ => show win0_1.index t 0 * 1 + 1 * 0 = 0; rw [(index_norm t).1]
    | ⟨1, _⟩ => show win0_1.index t 1 * 2048 + 1 * d.val = d.val; rw [(index_norm t).2]; omega
  rw [e, V_norm]
  pointwise

theorem wa_block (t : Fin cfg0.N) (d : Fin 2048) (k : Fin 512) :
    (iblk m c 2 t : Vec Ideal S2048x512 .bf16) (ix2 d k) = waN m c d (512 * (t.val % 11) + k.val) := by
  have e : (iblk m c 2 t : Vec Ideal S2048x512 .bf16) (ix2 d k)
      = (V m c main_v5 : Vec Ideal S2048x5632 .bf16) (ix2 d ⟨512 * (t.val % 11) + k.val, by omega⟩) := by
    unfold iblk
    rw [View.read_apply]
    show V m c main_v5 _ = V m c main_v5 _
    congr 1
    funext a
    apply Fin.ext
    match a with
    | ⟨0, _⟩ => show win0_2.index t 0 * 2048 + 1 * d.val = d.val; rw [(index_wa t).1]; omega
    | ⟨1, _⟩ => show win0_2.index t 1 * 512 + 1 * k.val = 512 * (t.val % 11) + k.val; rw [(index_wa t).2]; omega
  rw [e, V_wa, padFirst_at]
  rfl

theorem wb_block (t : Fin cfg0.N) (d : Fin 2048) (k : Fin 512) :
    (iblk m c 3 t : Vec Ideal S2048x512 .bf16) (ix2 d k) = wbN m c d (512 * (t.val % 11) + k.val) := by
  have e : (iblk m c 3 t : Vec Ideal S2048x512 .bf16) (ix2 d k)
      = (V m c main_v8 : Vec Ideal S2048x5632 .bf16) (ix2 d ⟨512 * (t.val % 11) + k.val, by omega⟩) := by
    unfold iblk
    rw [View.read_apply]
    show V m c main_v8 _ = V m c main_v8 _
    congr 1
    funext a
    apply Fin.ext
    match a with
    | ⟨0, _⟩ => show win0_3.index t 0 * 2048 + 1 * d.val = d.val; rw [(index_wb t).1]; omega
    | ⟨1, _⟩ => show win0_3.index t 1 * 512 + 1 * k.val = 512 * (t.val % 11) + k.val; rw [(index_wb t).2]; omega
  rw [e, V_wb, padSecond_at]
  rfl

theorem wo_block (t : Fin cfg0.N) (k : Fin 512) (l : Fin 2048) :
    (iblk m c 4 t : Vec Ideal S512x2048 .bf16) (ix2 k l) = woN m c (512 * (t.val % 11) + k.val) l := by
  have e : (iblk m c 4 t : Vec Ideal S512x2048 .bf16) (ix2 k l)
      = (V m c main_v10 : Vec Ideal S5632x2048 .bf16) (ix2 ⟨512 * (t.val % 11) + k.val, by omega⟩ l) := by
    unfold iblk
    rw [View.read_apply]
    show V m c main_v10 _ = V m c main_v10 _
    congr 1
    funext a
    apply Fin.ext
    match a with
    | ⟨0, _⟩ => show win0_4.index t 0 * 512 + 1 * k.val = 512 * (t.val % 11) + k.val; rw [(index_wo t).1]; omega
    | ⟨1, _⟩ => show win0_4.index t 1 * 2048 + 1 * l.val = l.val; rw [(index_wo t).2]; omega
  rw [e, V_wo, padRows_at]
  rfl

end Cert.FfnIdeal.Host
end
-- ==== Proof.FfnAcc.lean ====
/-
  The feed-forward kernel's result, element by element: the running sums over the eleven column tiles, collected into
  one sum over the hidden columns.
-/
module

public import proofs.«01_k».proof.Proof.FfnBody
public import proofs.«01_k».proof.Proof.FfnHost

@[expose] public section

set_option maxRecDepth 16384

noncomputable section

namespace Cert.FfnIdeal.Acc

open Cert.FfnIdeal Cert.FfnIdeal.Gen Cert.FfnIdeal.Body Cert.FfnIdeal.Host Idealize.ShloMosaic Idealize.ShloMosaic.TcCoe Idealize.SL.Sem

variable (m : (ℓ : Loc nD τ sig) → Buf (Elt Ideal) ℓ) (c : Dev nD)

/-- Row `R` after the root-mean-square norm and its weight. -/
def nrm (R : ℕ) (d : Fin 2048) : EReal :=
  xN m c R d * Ideal.rsqrt ((∑ e : Fin 2048, xN m c R e * xN m c R e) * Ideal.ofBits .f32 973078528#32 + Ideal.ofBits .f32 897988541#32)
    * (m (c, main_arg2) : Vec Ideal S2048 .f32) (ix1 d)

/-- The gated hidden activation of row `R`, column `f`. -/
def hid (R f : ℕ) : EReal :=
  (∑ d : Fin 2048, nrm m c R d * waN m c d f) * Ideal.logistic (∑ d : Fin 2048, nrm m c R d * waN m c d f)
    * ∑ d : Fin 2048, nrm m c R d * wbN m c d f

theorem pay1_block (t : Fin cfg0.N) (r : Fin 512) (d : Fin 2048) :
    k0_pay1 (iblk m c 0 t) (iblk m c 1 t) (ix2 r d) = nrm m c (512 * (t.val / 11) + r.val) d := by
  have e : ∀ (x : Vec Ideal S512x2048 .f32) (g : Vec Ideal S1x2048 .f32), k0_pay1 x g (ix2 r d)
      = x (ix2 r d) * Ideal.rsqrt ((∑ e : Fin 2048, x (ix2 r e) * x (ix2 r e)) * Ideal.ofBits .f32 973078528#32 + Ideal.ofBits .f32 897988541#32)
        * g (ix2 0 d) := by
    intro x g
    pointwise [k0_pay1]
  rw [e]
  simp only [rows_block, norm_block]
  rfl

/-- One tile's step at an element: the accumulator there plus the tile's part of the product. -/
theorem pay3_block (t : Fin cfg0.N) (n : Vec Ideal S512x2048 .bf16) (R : ℕ → ℕ) (hn : ∀ (r : Fin 512) (d : Fin 2048), n (ix2 r d) = nrm m c (R r.val) d)
    (z : Vec Ideal S512x2048 .f32) (r : Fin 512) (l : Fin 2048) :
    k0_pay3 n (iblk m c 2 t) (iblk m c 3 t) z (iblk m c 4 t) (ix2 r l)
      = z (ix2 r l) + ∑ k : Fin 512, hid m c (R r.val) (512 * (t.val % 11) + k.val) * woN m c (512 * (t.val % 11) + k.val) l := by
  have e : ∀ (wa wb : Vec Ideal S2048x512 .bf16) (wo : Vec Ideal S512x2048 .bf16), k0_pay3 n wa wb z wo (ix2 r l)
      = z (ix2 r l) + ∑ k : Fin 512, ((∑ d : Fin 2048, n (ix2 r d) * wa (ix2 d k)) * Ideal.logistic (∑ d : Fin 2048, n (ix2 r d) * wa (ix2 d k)) *
            ∑ d : Fin 2048, n (ix2 r d) * wb (ix2 d k)) * wo (ix2 k l) := by
    intro wa wb wo
    pointwise [k0_pay3]
  rw [e]
  simp only [wa_block, wb_block, wo_block, hn]
  rfl

theorem pay2_at (r : Fin 512) (l : Fin 2048) : (k0_pay2 : FVec Ideal S512x2048 .f32) (ix2 r l) = (0 : EReal) := by
  pointwise [k0_pay2]

theorem pay4_at (x y : Vec Ideal S512x2048 .f32) (r : Fin 512) (l : Fin 2048) :
    k0_pay4 x y (ix2 r l) = x (ix2 r l) + Ideal.ofBits .f32 1056964608#32 * y (ix2 r l) := by
  pointwise [k0_pay4]

/-- Through a row tile's points the scratch holds the tile's normalized rows and the accumulator the sum over the
    column tiles so far. -/
theorem sweep (q : ℕ) : ∀ (j : ℕ) (hj : j < 11) (h : 11 * q + j < cfg0.N),
    (∀ (r : Fin 512) (d : Fin 2048), (outsAt0 m c (11 * q + j) h).2.1 (ix2 r d) = nrm m c (512 * q + r.val) d)
    ∧ (∀ (r : Fin 512) (l : Fin 2048), (outsAt0 m c (11 * q + j) h).2.2 (ix2 r l)
        = ∑ s ∈ Finset.range (j + 1), ∑ k : Fin 512, hid m c (512 * q + r.val) (512 * s + k.val) * woN m c (512 * s + k.val) l)
  | 0, hj, h => by
    have hA := outsAt0_A m c ⟨11 * q + 0, h⟩ (by show (11 * q + 0) % 11 = 0; omega) (by show ¬(11 * q + 0) % 11 = 10; omega)
    have hq : (11 * q + 0) / 11 = q := by omega
    have hr : (11 * q + 0) % 11 = 0 := by omega
    have hn : ∀ (r : Fin 512) (d : Fin 2048), k0_pay1 (iblk m c 0 ⟨11 * q + 0, h⟩) (iblk m c 1 ⟨11 * q + 0, h⟩) (ix2 r d) = nrm m c (512 * q + r.val) d := by
      intro r d
      rw [pay1_block]
      show nrm m c (512 * ((11 * q + 0) / 11) + r.val) d = _
      rw [hq]
    constructor
    · intro r d
      rw [hA]
      dsimp only
      rw [rows_A]
      exact hn r d
    · intro r l
      rw [hA]
      dsimp only
      rw [acc_A, pay3_block m c _ _ (fun r => 512 * q + r) hn, pay2_at, zero_add, Finset.sum_range_one]
      show (∑ k : Fin 512, hid m c (512 * q + r.val) (512 * ((11 * q + 0) % 11) + k.val) * woN m c (512 * ((11 * q + 0) % 11) + k.val) l) = _
      rw [hr]
  | j + 1, hj, h => by
    obtain ⟨ih1, ih2⟩ := sweep q j (by omega) (by omega)
    have hr : (11 * q + (j + 1)) % 11 = j + 1 := by omega
    have e : 11 * q + (j + 1) - 1 = 11 * q + j := by omega
    have step : ∀ (r : Fin 512) (l : Fin 2048), k0_pay3 (outsAt0 m c (11 * q + j) (by omega)).2.1 (iblk m c 2 ⟨11 * q + (j + 1), h⟩) (iblk m c 3 ⟨11 * q + (j + 1), h⟩)
          (outsAt0 m c (11 * q + j) (by omega)).2.2 (iblk m c 4 ⟨11 * q + (j + 1), h⟩) (ix2 r l)
        = ∑ s ∈ Finset.range (j + 1 + 1), ∑ k : Fin 512, hid m c (512 * q + r.val) (512 * s + k.val) * woN m c (512 * s + k.val) l := by
      intro r l
      rw [pay3_block m c _ _ (fun r => 512 * q + r) ih1, ih2, Finset.sum_range_succ _ (j + 1)]
      show _ + (∑ k : Fin 512, hid m c (512 * q + r.val) (512 * ((11 * q + (j + 1)) % 11) + k.val) * woN m c (512 * ((11 * q + (j + 1)) % 11) + k.val) l) = _
      rw [hr]
    by_cases hl : j + 1 = 10
    · have hC := outsAt0_C m c ⟨11 * q + (j + 1), h⟩ (by show ¬(11 * q + (j + 1)) % 11 = 0; omega) (by show (11 * q + (j + 1)) % 11 = 10; omega)
      constructor
      · intro r d
        rw [hC]
        exact ih1 r d
      · intro r l
        rw [hC]
        dsimp only
        rw [acc_C]
        exact step r l
    · have hB := outsAt0_B m c ⟨11 * q + (j + 1), h⟩ (by show ¬(11 * q + (j + 1)) % 11 = 0; omega) (by show ¬(11 * q + (j + 1)) % 11 = 10; omega)
      constructor
      · intro r d
        rw [hB]
        exact ih1 r d
      · intro r l
        rw [hB]
        dsimp only
        rw [acc_B]
        exact step r l

/-- The output block of row tile `q`, stored at its last point. -/
theorem out_at (q : ℕ) (h : 11 * q + 10 < cfg0.N) (r : Fin 512) (l : Fin 2048) :
    (outsAt0 m c (11 * q + 10) h).1 (ix2 r l)
      = xN m c (512 * q + r.val) l + Ideal.ofBits .f32 1056964608#32
          * ∑ s ∈ Finset.range 11, ∑ k : Fin 512, hid m c (512 * q + r.val) (512 * s + k.val) * woN m c (512 * s + k.val) l := by
  have hC := outsAt0_C m c ⟨11 * q + 10, h⟩ (by show ¬(11 * q + 10) % 11 = 0; omega) (by show (11 * q + 10) % 11 = 10; omega)
  have hs := (sweep m c q 10 (by omega) h).2 r l
  rw [hC] at hs ⊢
  dsimp only at hs ⊢
  rw [acc_C] at hs
  rw [out_C, pay4_at, hs, rows_block]
  show xN m c (512 * ((11 * q + 10) / 11) + r.val) l + _ = _
  rw [show (11 * q + 10) / 11 = q by omega]

/-- Eleven tiles of 512 columns are the 5504 columns of the weight: the columns past its end contribute nothing. -/
theorem sum_tiles (R : ℕ) (l : Fin 2048) :
    ∑ s ∈ Finset.range 11, ∑ k : Fin 512, hid m c R (512 * s + k.val) * woN m c (512 * s + k.val) l
      = ∑ f : Fin 5504, hid m c R f.val * woN m c f.val l := by
  have h1 : ∑ f : Fin 5632, hid m c R f.val * woN m c f.val l = ∑ f : Fin 5504, hid m c R f.val * woN m c f.val l := by
    rw [Fin.sum_univ_two_halves 5504 128 (by norm_num)]
    rw [Finset.sum_eq_zero (s := (Finset.univ : Finset (Fin 128))), add_zero]
    intro k _
    show hid m c R (5504 + k.val) * woN m c (5504 + k.val) l = 0
    rw [woN, dif_neg (by omega), mul_zero]
  rw [← h1, Fin.sum_univ_tiles 11 512 (by norm_num), ← Fin.sum_univ_eq_sum_range (fun s => ∑ k : Fin 512, hid m c R (512 * s + k.val) * woN m c (512 * s + k.val) l) 11]
  refine Finset.sum_congr rfl fun s _ => Finset.sum_congr rfl fun k _ => ?_
  show _ = hid m c R (s.val * 512 + k.val) * woN m c (s.val * 512 + k.val) l
  rw [Nat.mul_comm 512 s.val]

/-- The result array, element by element. -/
theorem G5_at (R : Fin 8704) (l : Fin 2048) :
    (Cert.FfnIdeal.Value.G5 m c : Vec Ideal S8704x2048 .f32) (ix2 R l)
      = xN m c R.val l + Ideal.ofBits .f32 1056964608#32 * ∑ f : Fin 5504, hid m c R.val f.val * woN m c f.val l := by
  have hR := R.isLt
  have hp : Cert.FfnIdeal.Value.pt5Of (ix2 R l) = 11 * (R.val / 512) + 10 := by
    show 11 * (1 * (R.val / 512 - 0) + 1 * (l.val / 2048 - 0)) + 10 = _
    rw [Nat.div_eq_of_lt l.isLt]
    omega
  have hl : Cert.FfnIdeal.Value.loc5Of (ix2 R l) = ix2 ⟨R.val % 512, by omega⟩ l := by
    funext a
    apply Fin.ext
    match a with
    | ⟨0, _⟩ => rfl
    | ⟨1, _⟩ => exact Nat.mod_eq_of_lt l.isLt
  have hN : Cert.FfnIdeal.Value.pt5Of (ix2 R l) < cfg0.N := by
    rw [hp, show cfg0.N = 187 from N_0]
    omega
  have key : ∀ (n : ℕ) (hn : n < cfg0.N), n = 11 * (R.val / 512) + 10 →
      (outsAt0 m c n hn).1 (ix2 ⟨R.val % 512, by omega⟩ l)
        = xN m c R.val l + Ideal.ofBits .f32 1056964608#32 * ∑ f : Fin 5504, hid m c R.val f.val * woN m c f.val l := by
    rintro n hn rfl
    rw [out_at]
    have e : 512 * (R.val / 512) + R.val % 512 = R.val := Nat.div_add_mod _ _
    show xN m c (512 * (R.val / 512) + R.val % 512) l + _ * (∑ s ∈ Finset.range 11, ∑ k : Fin 512, hid m c (512 * (R.val / 512) + R.val % 512) (512 * s + k.val) * woN m c (512 * s + k.val) l) = _
    rw [e, sum_tiles]
  show (if h : Cert.FfnIdeal.Value.pt5Of (ix2 R l) < cfg0.N then _ else _) = _
  rw [dif_pos hN, ← Cert.FfnIdeal.Value.outsAt0_sweep, hl]
  exact key _ hN hp

end Cert.FfnIdeal.Acc
end
-- ==== Proof.FfnRef.lean ====
/-
  The feed-forward reference, element by element, and the agreement of its arithmetic with the kernel's: the mean as a
  division against the mean as a product with the reciprocal, the gate written out against the logistic.
-/
module

public import proofs.«01_k».proof.Proof.Consts
public import proofs.«01_k».proof.Proof.FfnAcc
public import proofs.«01_k».proof.Proof.Gen.FfnReferenceIdeal.Run

@[expose] public section

set_option maxRecDepth 16384

noncomputable section

namespace Cert.FfnReferenceIdeal.Read

open Cert.FfnReferenceIdeal Cert.FfnReferenceIdeal.Gen Idealize.ShloMosaic Idealize.ShloMosaic.TcCoe Idealize.SL.Sem

/-- The prompt's rows after the norm. -/
def normP (x : Vec Ideal S2x4096x2048 .f32) (g : Vec Ideal S2048 .f32) : FVec Ideal S2x4096x2048 .f32 :=
  mulf (mulf x (broadcastInDim S2x4096x2048 ![0, 1, 2] bcast_S2x4096x1_S2x4096x2048_0_1_2 (Host.rsqrt (addf (Host.divf (broadcastInDim S2x4096x1 ![0, 1] bcast_S2x4096_S2x4096x1_0_1 (Host.reduceAdd (mulf x x) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x358637BD#32)))))) (broadcastInDim S2x4096x2048 ![0, 1, 2] bcast_S1x1x2048_S2x4096x2048_0_1_2 (broadcastInDim S1x1x2048 ![2] bcast_S2048_S1x1x2048_2 g))

/-- Their product with the input weight. -/
def projP (n : FVec Ideal S2x4096x2048 .f32) (w : FVec Ideal S2048x11008 .f32) : FVec Ideal S2x4096x11008 .f32 :=
  Host.dotGeneral dot_S2x4096x2048_S2048x11008_S2x4096x11008_2_0_01_1_n_n none n w

/-- The gated activation of the two halves. -/
def gateP (h : FVec Ideal S2x4096x11008 .f32) : FVec Ideal S2x4096x5504 .f32 :=
  mulf (mulf (extractStridedSlice S2x4096x5504 ![0, 0, 0] h slices_S2x4096x11008_S2x4096x5504_0_0_0) (Host.divf (broadcastInDim S2x4096x5504 ![] bcast_S_S2x4096x5504 (constant S_ .f32 0x3F800000#32)) (addf (broadcastInDim S2x4096x5504 ![] bcast_S_S2x4096x5504 (constant S_ .f32 0x3F800000#32)) (Host.exp (Host.negf (extractStridedSlice S2x4096x5504 ![0, 0, 0] h slices_S2x4096x11008_S2x4096x5504_0_0_0)))))) (extractStridedSlice S2x4096x5504 ![0, 0, 5504] h slices_S2x4096x11008_S2x4096x5504_0_0_5504)

/-- The rows plus half the product with the output weight. -/
def outP (x : Vec Ideal S2x4096x2048 .f32) (a : FVec Ideal S2x4096x5504 .f32) (o : FVec Ideal S5504x2048 .f32) : FVec Ideal S2x4096x2048 .f32 :=
  addf x (mulf (broadcastInDim S2x4096x2048 ![] bcast_S_S2x4096x2048 (constant S_ .f32 0x3F000000#32)) (Host.dotGeneral dot_S2x4096x5504_S5504x2048_S2x4096x2048_2_0_01_1_n_n none a o))

theorem normP_at (x : Vec Ideal S2x4096x2048 .f32) (g : Vec Ideal S2048 .f32) (i : Fin 2) (j : Fin 4096) (d : Fin 2048) :
    normP x g (ix3 i j d) = x (ix3 i j d) * Ideal.rsqrt (Ideal.div (∑ e : Fin 2048, x (ix3 i j e) * x (ix3 i j e)) (Ideal.ofBits .f32 0x45000000#32) + Ideal.ofBits .f32 0x358637BD#32) * g (ix1 d) := by
  pointwise [normP]

theorem projP_at (n : FVec Ideal S2x4096x2048 .f32) (w : FVec Ideal S2048x11008 .f32) (i : Fin 2) (j : Fin 4096) (f : Fin 11008) :
    projP n w (ix3 i j f) = ∑ d : Fin 2048, n (ix3 i j d) * w (ix2 d f) := by
  pointwise [projP]

theorem gateP_at (h : FVec Ideal S2x4096x11008 .f32) (i : Fin 2) (j : Fin 4096) (f : Fin 5504) :
    gateP h (ix3 i j f) = h (ix3 i j ⟨f.val, by omega⟩) * Ideal.logistic (h (ix3 i j ⟨f.val, by omega⟩)) * h (ix3 i j ⟨5504 + f.val, by omega⟩) := by
  pointwise [gateP]
  try rfl

theorem outP_at (x : Vec Ideal S2x4096x2048 .f32) (a : FVec Ideal S2x4096x5504 .f32) (o : FVec Ideal S5504x2048 .f32) (i : Fin 2) (j : Fin 4096) (l : Fin 2048) :
    outP x a o (ix3 i j l) = x (ix3 i j l) + Ideal.ofBits .f32 0x3F000000#32 * ∑ f : Fin 5504, a (ix3 i j f) * o (ix2 f l) := by
  pointwise [outP]

/-- The sample's rows after the norm. -/
def normS (x : Vec Ideal S128x4x2048 .f32) (g : Vec Ideal S2048 .f32) : FVec Ideal S128x4x2048 .f32 :=
  mulf (mulf x (broadcastInDim S128x4x2048 ![0, 1, 2] bcast_S128x4x1_S128x4x2048_0_1_2 (Host.rsqrt (addf (Host.divf (broadcastInDim S128x4x1 ![0, 1] bcast_S128x4_S128x4x1_0_1 (Host.reduceAdd (mulf x x) (constant S_ .f32 0x00000000#32) reducesTo_S128x4x2048_S128x4_d2 h_S_)) (broadcastInDim S128x4x1 ![] bcast_S_S128x4x1 (constant S_ .f32 0x45000000#32))) (broadcastInDim S128x4x1 ![] bcast_S_S128x4x1 (constant S_ .f32 0x358637BD#32)))))) (broadcastInDim S128x4x2048 ![0, 1, 2] bcast_S1x1x2048_S128x4x2048_0_1_2 (broadcastInDim S1x1x2048 ![2] bcast_S2048_S1x1x2048_2 g))

/-- Their product with the input weight. -/
def projS (n : FVec Ideal S128x4x2048 .f32) (w : FVec Ideal S2048x11008 .f32) : FVec Ideal S128x4x11008 .f32 :=
  Host.dotGeneral dot_S128x4x2048_S2048x11008_S128x4x11008_2_0_01_1_n_n none n w

/-- The gated activation of the two halves. -/
def gateS (h : FVec Ideal S128x4x11008 .f32) : FVec Ideal S128x4x5504 .f32 :=
  mulf (mulf (extractStridedSlice S128x4x5504 ![0, 0, 0] h slices_S128x4x11008_S128x4x5504_0_0_0) (Host.divf (broadcastInDim S128x4x5504 ![] bcast_S_S128x4x5504 (constant S_ .f32 0x3F800000#32)) (addf (broadcastInDim S128x4x5504 ![] bcast_S_S128x4x5504 (constant S_ .f32 0x3F800000#32)) (Host.exp (Host.negf (extractStridedSlice S128x4x5504 ![0, 0, 0] h slices_S128x4x11008_S128x4x5504_0_0_0)))))) (extractStridedSlice S128x4x5504 ![0, 0, 5504] h slices_S128x4x11008_S128x4x5504_0_0_5504)

/-- The rows plus half the product with the output weight. -/
def outS (x : Vec Ideal S128x4x2048 .f32) (a : FVec Ideal S128x4x5504 .f32) (o : FVec Ideal S5504x2048 .f32) : FVec Ideal S128x4x2048 .f32 :=
  addf x (mulf (broadcastInDim S128x4x2048 ![] bcast_S_S128x4x2048 (constant S_ .f32 0x3F000000#32)) (Host.dotGeneral dot_S128x4x5504_S5504x2048_S128x4x2048_2_0_01_1_n_n none a o))

theorem normS_at (x : Vec Ideal S128x4x2048 .f32) (g : Vec Ideal S2048 .f32) (i : Fin 128) (j : Fin 4) (d : Fin 2048) :
    normS x g (ix3 i j d) = x (ix3 i j d) * Ideal.rsqrt (Ideal.div (∑ e : Fin 2048, x (ix3 i j e) * x (ix3 i j e)) (Ideal.ofBits .f32 0x45000000#32) + Ideal.ofBits .f32 0x358637BD#32) * g (ix1 d) := by
  pointwise [normS]

theorem projS_at (n : FVec Ideal S128x4x2048 .f32) (w : FVec Ideal S2048x11008 .f32) (i : Fin 128) (j : Fin 4) (f : Fin 11008) :
    projS n w (ix3 i j f) = ∑ d : Fin 2048, n (ix3 i j d) * w (ix2 d f) := by
  pointwise [projS]

theorem gateS_at (h : FVec Ideal S128x4x11008 .f32) (i : Fin 128) (j : Fin 4) (f : Fin 5504) :
    gateS h (ix3 i j f) = h (ix3 i j ⟨f.val, by omega⟩) * Ideal.logistic (h (ix3 i j ⟨f.val, by omega⟩)) * h (ix3 i j ⟨5504 + f.val, by omega⟩) := by
  pointwise [gateS]
  try rfl

theorem outS_at (x : Vec Ideal S128x4x2048 .f32) (a : FVec Ideal S128x4x5504 .f32) (o : FVec Ideal S5504x2048 .f32) (i : Fin 128) (j : Fin 4) (l : Fin 2048) :
    outS x a o (ix3 i j l) = x (ix3 i j l) + Ideal.ofBits .f32 0x3F000000#32 * ∑ f : Fin 5504, a (ix3 i j f) * o (ix2 f l) := by
  pointwise [outS]

variable (m : (ℓ : Loc nD τ sig) → Buf (Elt Ideal) ℓ) (c : Dev nD)

theorem res_eq : (Cert.FfnReferenceIdeal.Value.res_out0 m c : Vec Ideal S8704x2048 .f32)
    = concatenate S8704x2048 0 [
        ⟨S8192x2048, shapeCast S8192x2048 (outP (m (c, main_arg0)) (gateP (projP (normP (m (c, main_arg0)) (m (c, main_arg2))) (m (c, main_arg3)))) (m (c, main_arg4))) shapeCasts_S2x4096x2048_S8192x2048⟩,
        ⟨S512x2048, shapeCast S512x2048 (outS (m (c, main_arg1)) (gateS (projS (normS (m (c, main_arg1)) (m (c, main_arg2))) (m (c, main_arg3)))) (m (c, main_arg4))) shapeCasts_S128x4x2048_S512x2048⟩]
        concatenates_S8192x2048_S512x2048_S8704x2048_d0 := rfl

theorem stack_at (x : Vec Ideal S2x4096x2048 .f32) (y : Vec Ideal S128x4x2048 .f32) (r : Fin 8704) (d : Fin 2048) :
    (concatenate S8704x2048 0 [⟨S8192x2048, shapeCast S8192x2048 x shapeCasts_S2x4096x2048_S8192x2048⟩, ⟨S512x2048, shapeCast S512x2048 y shapeCasts_S128x4x2048_S512x2048⟩] concatenates_S8192x2048_S512x2048_S8704x2048_d0 : Vec Ideal S8704x2048 .f32) (ix2 r d)
      = if h : r.val < 8192 then x (ix3 ⟨r.val / 4096, by omega⟩ ⟨r.val % 4096, by omega⟩ d)
        else y (ix3 ⟨(r.val - 8192) / 4, by omega⟩ ⟨(r.val - 8192) % 4, by omega⟩ d) := by
  pointwise

/-- A sum over 2048 lanes divided by 2048 is the sum times the reciprocal. -/
theorem mean_eq (s : EReal) : Ideal.div s (Ideal.ofBits .f32 0x45000000#32) = s * Ideal.ofBits .f32 973078528#32 := by
  rw [Consts.f32_2048, Consts.f32_inv_2048]
  exact Ideal.div_coe (by norm_num : (2048 : ℝ) ≠ 0) s

end Cert.FfnReferenceIdeal.Read
end
-- ==== Proof.FfnClaim.lean ====
/-
  The feed-forward value claim: over the extended reals the kernel's result is the reference's, at every element.
-/
module

public import proofs.«01_k».proof.Defs
public import proofs.«01_k».proof.Proof.FfnRef

@[expose] public section

set_option maxRecDepth 16384

noncomputable section

namespace Cert.FfnProof

open Idealize.ShloMosaic Idealize.ShloMosaic.TcCoe Idealize.SL.Sem
open Cert.FfnIdeal.Host (xN waN wbN woN)
open Cert.FfnIdeal.Acc (nrm hid)
open Cert.FfnReferenceIdeal.Read

section
variable (m : (ℓ : Loc Cert.FfnIdeal.nD Cert.FfnIdeal.τ Cert.FfnIdeal.sig) → Buf (Elt Ideal) ℓ) (c : Dev Cert.FfnIdeal.nD)
  (x0 : Vec Ideal Cert.FfnReferenceIdeal.S2x4096x2048 .f32) (x1 : Vec Ideal Cert.FfnReferenceIdeal.S128x4x2048 .f32)
  (x2 : Vec Ideal Cert.FfnReferenceIdeal.S2048 .f32) (x3 : Vec Ideal Cert.FfnReferenceIdeal.S2048x11008 .f32)
  (x4 : Vec Ideal Cert.FfnReferenceIdeal.S5504x2048 .f32)
  (h0 : x0 = m (c, Cert.FfnIdeal.main_arg0)) (h1 : x1 = m (c, Cert.FfnIdeal.main_arg1)) (h2 : x2 = m (c, Cert.FfnIdeal.main_arg2))
  (h3 : x3 = m (c, Cert.FfnIdeal.main_arg3)) (h4 : x4 = m (c, Cert.FfnIdeal.main_arg4))

include h0 h2 h3 h4 in
/-- A prompt row of the reference is the kernel's row. -/
theorem prompt_row (R : ℕ) (hR : R < 8192) (l : Fin 2048) :
    outP x0 (gateP (projP (normP x0 x2) x3)) x4 (ix3 ⟨R / 4096, by omega⟩ ⟨R % 4096, by omega⟩ l)
      = xN m c R l + Ideal.ofBits .f32 1056964608#32 * ∑ f : Fin 5504, hid m c R f.val * woN m c f.val l := by
  have hx : ∀ d : Fin 2048, x0 (ix3 ⟨R / 4096, by omega⟩ ⟨R % 4096, by omega⟩ d) = xN m c R d := by
    intro d
    rw [xN, dif_pos hR, h0]
  have hn : ∀ d : Fin 2048, normP x0 x2 (ix3 ⟨R / 4096, by omega⟩ ⟨R % 4096, by omega⟩ d) = nrm m c R d := by
    intro d
    rw [normP_at, mean_eq]
    simp only [hx, h2]
    rfl
  have hw : ∀ f : Fin 5504, gateP (projP (normP x0 x2) x3) (ix3 ⟨R / 4096, by omega⟩ ⟨R % 4096, by omega⟩ f) = hid m c R f.val := by
    intro f
    have ha : ∀ d : Fin 2048, x3 (ix2 d ⟨f.val, by omega⟩) = waN m c d f.val := fun d => by rw [waN, dif_pos f.isLt, h3]
    have hb : ∀ d : Fin 2048, x3 (ix2 d ⟨5504 + f.val, by omega⟩) = wbN m c d f.val := fun d => by rw [wbN, dif_pos f.isLt, h3]
    rw [gateP_at, projP_at, projP_at]
    simp only [hn, ha, hb]
    rfl
  have ho : ∀ f : Fin 5504, x4 (ix2 f l) = woN m c f.val l := fun f => by rw [woN, dif_pos f.isLt, h4]
  rw [outP_at]
  simp only [hx, hw, ho]

include h1 h2 h3 h4 in
/-- A sample row of the reference is the kernel's row. -/
theorem sample_row (R : ℕ) (hl : ¬R < 8192) (hR : R < 8704) (l : Fin 2048) :
    outS x1 (gateS (projS (normS x1 x2) x3)) x4 (ix3 ⟨(R - 8192) / 4, by omega⟩ ⟨(R - 8192) % 4, by omega⟩ l)
      = xN m c R l + Ideal.ofBits .f32 1056964608#32 * ∑ f : Fin 5504, hid m c R f.val * woN m c f.val l := by
  have hx : ∀ d : Fin 2048, x1 (ix3 ⟨(R - 8192) / 4, by omega⟩ ⟨(R - 8192) % 4, by omega⟩ d) = xN m c R d := by
    intro d
    rw [xN, dif_neg hl, dif_pos hR, h1]
  have hn : ∀ d : Fin 2048, normS x1 x2 (ix3 ⟨(R - 8192) / 4, by omega⟩ ⟨(R - 8192) % 4, by omega⟩ d) = nrm m c R d := by
    intro d
    rw [normS_at, mean_eq]
    simp only [hx, h2]
    rfl
  have hw : ∀ f : Fin 5504, gateS (projS (normS x1 x2) x3) (ix3 ⟨(R - 8192) / 4, by omega⟩ ⟨(R - 8192) % 4, by omega⟩ f) = hid m c R f.val := by
    intro f
    have ha : ∀ d : Fin 2048, x3 (ix2 d ⟨f.val, by omega⟩) = waN m c d f.val := fun d => by rw [waN, dif_pos f.isLt, h3]
    have hb : ∀ d : Fin 2048, x3 (ix2 d ⟨5504 + f.val, by omega⟩) = wbN m c d f.val := fun d => by rw [wbN, dif_pos f.isLt, h3]
    rw [gateS_at, projS_at, projS_at]
    simp only [hn, ha, hb]
    rfl
  have ho : ∀ f : Fin 5504, x4 (ix2 f l) = woN m c f.val l := fun f => by rw [woN, dif_pos f.isLt, h4]
  rw [outS_at]
  simp only [hx, hw, ho]
end

/-- The two results are one array where the arguments agree. -/
theorem results_eq (m : (ℓ : Loc Cert.FfnIdeal.nD Cert.FfnIdeal.τ Cert.FfnIdeal.sig) → Buf (Elt Ideal) ℓ)
    (m' : (ℓ : Loc Cert.FfnReferenceIdeal.nD Cert.FfnReferenceIdeal.τ Cert.FfnReferenceIdeal.sig) → Buf (Elt Ideal) ℓ) (c : Dev Cert.FfnIdeal.nD)
    (h0 : m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0))
    (h1 : m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1))
    (h2 : m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2))
    (h3 : m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3))
    (h4 : m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)) :
    (Cert.FfnReferenceIdeal.Value.res_out0 m' c : Vec Ideal Cert.FfnReferenceIdeal.S8704x2048 .f32)
      = (Cert.FfnIdeal.Value.G5 m c : Vec Ideal Cert.FfnIdeal.S8704x2048 .f32) := by
  have key : ∀ (R : Fin 8704) (l : Fin 2048),
      (Cert.FfnReferenceIdeal.Value.res_out0 m' c : Vec Ideal Cert.FfnReferenceIdeal.S8704x2048 .f32) (ix2 R l)
        = (Cert.FfnIdeal.Value.G5 m c : Vec Ideal Cert.FfnIdeal.S8704x2048 .f32) (ix2 R l) := by
    intro R l
    rw [res_eq, stack_at, Cert.FfnIdeal.Acc.G5_at]
    by_cases hR : R.val < 8192
    · rw [dif_pos hR]
      exact prompt_row m c _ _ _ _ h0 h2 h3 h4 R.val hR l
    · rw [dif_neg hR]
      exact sample_row m c _ _ _ _ h1 h2 h3 h4 R.val hR R.isLt l
  funext j
  have e : j = ix2 (j 0) (j 1) := by funext a; match a with | ⟨0, _⟩ => rfl | ⟨1, _⟩ => rfl
  rw [e]
  exact key (j 0) (j 1)

theorem algebraic : @Cert.algebraic_FfnIdeal_FfnReferenceIdeal Cert.FfnIdeal.Gen.facts Cert.FfnReferenceIdeal.Gen.facts :=
  fun m ρ m' ρ' _ hag => ⟨fun c => Cert.FfnIdeal.Value.G5 m c, Cert.FfnIdeal.Value.run m ρ,
    (θ_run _ _ _).mono (fun _ h c => ⟨(h c).1.trans (results_eq m m' c (hag c).1 (hag c).2.1 (hag c).2.2.1 (hag c).2.2.2.1 (hag c).2.2.2.2), (h c).2⟩)
      (Cert.FfnReferenceIdeal.Value.run m' ρ')⟩

end Cert.FfnProof
end
-- ==== Proof.AttnBody.lean ====
/-
  The attention kernel's body, read as values. One loop trip reads a block of 1024 keys and carries the three
  accumulators (weighted sum, running maximum, running normalizer) one step; the body runs the blocks that meet the
  diagonal first and the blocks wholly below it after, and divides at the end.
-/
module

public import proofs.«01_k».proof.Proof.Gen.KernelIdeal.Value
public import Idealize.ShloMosaic.Lib.Tactic

@[expose] public section

set_option maxRecDepth 16384

noncomputable section

namespace Cert.KernelIdeal.Body

open Cert.KernelIdeal Cert.KernelIdeal.Gen Idealize.ShloMosaic Idealize.ShloMosaic.TcCoe Idealize.SL.Sem

variable {F : FTy → Type} [FloatOps F] [Named F]

theorem hz2 : (![0, 0] : Fin 2 → Nat) = fun _ => 0 := funext fun a => by fin_cases a <;> rfl
theorem hz3 : (![0, 0, 0] : Fin 3 → Nat) = fun _ => 0 := funext fun a => by fin_cases a <;> rfl

/-- A store through the whole shape, made last, is what is read afterwards. -/
theorem read_whole {S : Shape} {e : EltTy} {sp : Space} (v : View sig .tc sp S e) (f : v.ty.Contents (Elt F))
    {off : Fin S.rank → Nat} (hz : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w := by
  subst hz
  rw [View.read_writes_eq_canon _ _ _ (fun y => ⟨_, List.mem_cons_self, by
    show y ∈ (Rect.whole S).set; rw [Rect.set_whole]; exact Finset.mem_univ y⟩), View.canon_cons_unit_zero rfl]

/-- The three accumulators: the weighted sum, the running maximum, the running normalizer. -/
abbrev Acc (F : FTy → Type) [FloatOps F] : Type := Vec F S512x128 .f32 × Vec F S4x128x1 .f32 × Vec F S4x128x1 .f32

/-- One trip over a block of keys that meets the diagonal. -/
def maskedStep (i : grid0.Coords) (v0 : BitVec 32) (v12 : FVec F S512x256 .bf16) (v27 : IVec S128x1024 32) (v47 c0 : BitVec 32)
    (k : Fin (k0_t1_loop i).trips) (kv : Vec F S1x1024x256 .bf16) (s : Acc F) : Acc F :=
  (k0_pay38 (k0_pay3 kv) (k0_pay7 i v0 v12 v27 v47 c0 1#32 k kv s.2.1) (k0_pay8 i v0 v12 v27 v47 c0 1#32 k kv s.2.1) s.1,
   k0_pay39 (k0_pay6 i v0 v12 v27 v47 c0 1#32 k kv s.2.1),
   k0_pay37 (k0_pay9 i v0 v12 v27 v47 c0 1#32 k kv s.2.1 s.2.2))

/-- One trip over a block of keys wholly below the diagonal. -/
def fullStep (v12 : FVec F S512x256 .bf16) (kv : Vec F S1x1024x256 .bf16) (s : Acc F) : Acc F :=
  (k0_pay43 (k0_pay24 v12 kv s.2.1 s.1), k0_pay44 (k0_pay20 v12 kv s.2.1), k0_pay23 v12 kv s.2.1 s.2.2)

section
variable (c : Dev nD) (i : grid0.Coords)
  (a2 : Memref sig .tc .vmem S1x128x1024 .f32) (h2 : a2.IsWhole) (a3 : Memref sig .tc .vmem S1x4096x256 .bf16) (h3 : a3.IsWhole)
  (a4 : Memref sig .tc .vmem S1x128x512 .f32) (h4 : a4.IsWhole) (a5 : Memref sig .tc .vmem S512x128 .f32) (h5 : a5.IsWhole)
  (a6 : Memref sig .tc .vmem S4x128x1 .f32) (h6 : a6.IsWhole) (a7 : Memref sig .tc .vmem S4x128x1 .f32) (h7 : a7.IsWhole)
  (x0 : Vec F S1x128x1024 .f32) (x1 : Vec F S1x4096x256 .bf16)

variable (v0 : BitVec 32) (v12 : FVec F S512x256 .bf16) (v27 : IVec S128x1024 32) (v47 v65 c0 v67 c1 : BitVec 32)
  (f5 : BufTy.Contents (Elt F) a5.view.ty) (f6 : BufTy.Contents (Elt F) a6.view.ty) (f7 : BufTy.Contents (Elt F) a7.view.ty)

theorem trip1_5 (k : Fin (k0_t1_loop i).trips) :
    a5.view.read (Elt F) (a5.view.writes (Elt F) f5 (tripL_k0_t1 (F := F) Variants.none c none i a2 h2 a3 h3 a4 h4 a5 h5 a6 h6 a7 h7 v0 v12 v27 v47 v65 c0 v67 c1 (h3.unread x1) k f5 f6 f7).1)
      = (maskedStep i v0 v12 v27 v47 c0 k (View.ld x1 (Rect.unit (s := S1x4096x256) (k0_off1 i k) S1x1024x256.size (k0_off1_inb i k))) (a5.view.read (Elt F) f5, a6.view.read (Elt F) f6, a7.view.read (Elt F) f7)).1 := by
  unfold tripL_k0_t1 trip_k0_t1
  dsimp only
  sl_unfold_words
  rw [read_whole _ _ hz2]
  simp only [View.readAt_eq_ld, h3.read_unread, View.ld_unit_zero (S := S512x128) hz2, View.ld_unit_zero (S := S4x128x1) hz3]
  rfl

theorem trip1_6 (k : Fin (k0_t1_loop i).trips) :
    a6.view.read (Elt F) (a6.view.writes (Elt F) f6 (tripL_k0_t1 (F := F) Variants.none c none i a2 h2 a3 h3 a4 h4 a5 h5 a6 h6 a7 h7 v0 v12 v27 v47 v65 c0 v67 c1 (h3.unread x1) k f5 f6 f7).2.1)
      = (maskedStep i v0 v12 v27 v47 c0 k (View.ld x1 (Rect.unit (s := S1x4096x256) (k0_off1 i k) S1x1024x256.size (k0_off1_inb i k))) (a5.view.read (Elt F) f5, a6.view.read (Elt F) f6, a7.view.read (Elt F) f7)).2.1 := by
  unfold tripL_k0_t1 trip_k0_t1
  dsimp only
  sl_unfold_words
  rw [read_whole _ _ hz3]
  simp only [View.readAt_eq_ld, h3.read_unread, View.ld_unit_zero (S := S512x128) hz2, View.ld_unit_zero (S := S4x128x1) hz3]
  rfl

theorem trip1_7 (k : Fin (k0_t1_loop i).trips) :
    a7.view.read (Elt F) (a7.view.writes (Elt F) f7 (tripL_k0_t1 (F := F) Variants.none c none i a2 h2 a3 h3 a4 h4 a5 h5 a6 h6 a7 h7 v0 v12 v27 v47 v65 c0 v67 c1 (h3.unread x1) k f5 f6 f7).2.2)
      = (maskedStep i v0 v12 v27 v47 c0 k (View.ld x1 (Rect.unit (s := S1x4096x256) (k0_off1 i k) S1x1024x256.size (k0_off1_inb i k))) (a5.view.read (Elt F) f5, a6.view.read (Elt F) f6, a7.view.read (Elt F) f7)).2.2 := by
  unfold tripL_k0_t1 trip_k0_t1
  dsimp only
  sl_unfold_words
  rw [read_whole _ _ hz3]
  simp only [View.readAt_eq_ld, h3.read_unread, View.ld_unit_zero (S := S512x128) hz2, View.ld_unit_zero (S := S4x128x1) hz3]
  rfl

theorem trip3_5 (k : Fin (k0_t3_loop i).trips) :
    a5.view.read (Elt F) (a5.view.writes (Elt F) f5 (tripL_k0_t3 (F := F) Variants.none c none i a2 h2 a3 h3 a4 h4 a5 h5 a6 h6 a7 h7 v0 v12 v27 v47 v65 c0 v67 c1 (h3.unread x1) k f5 f6 f7).1)
      = (fullStep v12 (View.ld x1 (Rect.unit (s := S1x4096x256) (k0_off3 i k) S1x1024x256.size (k0_off3_inb i k))) (a5.view.read (Elt F) f5, a6.view.read (Elt F) f6, a7.view.read (Elt F) f7)).1 := by
  unfold tripL_k0_t3 trip_k0_t3
  dsimp only
  sl_unfold_words
  rw [read_whole _ _ hz2]
  simp only [View.readAt_eq_ld, h3.read_unread, View.ld_unit_zero (S := S512x128) hz2, View.ld_unit_zero (S := S4x128x1) hz3]
  rfl

theorem trip3_6 (k : Fin (k0_t3_loop i).trips) :
    a6.view.read (Elt F) (a6.view.writes (Elt F) f6 (tripL_k0_t3 (F := F) Variants.none c none i a2 h2 a3 h3 a4 h4 a5 h5 a6 h6 a7 h7 v0 v12 v27 v47 v65 c0 v67 c1 (h3.unread x1) k f5 f6 f7).2.1)
      = (fullStep v12 (View.ld x1 (Rect.unit (s := S1x4096x256) (k0_off3 i k) S1x1024x256.size (k0_off3_inb i k))) (a5.view.read (Elt F) f5, a6.view.read (Elt F) f6, a7.view.read (Elt F) f7)).2.1 := by
  unfold tripL_k0_t3 trip_k0_t3
  dsimp only
  sl_unfold_words
  rw [read_whole _ _ hz3]
  simp only [View.readAt_eq_ld, h3.read_unread, View.ld_unit_zero (S := S512x128) hz2, View.ld_unit_zero (S := S4x128x1) hz3]
  rfl

theorem trip3_7 (k : Fin (k0_t3_loop i).trips) :
    a7.view.read (Elt F) (a7.view.writes (Elt F) f7 (tripL_k0_t3 (F := F) Variants.none c none i a2 h2 a3 h3 a4 h4 a5 h5 a6 h6 a7 h7 v0 v12 v27 v47 v65 c0 v67 c1 (h3.unread x1) k f5 f6 f7).2.2)
      = (fullStep v12 (View.ld x1 (Rect.unit (s := S1x4096x256) (k0_off3 i k) S1x1024x256.size (k0_off3_inb i k))) (a5.view.read (Elt F) f5, a6.view.read (Elt F) f6, a7.view.read (Elt F) f7)).2.2 := by
  unfold tripL_k0_t3 trip_k0_t3
  dsimp only
  sl_unfold_words
  rw [read_whole _ _ hz3]
  simp only [View.readAt_eq_ld, h3.read_unread, View.ld_unit_zero (S := S512x128) hz2, View.ld_unit_zero (S := S4x128x1) hz3]
  rfl

/-- The accumulators after the first `n` trips of the loop over the blocks that meet the diagonal. -/
def maskedRun (i : grid0.Coords) (x1 : Vec F S1x4096x256 .bf16) (v0 : BitVec 32) (v12 : FVec F S512x256 .bf16) (v27 : IVec S128x1024 32) (v47 c0 : BitVec 32) (s : Acc F) : ℕ → Acc F
  | 0 => s
  | n + 1 => if h : n < (k0_t1_loop i).trips then maskedStep i v0 v12 v27 v47 c0 ⟨n, h⟩ (View.ld x1 (Rect.unit (s := S1x4096x256) (k0_off1 i ⟨n, h⟩) S1x1024x256.size (k0_off1_inb i ⟨n, h⟩))) (maskedRun i x1 v0 v12 v27 v47 c0 s n) else maskedRun i x1 v0 v12 v27 v47 c0 s n

theorem run1 (n : ℕ) :
    a5.view.read (Elt F) (a5.view.writes (Elt F) f5 (pb_k0_t1 (F := F) Variants.none c none i a2 h2 a3 h3 a4 h4 a5 h5 a6 h6 a7 h7 v0 v12 v27 v47 v65 c0 v67 c1 (h3.unread x1) f5 f6 f7 n).1) = (maskedRun i x1 v0 v12 v27 v47 c0 (a5.view.read (Elt F) f5, a6.view.read (Elt F) f6, a7.view.read (Elt F) f7) n).1
    ∧ a6.view.read (Elt F) (a6.view.writes (Elt F) f6 (pb_k0_t1 (F := F) Variants.none c none i a2 h2 a3 h3 a4 h4 a5 h5 a6 h6 a7 h7 v0 v12 v27 v47 v65 c0 v67 c1 (h3.unread x1) f5 f6 f7 n).2.1) = (maskedRun i x1 v0 v12 v27 v47 c0 (a5.view.read (Elt F) f5, a6.view.read (Elt F) f6, a7.view.read (Elt F) f7) n).2.1
    ∧ a7.view.read (Elt F) (a7.view.writes (Elt F) f7 (pb_k0_t1 (F := F) Variants.none c none i a2 h2 a3 h3 a4 h4 a5 h5 a6 h6 a7 h7 v0 v12 v27 v47 v65 c0 v67 c1 (h3.unread x1) f5 f6 f7 n).2.2) = (maskedRun i x1 v0 v12 v27 v47 c0 (a5.view.read (Elt F) f5, a6.view.read (Elt F) f6, a7.view.read (Elt F) f7) n).2.2 := by
  induction n with
  | zero => exact ⟨rfl, rfl, rfl⟩
  | succ n ih =>
    obtain ⟨e5, e6, e7⟩ := ih
    by_cases h : n < (k0_t1_loop i).trips
    · have e := pb_k0_t1_succ (F := F) Variants.none c none i a2 h2 a3 h3 a4 h4 a5 h5 a6 h6 a7 h7 v0 v12 v27 v47 v65 c0 v67 c1 (h3.unread x1) f5 f6 f7 ⟨n, h⟩
      dsimp only at e
      rw [e]
      simp only [maskedRun, dif_pos h, View.writes_append]
      rw [trip1_5, trip1_6, trip1_7, e5, e6, e7]
      exact ⟨rfl, rfl, rfl⟩
    · have e : pb_k0_t1 (F := F) Variants.none c none i a2 h2 a3 h3 a4 h4 a5 h5 a6 h6 a7 h7 v0 v12 v27 v47 v65 c0 v67 c1 (h3.unread x1) f5 f6 f7 (n + 1) = pb_k0_t1 (F := F) Variants.none c none i a2 h2 a3 h3 a4 h4 a5 h5 a6 h6 a7 h7 v0 v12 v27 v47 v65 c0 v67 c1 (h3.unread x1) f5 f6 f7 n := by
        show pb_k0_t1Step (F := F) _ _ _ _ _ _ _ _ _ _ _ _ _ _ _ _ _ _ _ _ _ _ _ _ _ _ _ _ _ _ = _
        unfold pb_k0_t1Step
        exact dif_neg h
      rw [e]
      simp only [maskedRun, dif_neg h]
      exact ⟨e5, e6, e7⟩

/-- The accumulators after the first `n` trips of the loop over the blocks below the diagonal. -/
def fullRun (i : grid0.Coords) (x1 : Vec F S1x4096x256 .bf16) (v12 : FVec F S512x256 .bf16) (s : Acc F) : ℕ → Acc F
  | 0 => s
  | n + 1 => if h : n < (k0_t3_loop i).trips then fullStep v12 (View.ld x1 (Rect.unit (s := S1x4096x256) (k0_off3 i ⟨n, h⟩) S1x1024x256.size (k0_off3_inb i ⟨n, h⟩))) (fullRun i x1 v12 s n) else fullRun i x1 v12 s n

theorem run3 (n : ℕ) :
    a5.view.read (Elt F) (a5.view.writes (Elt F) f5 (pb_k0_t3 (F := F) Variants.none c none i a2 h2 a3 h3 a4 h4 a5 h5 a6 h6 a7 h7 v0 v12 v27 v47 v65 c0 v67 c1 (h3.unread x1) f5 f6 f7 n).1) = (fullRun i x1 v12 (a5.view.read (Elt F) f5, a6.view.read (Elt F) f6, a7.view.read (Elt F) f7) n).1
    ∧ a6.view.read (Elt F) (a6.view.writes (Elt F) f6 (pb_k0_t3 (F := F) Variants.none c none i a2 h2 a3 h3 a4 h4 a5 h5 a6 h6 a7 h7 v0 v12 v27 v47 v65 c0 v67 c1 (h3.unread x1) f5 f6 f7 n).2.1) = (fullRun i x1 v12 (a5.view.read (Elt F) f5, a6.view.read (Elt F) f6, a7.view.read (Elt F) f7) n).2.1
    ∧ a7.view.read (Elt F) (a7.view.writes (Elt F) f7 (pb_k0_t3 (F := F) Variants.none c none i a2 h2 a3 h3 a4 h4 a5 h5 a6 h6 a7 h7 v0 v12 v27 v47 v65 c0 v67 c1 (h3.unread x1) f5 f6 f7 n).2.2) = (fullRun i x1 v12 (a5.view.read (Elt F) f5, a6.view.read (Elt F) f6, a7.view.read (Elt F) f7) n).2.2 := by
  induction n with
  | zero => exact ⟨rfl, rfl, rfl⟩
  | succ n ih =>
    obtain ⟨e5, e6, e7⟩ := ih
    by_cases h : n < (k0_t3_loop i).trips
    · have e := pb_k0_t3_succ (F := F) Variants.none c none i a2 h2 a3 h3 a4 h4 a5 h5 a6 h6 a7 h7 v0 v12 v27 v47 v65 c0 v67 c1 (h3.unread x1) f5 f6 f7 ⟨n, h⟩
      dsimp only at e
      rw [e]
      simp only [fullRun, dif_pos h, View.writes_append]
      rw [trip3_5, trip3_6, trip3_7, e5, e6, e7]
      exact ⟨rfl, rfl, rfl⟩
    · have e : pb_k0_t3 (F := F) Variants.none c none i a2 h2 a3 h3 a4 h4 a5 h5 a6 h6 a7 h7 v0 v12 v27 v47 v65 c0 v67 c1 (h3.unread x1) f5 f6 f7 (n + 1) = pb_k0_t3 (F := F) Variants.none c none i a2 h2 a3 h3 a4 h4 a5 h5 a6 h6 a7 h7 v0 v12 v27 v47 v65 c0 v67 c1 (h3.unread x1) f5 f6 f7 n := by
        show pb_k0_t3Step (F := F) _ _ _ _ _ _ _ _ _ _ _ _ _ _ _ _ _ _ _ _ _ _ _ _ _ _ _ _ _ _ = _
        unfold pb_k0_t3Step
        exact dif_neg h
      rw [e]
      simp only [fullRun, dif_neg h]
      exact ⟨e5, e6, e7⟩
end
end Cert.KernelIdeal.Body
end
-- ==== Proof.AttnRun.lean ====
/-
  The attention kernel's body as one value: the accumulators after both loops, and the four heads' quotients stored
  side by side in the output block.
-/
module

public import proofs.«01_k».proof.Proof.AttnBody

@[expose] public section

set_option maxRecDepth 16384

noncomputable section

namespace Cert.KernelIdeal.Body

open Cert.KernelIdeal Cert.KernelIdeal.Gen Idealize.ShloMosaic Idealize.ShloMosaic.TcCoe Idealize.SL.Sem

variable {F : FTy → Type} [FloatOps F] [Named F]

/-- The first query row of a grid point. -/
def firstRow (i : grid0.Coords) : BitVec 32 := Scalar.muli (BitVec.ofNat 32 (i 1).val) 128#32

/-- One past the last block of keys a grid point reads, as the kernel computes it. -/
def lastBlock (i : grid0.Coords) : BitVec 32 :=
  let v28 : BitVec 32 := Scalar.addi (firstRow i) 128#32
  let v29 : BitVec 32 := Scalar.subi v28 1#32
  let v30 : BitVec 32 := Scalar.divsi v29 1024#32
  let v31 : BitVec 1 := Scalar.cmpi .sgt v29 0#32
  let v32 : BitVec 32 := Scalar.extui v31
  let v33 : BitVec 1 := Scalar.cmpi .slt v29 0#32
  let v34 : BitVec 32 := Scalar.extui v33
  let v35 : BitVec 32 := Scalar.subi v32 v34
  let v36 : BitVec 1 := Scalar.cmpi .sgt 1024#32 0#32
  let v37 : BitVec 32 := Scalar.extui v36
  let v38 : BitVec 1 := Scalar.cmpi .slt 1024#32 0#32
  let v39 : BitVec 32 := Scalar.extui v38
  let v40 : BitVec 32 := Scalar.subi v37 v39
  let v41 : BitVec 1 := Scalar.cmpi .ne v35 v40
  let v42 : BitVec 32 := Scalar.remsi v29 1024#32
  let v43 : BitVec 1 := Scalar.cmpi .ne v42 0#32
  let v44 : BitVec 1 := Scalar.andi v41 v43
  let v45 : BitVec 32 := Scalar.subi v30 1#32
  let v46 : BitVec 32 := Scalar.select v44 v45 v30
  let v47 : BitVec 32 := Scalar.addi v46 1#32
  v47

section
variable (c : Dev nD) (i : grid0.Coords)
  (a2 : Memref sig .tc .vmem S1x128x1024 .f32) (h2 : a2.IsWhole) (a3 : Memref sig .tc .vmem S1x4096x256 .bf16) (h3 : a3.IsWhole)
  (a4 : Memref sig .tc .vmem S1x128x512 .f32) (h4 : a4.IsWhole) (a5 : Memref sig .tc .vmem S512x128 .f32) (h5 : a5.IsWhole)
  (a6 : Memref sig .tc .vmem S4x128x1 .f32) (h6 : a6.IsWhole) (a7 : Memref sig .tc .vmem S4x128x1 .f32) (h7 : a7.IsWhole)
  (x0 : Vec F S1x128x1024 .f32) (x1 : Vec F S1x4096x256 .bf16)

/-- The scaled queries of the four heads, one under the other. -/
def queries (x0 : Vec F S1x128x1024 .f32) : FVec F S512x256 .bf16 :=
  k0_pay32 (View.ld x0 (Rect.unit (s := S1x128x1024) ![0, 0, 0] S1x128x256.size inb_S1x128x1024_S1x128x256_0_0_0))
    (View.ld x0 (Rect.unit (s := S1x128x1024) ![0, 0, 256] S1x128x256.size inb_S1x128x1024_S1x128x256_0_0_256))
    (View.ld x0 (Rect.unit (s := S1x128x1024) ![0, 0, 512] S1x128x256.size inb_S1x128x1024_S1x128x256_0_0_512))
    (View.ld x0 (Rect.unit (s := S1x128x1024) ![0, 0, 768] S1x128x256.size inb_S1x128x1024_S1x128x256_0_0_768))

/-- The accumulators after both loops. -/
def final (i : grid0.Coords) (x0 : Vec F S1x128x1024 .f32) (x1 : Vec F S1x4096x256 .bf16) : Acc F :=
  fullRun i x1 (queries x0)
    (maskedRun i x1 (firstRow i) (queries x0) k0_pay36 (lastBlock i) 0#32 (k0_pay33, k0_pay35, k0_pay34) (k0_t1_loop i).trips)
    (k0_t3_loop i).trips

theorem word_first : kernelRun0_A.sl.v0 i = firstRow i := by
  sl_unfold_words
  rfl

theorem word_last : kernelRun0_A.sl.v47 i = lastBlock i := by
  sl_unfold_words
  unfold lastBlock firstRow
  rfl

theorem word_queries : kernelRun0_A.sl.r c a2 h2 x0 = queries x0 := by
  sl_unfold_words
  simp only [View.readAt_eq_ld, h2.read_unread]
  rfl

theorem eta_acc (s : Acc F) : (s.1, s.2.1, s.2.2) = s := rfl

theorem init5 (f : BufTy.Contents (Elt F) a5.view.ty) :
    a5.view.read (Elt F) (a5.view.writes (Elt F) f (kernelRun0_A.sl.HS0_1 (F := F))) = k0_pay33 := by
  unfold kernelRun0_A.sl.HS0_1
  exact read_whole _ _ hz2 _ _ _

theorem init6 (f : BufTy.Contents (Elt F) a6.view.ty) :
    a6.view.read (Elt F) (a6.view.writes (Elt F) f (kernelRun0_A.sl.HS1_1 (F := F))) = k0_pay35 := by
  unfold kernelRun0_A.sl.HS1_1
  exact read_whole _ _ hz3 _ _ _

theorem init7 (f : BufTy.Contents (Elt F) a7.view.ty) :
    a7.view.read (Elt F) (a7.view.writes (Elt F) f (kernelRun0_A.sl.HS2_1 (F := F))) = k0_pay34 := by
  unfold kernelRun0_A.sl.HS2_1
  exact read_whole _ _ hz3 _ _ _

section
variable (v0 : BitVec 32) (v12 : FVec F S512x256 .bf16) (v27 : IVec S128x1024 32) (v47 v65 c0 v67 c1 e : BitVec 32)
  (X : BufTy.Contents (Elt F) a3.view.ty)
  (f5 : BufTy.Contents (Elt F) a5.view.ty) (f6 : BufTy.Contents (Elt F) a6.view.ty) (f7 : BufTy.Contents (Elt F) a7.view.ty)

theorem none2_5 (L : List (View.Piece (Elt F) S512x128 .f32)) :
    (pb_k0_t2 (F := F) Variants.none c none i a2 h2 a3 h3 a4 h4 a5 h5 a6 h6 a7 h7 v0 v12 v27 v47 v65 c0 v67 c1 e X f5 f6 f7 0).1 ++ L = L := rfl

theorem none2_6 (L : List (View.Piece (Elt F) S4x128x1 .f32)) :
    (pb_k0_t2 (F := F) Variants.none c none i a2 h2 a3 h3 a4 h4 a5 h5 a6 h6 a7 h7 v0 v12 v27 v47 v65 c0 v67 c1 e X f5 f6 f7 0).2.1 ++ L = L := rfl

theorem none2_7 (L : List (View.Piece (Elt F) S4x128x1 .f32)) :
    (pb_k0_t2 (F := F) Variants.none c none i a2 h2 a3 h3 a4 h4 a5 h5 a6 h6 a7 h7 v0 v12 v27 v47 v65 c0 v67 c1 e X f5 f6 f7 0).2.2 ++ L = L := rfl

theorem none4_5 (L : List (View.Piece (Elt F) S512x128 .f32)) :
    (pb_k0_t4 (F := F) Variants.none c none i a2 h2 a3 h3 a4 h4 a5 h5 a6 h6 a7 h7 v0 v12 v27 v47 v65 c0 v67 c1 e X f5 f6 f7 0).1 ++ L = L := rfl

theorem none4_6 (L : List (View.Piece (Elt F) S4x128x1 .f32)) :
    (pb_k0_t4 (F := F) Variants.none c none i a2 h2 a3 h3 a4 h4 a5 h5 a6 h6 a7 h7 v0 v12 v27 v47 v65 c0 v67 c1 e X f5 f6 f7 0).2.1 ++ L = L := rfl

theorem none4_7 (L : List (View.Piece (Elt F) S4x128x1 .f32)) :
    (pb_k0_t4 (F := F) Variants.none c none i a2 h2 a3 h3 a4 h4 a5 h5 a6 h6 a7 h7 v0 v12 v27 v47 v65 c0 v67 c1 e X f5 f6 f7 0).2.2 ++ L = L := rfl

end

theorem final_v78 (ht2 : (k0_t2_loop i).trips = 0) (ht4 : (k0_t4_loop i).trips = 0) :
    kernelRun0_A.sl.v78 c i a2 h2 a3 h3 a4 h4 a5 h5 a6 h6 a7 h7 x0 x1 = (final i x0 x1).2.2 := by
  have ht2' : Scf.trips (k0_t2_loop i).lb (k0_t2_loop i).ub (k0_t2_loop i).st = 0 := ht2
  have ht4' : Scf.trips (k0_t4_loop i).lb (k0_t4_loop i).ub (k0_t4_loop i).st = 0 := ht4
  unfold kernelRun0_A.sl.v78
  obtain ⟨n1, hn1⟩ : ∃ n, n = (k0_t1_loop i).trips := ⟨_, rfl⟩
  obtain ⟨n3, hn3⟩ : ∃ n, n = (k0_t3_loop i).trips := ⟨_, rfl⟩
  have ht1' : Scf.trips (k0_t1_loop i).lb (k0_t1_loop i).ub (k0_t1_loop i).st = n1 := hn1.symm
  have ht3' : Scf.trips (k0_t3_loop i).lb (k0_t3_loop i).ub (k0_t3_loop i).st = n3 := hn3.symm
  rw [ht1', ht2', ht3', ht4']
  rw [View.readCov, View.readAt_eq_ld, View.ld_unit_zero (S := S4x128x1) hz3]
  rw [none4_7, none2_7, none2_6, none2_5]
  simp only [View.writes_append]
  rw [(run3 ..).2.2, (run1 ..).1, (run1 ..).2.1, (run1 ..).2.2]
  rw [init5, init6, init7, word_first, word_last, word_queries, eta_acc, final, ← hn1, ← hn3]

theorem final_v80 (ht2 : (k0_t2_loop i).trips = 0) (ht4 : (k0_t4_loop i).trips = 0) :
    kernelRun0_A.sl.v80 c i a2 h2 a3 h3 a4 h4 a5 h5 a6 h6 a7 h7 x0 x1 = (final i x0 x1).1 := by
  have ht2' : Scf.trips (k0_t2_loop i).lb (k0_t2_loop i).ub (k0_t2_loop i).st = 0 := ht2
  have ht4' : Scf.trips (k0_t4_loop i).lb (k0_t4_loop i).ub (k0_t4_loop i).st = 0 := ht4
  unfold kernelRun0_A.sl.v80
  obtain ⟨n1, hn1⟩ : ∃ n, n = (k0_t1_loop i).trips := ⟨_, rfl⟩
  obtain ⟨n3, hn3⟩ : ∃ n, n = (k0_t3_loop i).trips := ⟨_, rfl⟩
  have ht1' : Scf.trips (k0_t1_loop i).lb (k0_t1_loop i).ub (k0_t1_loop i).st = n1 := hn1.symm
  have ht3' : Scf.trips (k0_t3_loop i).lb (k0_t3_loop i).ub (k0_t3_loop i).st = n3 := hn3.symm
  rw [ht1', ht2', ht3', ht4']
  rw [View.readCov, View.readAt_eq_ld, View.ld_unit_zero (S := S512x128) hz2]
  rw [none4_5, none2_5, none2_6, none2_7]
  simp only [View.writes_append]
  rw [(run3 ..).1, (run1 ..).1, (run1 ..).2.1, (run1 ..).2.2]
  rw [init5, init6, init7, word_first, word_last, word_queries, eta_acc, final, ← hn1, ← hn3]

/-- What a grid point leaves in its output block: the quotients of the four heads, side by side. -/
theorem out_eq (ht2 : (k0_t2_loop i).trips = 0) (ht4 : (k0_t4_loop i).trips = 0) :
    out0_A_2 c i a2 h2 a3 h3 a4 h4 a5 h5 a6 h6 a7 h7 x0 x1
      = View.canon [(⟨Rect.unit (s := S1x128x512) ![0, 0, 384] ![1, 128, 128] inb_S1x128x512_S1x128x128_0_0_384,
            k0_pay1 (k0_pay47 (final i x0 x1).2.2 (final i x0 x1).1)⟩ : View.Piece (Elt F) S1x128x512 .f32),
          ⟨Rect.unit (s := S1x128x512) ![0, 0, 256] ![1, 128, 128] inb_S1x128x512_S1x128x128_0_0_256,
            k0_pay50 (final i x0 x1).2.2 (final i x0 x1).1⟩,
          ⟨Rect.unit (s := S1x128x512) ![0, 0, 128] ![1, 128, 128] inb_S1x128x512_S1x128x128_0_0_128,
            k0_pay49 (final i x0 x1).2.2 (final i x0 x1).1⟩,
          ⟨Rect.unit (s := S1x128x512) ![0, 0, 0] ![1, 128, 128] inb_S1x128x512_S1x128x128_0_0_0,
            k0_pay48 (final i x0 x1).2.2 (final i x0 x1).1⟩] := by
  unfold out0_A_2
  rw [View.read_writes_eq_canon _ _ _ (cover0_A_2 c i a2 h2 a3 h3 a4 h4 a5 h5 a6 h6 a7 h7 x0 x1)]
  unfold kernelRun0_A
  dsimp only
  unfold kernelRun0_A.sl.r_1 kernelRun0_A.sl.r_2
  simp only [final_v78 c i a2 h2 a3 h3 a4 h4 a5 h5 a6 h6 a7 h7 x0 x1 ht2 ht4, final_v80 c i a2 h2 a3 h3 a4 h4 a5 h5 a6 h6 a7 h7 x0 x1 ht2 ht4]

end

theorem trips2 : ∀ t : Fin grid0.N, (k0_t2_loop (grid0.coords t)).trips = 0 := by decide +kernel
theorem trips4 : ∀ t : Fin grid0.N, (k0_t4_loop (grid0.coords t)).trips = 0 := by decide +kernel
theorem trips1 : ∀ t : Fin grid0.N, (k0_t1_loop (grid0.coords t)).trips = 1 := by decide +kernel
theorem trips3 : ∀ t : Fin grid0.N, (k0_t3_loop (grid0.coords t)).trips = (t.val % 32) / 8 := by decide +kernel
theorem firstRow_eq : ∀ t : Fin grid0.N, firstRow (grid0.coords t) = BitVec.ofNat 32 (128 * (t.val % 32)) := by decide +kernel
theorem lastBlock_eq : ∀ t : Fin grid0.N, lastBlock (grid0.coords t) = BitVec.ofNat 32 ((t.val % 32) / 8 + 1) := by decide +kernel
theorem off1_eq : ∀ (t : Fin grid0.N) (k : Fin (k0_t1_loop (grid0.coords t)).trips),
    k0_off1 (grid0.coords t) k = ![0, 1024 * ((t.val % 32) / 8), 0] := by decide +kernel
theorem off3_eq : ∀ (t : Fin grid0.N) (k : Fin (k0_t3_loop (grid0.coords t)).trips),
    k0_off3 (grid0.coords t) k = ![0, 1024 * ((t.val % 32) / 8 - 1 - k.val), 0] := by decide +kernel

end Cert.KernelIdeal.Body

end
-- ==== Proof.Softmax.lean ====
/-
  The softmax over a set of keys, carried block by block, on the extended reals. The state after a set of keys is the
  largest score, the sum of the exponentials of the scores less the largest, and the sum of the values weighted by
  them; a further block rescales the two sums by the exponential of the change of the largest score. A key that is
  masked has the score ⊥, whose exponential is 0 whatever the largest score is. All of it holds without any bound on
  the scores or the values.
-/
module

public import Idealize.ShloMosaic.PureOps.Ideal
public import Mathlib.Data.EReal.Inv

@[expose] public section

noncomputable section

namespace Cert.Softmax

open Idealize.ShloMosaic

theorem exp_bot : Ideal.exp ⊥ = 0 := rfl
theorem exp_top : Ideal.exp ⊤ = ⊤ := rfl
theorem exp_coe (x : ℝ) : Ideal.exp (x : EReal) = ((Real.exp x : ℝ) : EReal) := rfl

theorem exp_nonneg (x : EReal) : 0 ≤ Ideal.exp x := by
  induction x with
  | bot => exact le_refl _
  | top => exact le_top
  | coe x => rw [exp_coe]; exact EReal.coe_nonneg.mpr (Real.exp_pos x).le

theorem exp_bot_sub (m : EReal) : Ideal.exp (⊥ - m) = 0 := by
  rw [sub_eq_add_neg, EReal.bot_add, exp_bot]

theorem exp_sub_top (s : EReal) : Ideal.exp (s - ⊤) = 0 := by
  rw [sub_eq_add_neg, EReal.neg_top, EReal.add_bot, exp_bot]

/-- The change of the largest score rescales by a finite factor. -/
theorem exp_sub_ne_top {m m' : EReal} (h : m ≤ m') : Ideal.exp (m - m') ≠ ⊤ := by
  induction m' with
  | bot => rw [le_bot_iff.mp h, exp_bot_sub]; exact EReal.zero_ne_top
  | top => rw [exp_sub_top]; exact EReal.zero_ne_top
  | coe y =>
    induction m with
    | bot => rw [exp_bot_sub]; exact EReal.zero_ne_top
    | top => exact absurd h (by simp)
    | coe x => rw [← EReal.coe_sub, exp_coe]; exact EReal.coe_ne_top _

/-- Rescaling an exponential taken less one bound to a larger bound. -/
theorem exp_rescale {s m m' : EReal} (hs : s ≤ m) (hm : m ≤ m') :
    Ideal.exp (m - m') * Ideal.exp (s - m) = Ideal.exp (s - m') := by
  induction m with
  | bot => rw [le_bot_iff.mp hs, exp_bot_sub, exp_bot_sub, zero_mul]
  | top => rw [top_le_iff.mp hm, exp_sub_top, exp_sub_top, zero_mul]
  | coe x =>
    induction m' with
    | bot => exact absurd hm (by simp)
    | top => rw [exp_sub_top, exp_sub_top, zero_mul]
    | coe y =>
      induction s with
      | bot => rw [exp_bot_sub, exp_bot_sub, mul_zero]
      | top => exact absurd hs (by simp)
      | coe z =>
        rw [← EReal.coe_sub, ← EReal.coe_sub, ← EReal.coe_sub, exp_coe, exp_coe, exp_coe, ← EReal.coe_mul, ← Real.exp_add]
        congr 2; ring

/-- A finite non-negative factor goes into a sum. -/
theorem mul_sum {ι : Type} (K : Finset ι) (f : ι → EReal) {x : EReal} (h0 : 0 ≤ x) (h1 : x ≠ ⊤) :
    x * ∑ k ∈ K, f k = ∑ k ∈ K, x * f k := by
  classical
  induction K using Finset.induction_on with
  | empty => simp
  | insert a K ha ih => rw [Finset.sum_insert ha, Finset.sum_insert ha, EReal.left_distrib_of_nonneg_of_ne_top h0 h1, ih]

theorem sum_mul {ι : Type} (K : Finset ι) (f : ι → EReal) {x : EReal} (h0 : 0 ≤ x) (h1 : x ≠ ⊤) :
    (∑ k ∈ K, f k) * x = ∑ k ∈ K, f k * x := by
  rw [mul_comm, mul_sum K f h0 h1]
  exact Finset.sum_congr rfl fun k _ => mul_comm _ _

variable (S : ℕ → EReal)

/-- The largest score over a set of keys. -/
def top (K : Finset ℕ) : EReal := K.sup S

/-- The normalizer over a set of keys. -/
def den (K : Finset ℕ) : EReal := ∑ k ∈ K, Ideal.exp (S k - top S K)

/-- The weighted sum of the values over a set of keys. -/
def num (K : Finset ℕ) (v : ℕ → EReal) : EReal := ∑ k ∈ K, Ideal.exp (S k - top S K) * v k

theorem top_union (K B : Finset ℕ) : max (top S K) (top S B) = top S (K ∪ B) := Finset.sup_union.symm

theorem le_top' {K : Finset ℕ} {k : ℕ} (h : k ∈ K) : S k ≤ top S K := Finset.le_sup h

theorem top_mono {K B : Finset ℕ} (h : K ⊆ B) : top S K ≤ top S B := Finset.sup_mono h

theorem num_union (K B : Finset ℕ) (h : Disjoint K B) (v : ℕ → EReal) :
    num S K v * Ideal.exp (top S K - top S (K ∪ B)) + ∑ k ∈ B, Ideal.exp (S k - top S (K ∪ B)) * v k = num S (K ∪ B) v := by
  have hm : top S K ≤ top S (K ∪ B) := top_mono S Finset.subset_union_left
  unfold num
  rw [sum_mul _ _ (exp_nonneg _) (exp_sub_ne_top hm), Finset.sum_union h]
  congr 1
  refine Finset.sum_congr rfl fun k hk => ?_
  rw [mul_right_comm, mul_comm (Ideal.exp _) (Ideal.exp (top S K - _)), exp_rescale (le_top' S hk) hm]

theorem den_eq (K : Finset ℕ) : den S K = num S K fun _ => 1 := by
  unfold den num; simp only [mul_one]

theorem den_union (K B : Finset ℕ) (h : Disjoint K B) :
    Ideal.exp (top S K - top S (K ∪ B)) * den S K + ∑ k ∈ B, Ideal.exp (S k - top S (K ∪ B)) = den S (K ∪ B) := by
  rw [den_eq, den_eq, mul_comm, ← num_union S K B h]; simp only [mul_one]

/-- Masked keys add nothing. -/
theorem top_masked {K B : Finset ℕ} (h : K ⊆ B) (hb : ∀ k ∈ B, k ∉ K → S k = ⊥) : top S B = top S K := by
  refine le_antisymm (Finset.sup_le fun k hk => ?_) (top_mono S h)
  by_cases hK : k ∈ K
  · exact le_top' S hK
  · rw [hb k hk hK]; exact bot_le

theorem num_masked {K B : Finset ℕ} (h : K ⊆ B) (hb : ∀ k ∈ B, k ∉ K → S k = ⊥) (v : ℕ → EReal) : num S B v = num S K v := by
  unfold num
  rw [top_masked S h hb]
  refine (Finset.sum_subset h fun k hk hK => ?_).symm
  rw [hb k hk hK, exp_bot_sub, zero_mul]

theorem den_masked {K B : Finset ℕ} (h : K ⊆ B) (hb : ∀ k ∈ B, k ∉ K → S k = ⊥) : den S B = den S K := by
  rw [den_eq, den_eq, num_masked S h hb]

/-- The divisor, made 1 where it would be 0. -/
def safe (d : EReal) : EReal := if 0 < d then d else 1

theorem safe_ne (d : EReal) : safe d ≠ 0 := by
  unfold safe; split
  · next h => exact h.ne'
  · exact one_ne_zero

theorem safe_pos (d : EReal) : 0 < safe d := by
  unfold safe; split
  · next h => exact h
  · exact zero_lt_one

theorem div_safe (x d : EReal) : Ideal.div x (safe d) = x * (safe d)⁻¹ := by
  unfold Ideal.div; rw [if_neg (safe_ne d)]

theorem inv_nonneg (d : EReal) : 0 ≤ (safe d)⁻¹ := EReal.inv_nonneg_of_nonneg (safe_pos d).le

theorem inv_ne_top (d : EReal) : (safe d)⁻¹ ≠ ⊤ := by
  have h := safe_ne d
  induction safe d with
  | bot => simp
  | top => simp
  | coe x => rw [← EReal.coe_inv]; exact EReal.coe_ne_top _

/-- The bound the reference subtracts: the largest score where it is finite, 0 elsewhere. -/
def ref (M : EReal) : EReal := if max M (-M) < ⊤ then M else 0

/-- The quotient of the carried sums is the sum of the values weighted by the normalized exponentials. -/
theorem quotient (K : Finset ℕ) (v : ℕ → EReal) :
    Ideal.div (num S K v) (safe (den S K))
      = ∑ k ∈ K, Ideal.div (Ideal.exp (S k - ref (top S K))) (safe (∑ j ∈ K, Ideal.exp (S j - ref (top S K)))) * v k := by
  have h1 : ∀ (f : ℕ → EReal), (∑ k ∈ K, Ideal.div (f k) (safe (∑ j ∈ K, f j)) * v k)
      = (∑ k ∈ K, f k * v k) * (safe (∑ j ∈ K, f j))⁻¹ := by
    intro f
    rw [sum_mul _ _ (inv_nonneg _) (inv_ne_top _)]
    refine Finset.sum_congr rfl fun k _ => ?_
    rw [div_safe, mul_right_comm]
  rw [h1, div_safe]
  by_cases ht : top S K = ⊤
  · have hn : num S K v = 0 := by
      unfold num; rw [ht]; exact Finset.sum_eq_zero fun k _ => by rw [exp_sub_top, zero_mul]
    rw [hn, zero_mul]
    have hr : ref (top S K) = 0 := by rw [ht]; simp [ref]
    rw [hr]
    obtain ⟨k, hk, hS⟩ : ∃ k ∈ K, S k = ⊤ := by
      by_contra hc
      push Not at hc
      have : top S K < ⊤ := (Finset.sup_lt_iff (by simp : (⊥ : EReal) < ⊤)).mpr fun k hk => lt_top_iff_ne_top.mpr (hc k hk)
      exact this.ne ht
    have hs : (∑ j ∈ K, Ideal.exp (S j - 0)) = ⊤ := by
      rw [← top_le_iff]
      calc (⊤ : EReal) = Ideal.exp (S k - 0) := by rw [hS]; simp [exp_top]
        _ ≤ _ := Finset.single_le_sum (f := fun j => Ideal.exp (S j - 0)) (fun j _ => exp_nonneg _) hk
    rw [hs]
    simp [safe]
  · by_cases hb : top S K = ⊥
    · have hz : ∀ k ∈ K, S k = ⊥ := fun k hk => le_bot_iff.mp (hb ▸ le_top' S hk)
      have hn : num S K v = 0 := by
        unfold num; exact Finset.sum_eq_zero fun k hk => by rw [hz k hk, exp_bot_sub, zero_mul]
      rw [hn, zero_mul, Finset.sum_eq_zero (s := K) (f := fun k => Ideal.exp (S k - ref (top S K)) * v k) (fun k hk => by rw [hz k hk, exp_bot_sub, zero_mul]), zero_mul]
    · have hr : ref (top S K) = top S K := by
        unfold ref
        rw [if_pos]
        refine max_lt (lt_top_iff_ne_top.mpr ht) (lt_top_iff_ne_top.mpr fun h => hb ?_)
        rw [← neg_neg (top S K), h, EReal.neg_top]
      rw [hr]; rfl

end Cert.Softmax

end
-- ==== Proof.AttnStep.lean ====
/-
  The attention kernel's loops at an element: over the keys read so far the three accumulators hold the softmax's
  carried state of every head and query row, block by block.
-/
module

public import proofs.«01_k».proof.Proof.AttnRun
public import proofs.«01_k».proof.Proof.Consts
public import proofs.«01_k».proof.Proof.Softmax
public import Idealize.ShloMosaic.Lib.Pointwise
public import Idealize.ShloMosaic.Lib.WordCmp

@[expose] public section

set_option maxRecDepth 16384

noncomputable section

namespace Cert.KernelIdeal.Step

open Cert.KernelIdeal Cert.KernelIdeal.Gen Cert.KernelIdeal.Body Cert.Softmax Idealize.ShloMosaic Idealize.ShloMosaic.WordCmp Idealize.ShloMosaic.TcCoe Idealize.SL.Sem

theorem mask_eq : (Named.named (F := Ideal) κ "mask" (φ := .f32) 0xF149F2CA#32 : EReal) = ⊥ := rfl

/-- The 1024 keys from `o` on. -/
def block (o : ℕ) : Finset ℕ := Finset.Ico o (o + 1024)

/-- A key's place in the sequence, from its place in the block at `o`. -/
def place (o : ℕ) : Fin 1024 ↪ ℕ where
  toFun k := o + k.val
  inj' a b h := Fin.ext (Nat.add_left_cancel h)

theorem place_apply (o : ℕ) (k : Fin 1024) : place o k = o + k.val := rfl

theorem block_eq (o : ℕ) : block o = Finset.univ.map (place o) := by
  ext k
  simp only [block, Finset.mem_Ico, Finset.mem_map, Finset.mem_univ, true_and, place_apply]
  constructor
  · intro h
    exact ⟨⟨k - o, by omega⟩, by show o + (k - o) = k; omega⟩
  · rintro ⟨a, h⟩
    have := a.isLt
    omega

theorem sum_block (o : ℕ) (f : ℕ → EReal) : ∑ k ∈ block o, f k = ∑ k : Fin 1024, f (o + k.val) := by
  rw [block_eq, Finset.sum_map]; rfl

theorem fold_max {ι : Type} (K : Finset ι) (f : ι → EReal) :
    Finset.fold max (Ideal.ofBits FTy.f32 0xFF800000#32) f K = K.sup f := by
  rw [Cert.Consts.f32_neg_inf]; rfl

theorem top_block (S : ℕ → EReal) (o : ℕ) : top S (block o) = Finset.univ.sup fun k : Fin 1024 => S (o + k.val) := by
  rw [top, block_eq, Finset.sup_map]; rfl

section
variable (q : FVec Ideal S512x256 .bf16) (x1 : Vec Ideal S1x4096x256 .bf16)

/-- A query row's score against a key. -/
def score (h : Fin 4) (r : Fin 128) (k : ℕ) : EReal :=
  if hk : k < 4096 then ∑ x : Fin 256, q (ix2 ⟨h.val * 128 + r.val, by omega⟩ x) * x1 (ix3 0 ⟨k, hk⟩ x) else ⊥

/-- The score with the keys after position `p + r` masked. -/
def masked (p : ℕ) (h : Fin 4) (r : Fin 128) (k : ℕ) : EReal := if k ≤ p + r.val then score q x1 h r k else ⊥

/-- A lane of a key's value. -/
def value (d : Fin 128) (k : ℕ) : EReal := if hk : k < 4096 then x1 (ix3 0 ⟨k, hk⟩ ⟨d.val, by omega⟩) else 0

/-- The accumulators hold the softmax's state over the keys `K`. -/
def Holds (p : ℕ) (K : Finset ℕ) (s : Acc Ideal) : Prop :=
  ∀ (h : Fin 4) (r : Fin 128),
    s.2.1 (ix3 h r 0) = top (masked q x1 p h r) K
    ∧ s.2.2 (ix3 h r 0) = den (masked q x1 p h r) K
    ∧ ∀ d : Fin 128, s.1 (ix2 ⟨h.val * 128 + r.val, by omega⟩ d) = num (masked q x1 p h r) K (value x1 d)

theorem holds_init (p : ℕ) : Holds q x1 p ∅ ((k0_pay33 : FVec Ideal S512x128 .f32), (k0_pay35 : FVec Ideal S4x128x1 .f32), (k0_pay34 : FVec Ideal S4x128x1 .f32)) := by
  intro h r
  refine ⟨?_, ?_, fun d => ?_⟩
  · have e : (k0_pay35 : FVec Ideal S4x128x1 .f32) (ix3 h r 0) = Named.named κ "mask" 0xF149F2CA#32 := by pointwise [k0_pay35]
    exact e.trans mask_eq
  · have e : (k0_pay34 : FVec Ideal S4x128x1 .f32) (ix3 h r 0) = (0 : EReal) := by pointwise [k0_pay34]
    exact e
  · have e : (k0_pay33 : FVec Ideal S512x128 .f32) (ix2 ⟨h.val * 128 + r.val, by omega⟩ d) = (0 : EReal) := by pointwise [k0_pay33]
    exact e

/-- One block carried: the accumulators' new elements from the block's scores. -/
theorem holds_step (p : ℕ) (K : Finset ℕ) (o : ℕ) (hd : Disjoint K (block o)) (s s' : Acc Ideal) (hs : Holds q x1 p K s)
    (sc : Fin 4 → Fin 128 → Fin 1024 → EReal) (hsc : ∀ h r k, sc h r k = masked q x1 p h r (o + k.val))
    (v : Fin 1024 → Fin 128 → EReal) (hv : ∀ k d, v k d = value x1 d (o + k.val))
    (hm : ∀ h r, s'.2.1 (ix3 h r 0) = max (s.2.1 (ix3 h r 0)) (Finset.univ.sup fun k => sc h r k))
    (hl : ∀ h r, s'.2.2 (ix3 h r 0) = Ideal.exp (s.2.1 (ix3 h r 0) - s'.2.1 (ix3 h r 0)) * s.2.2 (ix3 h r 0)
      + ∑ k, Ideal.exp (sc h r k - s'.2.1 (ix3 h r 0)))
    (ha : ∀ (h : Fin 4) (r d : Fin 128), s'.1 (ix2 ⟨h.val * 128 + r.val, by omega⟩ d)
      = s.1 (ix2 ⟨h.val * 128 + r.val, by omega⟩ d) * Ideal.exp (s.2.1 (ix3 h r 0) - s'.2.1 (ix3 h r 0))
        + ∑ k, Ideal.exp (sc h r k - s'.2.1 (ix3 h r 0)) * v k d) :
    Holds q x1 p (K ∪ block o) s' := by
  intro h r
  obtain ⟨e1, e2, e3⟩ := hs h r
  have m1 : s'.2.1 (ix3 h r 0) = top (masked q x1 p h r) (K ∪ block o) := by
    rw [hm, e1, ← top_union, top_block]; simp only [hsc]
  refine ⟨m1, ?_, fun d => ?_⟩
  · rw [hl, m1, e1, e2, ← den_union _ K _ hd, sum_block]; simp only [hsc]
  · rw [ha, m1, e1, e3, ← num_union _ K _ hd, sum_block]; simp only [hsc, hv]

end

section
variable (q : FVec Ideal S512x256 .bf16) (kv : Vec Ideal S1x1024x256 .bf16) (m l : Vec Ideal S4x128x1 .f32) (a : Vec Ideal S512x128 .f32)
  (p : FVec Ideal S4x128x1024 .f32)

theorem pay19_at (h : Fin 4) (r : Fin 128) (k : Fin 1024) :
    k0_pay19 q kv (ix3 h r k) = ∑ x, q (ix2 ⟨h.val * 128 + r.val, by omega⟩ x) * kv (ix3 0 k x) := by
  pointwise [k0_pay19, k0_pay18]

theorem pay20_at (h : Fin 4) (r : Fin 128) :
    k0_pay20 q kv m (ix3 h r 0) = max (m (ix3 h r 0)) (Finset.fold max (Ideal.ofBits FTy.f32 0xFF800000#32) (fun x => k0_pay19 q kv (ix3 h r x)) Finset.univ) := by
  pointwise [k0_pay20]

theorem pay21_at (h : Fin 4) (r : Fin 128) : k0_pay21 q kv m (ix3 h r 0) = Ideal.exp (m (ix3 h r 0) - k0_pay20 q kv m (ix3 h r 0)) := by
  pointwise [k0_pay21]

theorem pay22_at (h : Fin 4) (r : Fin 128) (k : Fin 1024) :
    k0_pay22 q kv m (ix3 h r k) = Ideal.exp (k0_pay19 q kv (ix3 h r k) - k0_pay20 q kv m (ix3 h r 0)) := by
  pointwise [k0_pay22]

theorem pay23_at (h : Fin 4) (r : Fin 128) :
    k0_pay23 q kv m l (ix3 h r 0) = k0_pay21 q kv m (ix3 h r 0) * l (ix3 h r 0) + ∑ x, k0_pay22 q kv m (ix3 h r x) := by
  pointwise [k0_pay23]

theorem pay43_at (h : Fin 4) (r d : Fin 128) :
    k0_pay43 (k0_pay24 q kv m a) (ix2 ⟨h.val * 128 + r.val, by omega⟩ d)
      = a (ix2 ⟨h.val * 128 + r.val, by omega⟩ d) * k0_pay21 q kv m (ix3 h r 0) + ∑ x, k0_pay22 q kv m (ix3 h r x) * kv (ix3 0 x ⟨d.val, by omega⟩) := by
  have e : ∀ R : Fin 512, k0_pay43 (k0_pay24 q kv m a) (ix2 R d)
      = a (ix2 R d) * k0_pay21 q kv m (ix3 ⟨R.val / 128, by omega⟩ ⟨R.val % 128, by omega⟩ 0)
        + ∑ x, k0_pay22 q kv m (ix3 ⟨R.val / 128, by omega⟩ ⟨R.val % 128, by omega⟩ x) * kv (ix3 0 x ⟨d.val, by omega⟩) := by
    intro R
    pointwise [k0_pay43, k0_pay24, k0_pay18]
  rw [e]
  have e1 : (⟨(h.val * 128 + r.val) / 128, by omega⟩ : Fin 4) = h := Fin.ext (by simp only []; omega)
  have e2 : (⟨(h.val * 128 + r.val) % 128, by omega⟩ : Fin 128) = r := Fin.ext (by simp only []; omega)
  simp only [e1, e2]

theorem pay44_at (h : Fin 4) (r : Fin 128) : k0_pay44 (F := Ideal) m (ix3 h r 0) = m (ix3 h r 0) := by pointwise [k0_pay44]

theorem pay38_at (h : Fin 4) (r d : Fin 128) :
    k0_pay38 (k0_pay3 kv) m p a (ix2 ⟨h.val * 128 + r.val, by omega⟩ d)
      = a (ix2 ⟨h.val * 128 + r.val, by omega⟩ d) * m (ix3 h r 0) + ∑ x, p (ix3 h r x) * kv (ix3 0 x ⟨d.val, by omega⟩) := by
  have e : ∀ R : Fin 512, k0_pay38 (k0_pay3 kv) m p a (ix2 R d)
      = a (ix2 R d) * m (ix3 ⟨R.val / 128, by omega⟩ ⟨R.val % 128, by omega⟩ 0)
        + ∑ x, p (ix3 ⟨R.val / 128, by omega⟩ ⟨R.val % 128, by omega⟩ x) * kv (ix3 0 x ⟨d.val, by omega⟩) := by
    intro R
    pointwise [k0_pay38, k0_pay3, k0_pay2]
  rw [e]
  have e1 : (⟨(h.val * 128 + r.val) / 128, by omega⟩ : Fin 4) = h := Fin.ext (by simp only []; omega)
  have e2 : (⟨(h.val * 128 + r.val) % 128, by omega⟩ : Fin 128) = r := Fin.ext (by simp only []; omega)
  simp only [e1, e2]

theorem pay39_at (h : Fin 4) (r : Fin 128) : k0_pay39 (F := Ideal) m (ix3 h r 0) = m (ix3 h r 0) := by pointwise [k0_pay39]

variable (i : grid0.Coords) (v0 v47 : BitVec 32) (kk : Fin (k0_t1_loop i).trips)

theorem pay4_at (r : Fin 128) (k : Fin 1024) : k0_pay4 i v0 k0_pay36 v47 0#32 1#32 kk (ix3 0 r k)
    = IntOp.cmpi .sge (IntOp.addi (IntOp.subi (BitVec.ofNat 32 r.val) (BitVec.ofNat 32 k.val))
        (Scalar.subi v0 (Scalar.muli (Scalar.subi (Scalar.subi v47 1#32) (Scf.iv 0#32 1#32 kk.val)) 1024#32))) 0#32 := by
  pointwise [k0_pay4, k0_pay36]

theorem pay5_at (h : Fin 4) (r : Fin 128) (k : Fin 1024) : k0_pay5 i v0 q k0_pay36 v47 0#32 1#32 kk kv (ix3 h r k)
    = Scalar.select (k0_pay4 i v0 k0_pay36 v47 0#32 1#32 kk (ix3 0 r k))
      (∑ x, q (ix2 ⟨h.val * 128 + r.val, by omega⟩ x) * kv (ix3 0 k x)) (Named.named (F := Ideal) κ "mask" (φ := .f32) 0xF149F2CA#32) := by
  pointwise [k0_pay5, k0_pay2]

theorem pay6_at (h : Fin 4) (r : Fin 128) : k0_pay6 i v0 q k0_pay36 v47 0#32 1#32 kk kv m (ix3 h r 0)
    = max (m (ix3 h r 0)) (Finset.fold max (Ideal.ofBits FTy.f32 0xFF800000#32)
        (fun x => k0_pay5 i v0 q k0_pay36 v47 0#32 1#32 kk kv (ix3 h r x)) Finset.univ) := by
  pointwise [k0_pay6]

theorem pay7_at (h : Fin 4) (r : Fin 128) : k0_pay7 i v0 q k0_pay36 v47 0#32 1#32 kk kv m (ix3 h r 0)
    = Ideal.exp (m (ix3 h r 0) - k0_pay6 i v0 q k0_pay36 v47 0#32 1#32 kk kv m (ix3 h r 0)) := by
  pointwise [k0_pay7]

theorem pay8_at (h : Fin 4) (r : Fin 128) (k : Fin 1024) : k0_pay8 i v0 q k0_pay36 v47 0#32 1#32 kk kv m (ix3 h r k)
    = Scalar.select (k0_pay4 i v0 k0_pay36 v47 0#32 1#32 kk (ix3 0 r k))
      (Ideal.exp (k0_pay5 i v0 q k0_pay36 v47 0#32 1#32 kk kv (ix3 h r k) - k0_pay6 i v0 q k0_pay36 v47 0#32 1#32 kk kv m (ix3 h r 0))) (0 : EReal) := by
  pointwise [k0_pay8]

theorem pay37_at (h : Fin 4) (r : Fin 128) : k0_pay37 (k0_pay9 i v0 q k0_pay36 v47 0#32 1#32 kk kv m l) (ix3 h r 0)
    = k0_pay7 i v0 q k0_pay36 v47 0#32 1#32 kk kv m (ix3 h r 0) * l (ix3 h r 0) + ∑ x, k0_pay8 i v0 q k0_pay36 v47 0#32 1#32 kk kv m (ix3 h r x) := by
  pointwise [k0_pay9, k0_pay37]

end

section
variable (q : FVec Ideal S512x256 .bf16) (x1 : Vec Ideal S1x4096x256 .bf16)

/-- A block below the diagonal carries the state on. -/
theorem full_holds (p o : ℕ) (ho : o + 1024 ≤ 4096) (hp : o + 1024 ≤ p + 1) (K : Finset ℕ) (hd : Disjoint K (block o))
    (kv : Vec Ideal S1x1024x256 .bf16) (hkv : ∀ (k : Fin 1024) (x : Fin 256), kv (ix3 0 k x) = x1 (ix3 0 ⟨o + k.val, by omega⟩ x))
    (s : Acc Ideal) (hs : Holds q x1 p K s) : Holds q x1 p (K ∪ block o) (fullStep q kv s) := by
  have hm : ∀ h r, (fullStep q kv s).2.1 (ix3 h r 0) = k0_pay20 q kv s.2.1 (ix3 h r 0) := fun h r => pay44_at (k0_pay20 q kv s.2.1) h r
  refine holds_step q x1 p K o hd s _ hs (fun h r k => k0_pay19 q kv (ix3 h r k)) ?_ (fun k d => kv (ix3 0 k ⟨d.val, by omega⟩)) ?_ ?_ ?_ ?_
  · intro h r k
    rw [pay19_at, masked, if_pos (by omega), score, dif_pos (by omega)]
    simp only [hkv]
  · intro k d
    rw [value, dif_pos (by omega), hkv]
  · intro h r
    rw [hm, pay20_at, fold_max]
  · intro h r
    rw [hm]
    refine (pay23_at q kv s.2.1 s.2.2 h r).trans ?_
    simp only [pay21_at, pay22_at]
  · intro h r d
    rw [hm]
    refine (pay43_at q kv s.2.1 s.1 h r d).trans ?_
    simp only [pay21_at, pay22_at]

theorem offset_word : ∀ j : Fin 32, Scalar.subi (BitVec.ofNat 32 (128 * j.val)) (Scalar.muli (Scalar.subi (Scalar.subi (BitVec.ofNat 32 (j.val / 8 + 1)) 1#32) (Scf.iv 0#32 1#32 0)) 1024#32)
    = BitVec.ofNat 32 (128 * (j.val % 8)) := by decide +kernel

theorem mask_bit (j : Fin 32) (r : Fin 128) (k : Fin 1024) :
    IntOp.cmpi .sge (IntOp.addi (IntOp.subi (BitVec.ofNat 32 r.val) (BitVec.ofNat 32 k.val)) (BitVec.ofNat 32 (128 * (j.val % 8)))) 0#32
      = BitVec.ofBool (decide (1024 * (j.val / 8) + k.val ≤ 128 * j.val + r.val)) := by
  rw [cmpi_sge_zero]
  congr 1
  refine decide_eq_decide.mpr ?_
  show ((BitVec.ofNat 32 r.val - BitVec.ofNat 32 k.val) + BitVec.ofNat 32 (128 * (j.val % 8))).toNat < _ ↔ _
  rw [BitVec.toNat_add, BitVec.toNat_sub, BitVec.toNat_ofNat, BitVec.toNat_ofNat, BitVec.toNat_ofNat]
  omega

theorem select_bool {α : Type} (b : Prop) [Decidable b] (x y : α) : Scalar.select (BitVec.ofBool (decide b)) x y = if b then x else y := by
  unfold Scalar.select
  by_cases h : b <;> simp [h]

/-- The block that meets the diagonal carries the state on. -/
theorem masked_holds (i : grid0.Coords) (j : Fin 32) (kk : Fin (k0_t1_loop i).trips) (hk : kk.val = 0) (K : Finset ℕ) (hd : Disjoint K (block (1024 * (j.val / 8))))
    (kv : Vec Ideal S1x1024x256 .bf16) (hkv : ∀ (k : Fin 1024) (x : Fin 256), kv (ix3 0 k x) = x1 (ix3 0 ⟨1024 * (j.val / 8) + k.val, by omega⟩ x))
    (s : Acc Ideal) (hs : Holds q x1 (128 * j.val) K s) :
    Holds q x1 (128 * j.val) (K ∪ block (1024 * (j.val / 8)))
      (maskedStep i (BitVec.ofNat 32 (128 * j.val)) q k0_pay36 (BitVec.ofNat 32 (j.val / 8 + 1)) 0#32 kk kv s) := by
  have hb : ∀ (r : Fin 128) (k : Fin 1024), k0_pay4 i (BitVec.ofNat 32 (128 * j.val)) k0_pay36 (BitVec.ofNat 32 (j.val / 8 + 1)) 0#32 1#32 kk (ix3 0 r k)
      = BitVec.ofBool (decide (1024 * (j.val / 8) + k.val ≤ 128 * j.val + r.val)) := by
    intro r k
    rw [pay4_at, hk, offset_word, mask_bit]
  have h5 : ∀ h r (k : Fin 1024), k0_pay5 i (BitVec.ofNat 32 (128 * j.val)) q k0_pay36 (BitVec.ofNat 32 (j.val / 8 + 1)) 0#32 1#32 kk kv (ix3 h r k)
      = masked q x1 (128 * j.val) h r (1024 * (j.val / 8) + k.val) := by
    intro h r k
    rw [pay5_at, hb, select_bool, masked, score, dif_pos (by omega), mask_eq]
    simp only [hkv]
  have h8 : ∀ h r (k : Fin 1024), k0_pay8 i (BitVec.ofNat 32 (128 * j.val)) q k0_pay36 (BitVec.ofNat 32 (j.val / 8 + 1)) 0#32 1#32 kk kv s.2.1 (ix3 h r k)
      = Ideal.exp (masked q x1 (128 * j.val) h r (1024 * (j.val / 8) + k.val) - k0_pay6 i (BitVec.ofNat 32 (128 * j.val)) q k0_pay36 (BitVec.ofNat 32 (j.val / 8 + 1)) 0#32 1#32 kk kv s.2.1 (ix3 h r 0)) := by
    intro h r k
    rw [pay8_at, hb, select_bool, h5]
    by_cases hc : 1024 * (j.val / 8) + k.val ≤ 128 * j.val + r.val
    · rw [if_pos hc]
    · rw [if_neg hc, masked, if_neg hc, exp_bot_sub]
  have hm : ∀ h r, (maskedStep i (BitVec.ofNat 32 (128 * j.val)) q k0_pay36 (BitVec.ofNat 32 (j.val / 8 + 1)) 0#32 kk kv s).2.1 (ix3 h r 0)
      = k0_pay6 i (BitVec.ofNat 32 (128 * j.val)) q k0_pay36 (BitVec.ofNat 32 (j.val / 8 + 1)) 0#32 1#32 kk kv s.2.1 (ix3 h r 0) :=
    fun h r => pay39_at (k0_pay6 i (BitVec.ofNat 32 (128 * j.val)) q k0_pay36 (BitVec.ofNat 32 (j.val / 8 + 1)) 0#32 1#32 kk kv s.2.1) h r
  refine holds_step q x1 _ K _ hd s _ hs (fun h r k => masked q x1 (128 * j.val) h r (1024 * (j.val / 8) + k.val)) (fun _ _ _ => rfl)
    (fun k d => kv (ix3 0 k ⟨d.val, by omega⟩)) ?_ ?_ ?_ ?_
  · intro k d
    rw [value, dif_pos (by omega), hkv]
  · intro h r
    rw [hm, pay6_at, fold_max]
    simp only [h5]
  · intro h r
    rw [hm]
    refine (pay37_at q kv s.2.1 s.2.2 i _ _ kk h r).trans ?_
    simp only [pay7_at, h8]
  · intro h r d
    rw [hm]
    refine (pay38_at kv _ s.1 _ h r d).trans ?_
    simp only [pay7_at, h8]

end

end Cert.KernelIdeal.Step

end
-- ==== Proof.AttnLoops.lean ====
/-
  The attention kernel's two loops together: a grid point's accumulators end at the softmax's state over all the keys,
  and the block it writes is the quotient.
-/
module

public import proofs.«01_k».proof.Proof.AttnStep
public import Idealize.ShloMosaic.Lib.Pipeline.ValueKit.Tiles

@[expose] public section

set_option maxRecDepth 16384

noncomputable section

namespace Cert.KernelIdeal.Step

open Cert.KernelIdeal Cert.KernelIdeal.Gen Cert.KernelIdeal.Body Cert.Softmax Idealize.ShloMosaic Idealize.ShloMosaic.TcCoe Idealize.SL.Sem

section
variable (q : FVec Ideal S512x256 .bf16) (x1 : Vec Ideal S1x4096x256 .bf16)

/-- A block of keys loaded at an offset. -/
theorem load_at (off : Fin S1x4096x256.rank → ℕ) (inb) (o : ℕ) (ho : o + 1024 ≤ 4096) (e : off = ![0, o, 0]) (k : Fin 1024) (x : Fin 256) :
    (View.ld x1 (Rect.unit (s := S1x4096x256) off S1x1024x256.size inb) : Vec Ideal S1x1024x256 .bf16) (ix3 0 k x) = x1 (ix3 0 ⟨o + k.val, by omega⟩ x) := by
  subst e
  refine View.ld_unit_apply_of x1 _ _ _ _ _ fun a => ?_
  match a with
  | ⟨0, _⟩ => rfl
  | ⟨1, _⟩ => rfl
  | ⟨2, _⟩ => show x.val = 0 + x.val; omega

/-- The keys from block `b - n` through block `b`. -/
def span (b n : ℕ) : Finset ℕ := Finset.Ico (1024 * (b - n)) (1024 * (b + 1))

theorem disjoint_span (b n : ℕ) (h : n < b) : Disjoint (span b n) (block (1024 * (b - 1 - n))) := by
  rw [Finset.disjoint_left]
  intro a h1 h2
  rw [span, Finset.mem_Ico] at h1
  rw [block, Finset.mem_Ico] at h2
  omega

theorem span_succ (b n : ℕ) (h : n < b) : span b n ∪ block (1024 * (b - 1 - n)) = span b (n + 1) := by
  ext a
  rw [Finset.mem_union, span, block, span, Finset.mem_Ico, Finset.mem_Ico, Finset.mem_Ico]
  omega

/-- The accumulators at the start. -/
def start : Acc Ideal := ((k0_pay33 : FVec Ideal S512x128 .f32), (k0_pay35 : FVec Ideal S4x128x1 .f32), (k0_pay34 : FVec Ideal S4x128x1 .f32))

theorem masked_run (t : Fin grid0.N) :
    Holds q x1 (128 * (t.val % 32)) (span ((t.val % 32) / 8) 0)
      (maskedRun (grid0.coords t) x1 (firstRow (grid0.coords t)) q k0_pay36 (lastBlock (grid0.coords t)) 0#32 start (k0_t1_loop (grid0.coords t)).trips) := by
  have h1 : 0 < (k0_t1_loop (grid0.coords t)).trips := by rw [trips1]; decide
  have e : ∀ n, n = 1 → maskedRun (grid0.coords t) x1 (firstRow (grid0.coords t)) q k0_pay36 (lastBlock (grid0.coords t)) 0#32 start n
      = maskedStep (grid0.coords t) (firstRow (grid0.coords t)) q k0_pay36 (lastBlock (grid0.coords t)) 0#32 ⟨0, h1⟩
          (View.ld x1 (Rect.unit (s := S1x4096x256) (k0_off1 (grid0.coords t) ⟨0, h1⟩) S1x1024x256.size (k0_off1_inb (grid0.coords t) ⟨0, h1⟩))) start := by
    rintro _ rfl
    show (if h : 0 < _ then _ else _) = _
    rw [dif_pos h1]
    rfl
  rw [e _ (trips1 t), firstRow_eq, lastBlock_eq]
  have hs := masked_holds q x1 (grid0.coords t) ⟨t.val % 32, by omega⟩ ⟨0, h1⟩ rfl ∅ (Finset.disjoint_empty_left _) _
    (load_at x1 _ (k0_off1_inb (grid0.coords t) ⟨0, h1⟩) (1024 * ((t.val % 32) / 8)) (by omega) (off1_eq t ⟨0, h1⟩)) _ (holds_init q x1 _)
  rw [Finset.empty_union] at hs
  have es : span ((t.val % 32) / 8) 0 = block (1024 * ((t.val % 32) / 8)) := by
    ext a
    rw [span, block, Finset.mem_Ico, Finset.mem_Ico]
    omega
  rw [es]
  exact hs

theorem full_run (t : Fin grid0.N) (s : Acc Ideal) (hs : Holds q x1 (128 * (t.val % 32)) (span ((t.val % 32) / 8) 0) s) (n : ℕ) (hn : n ≤ (t.val % 32) / 8) :
    Holds q x1 (128 * (t.val % 32)) (span ((t.val % 32) / 8) n) (fullRun (grid0.coords t) x1 q s n) := by
  induction n with
  | zero => exact hs
  | succ n ih =>
    have ht : n < (k0_t3_loop (grid0.coords t)).trips := by rw [trips3]; omega
    rw [fullRun, dif_pos ht, ← span_succ _ _ (by omega)]
    refine full_holds q x1 _ _ (by omega) (by omega) _ (disjoint_span _ _ (by omega)) _
      (load_at x1 _ (k0_off3_inb (grid0.coords t) ⟨n, ht⟩) (1024 * ((t.val % 32) / 8 - 1 - n)) (by omega) (off3_eq t ⟨n, ht⟩)) _ (ih (by omega))

theorem final_eq (i : grid0.Coords) (x0 : Vec Ideal S1x128x1024 .f32) (n : ℕ) (hn : (k0_t3_loop i).trips = n) : final i x0 x1 = fullRun i x1 (queries x0)
    (maskedRun i x1 (firstRow i) (queries x0) k0_pay36 (lastBlock i) 0#32 start (k0_t1_loop i).trips) n := by
  subst hn
  rfl

/-- After both loops the accumulators hold the state over all the keys. -/
theorem final_holds (t : Fin grid0.N) (x0 : Vec Ideal S1x128x1024 .f32) :
    Holds (queries x0) x1 (128 * (t.val % 32)) (Finset.range 4096) (final (grid0.coords t) x0 x1) := by
  have h := full_run (queries x0) x1 t _ (masked_run (queries x0) x1 t) ((t.val % 32) / 8) le_rfl
  rw [final_eq x1 _ x0 _ (trips3 t)]
  intro hd r
  obtain ⟨e1, e2, e3⟩ := h hd r
  have hK : span ((t.val % 32) / 8) ((t.val % 32) / 8) ⊆ Finset.range 4096 := by
    intro a ha
    rw [span, Finset.mem_Ico] at ha
    rw [Finset.mem_range]
    omega
  have hb : ∀ a ∈ Finset.range 4096, a ∉ span ((t.val % 32) / 8) ((t.val % 32) / 8) → masked (queries x0) x1 (128 * (t.val % 32)) hd r a = ⊥ := by
    intro a _ ha
    rw [span, Finset.mem_Ico] at ha
    rw [masked, if_neg (by omega)]
  exact ⟨e1.trans (top_masked _ hK hb).symm, e2.trans (den_masked _ hK hb).symm, fun d => (e3 d).trans (num_masked _ hK hb _).symm⟩

end

end Cert.KernelIdeal.Step
end
-- ==== Proof.AttnHost.lean ====
/-
  The arrays the attention kernel reads, as the host operations before the call leave them: the queries and the keys
  padded with zero lanes, the queries' heads side by side. Then the blocks the grid points see of them.
-/
module

public import proofs.«01_k».proof.Proof.AttnLoops
public import proofs.«01_k».proof.Proof.Gen.KernelIdeal.Value
public import Idealize.ShloMosaic.Lib.Tactic
public import Idealize.ShloMosaic.Lib.StableHlo.Run

@[expose] public section

set_option maxRecDepth 16384

noncomputable section

namespace Cert.KernelIdeal.Host

open Cert.KernelIdeal Cert.KernelIdeal.Gen Idealize.ShloMosaic Idealize.ShloMosaic.TcCoe Idealize.SL.Sem

/-! ## The arrays the kernel reads -/

section
variable {F : FTy → Type} [FloatOps F] [Named F] (m : (ℓ : Loc nD τ sig) → Buf (Elt F) ℓ) (c : Dev nD)

theorem V_q : (V m c main_v1 : Vec F S2x4096x1024 .f32)
    = shapeCast S2x4096x1024 (pad S2x4096x4x256 ![0, 0, 0, 0] ![0, 0, 0, 64] ![0, 0, 0, 0] (m (c, main_arg0) : Vec F S2x4096x4x192 .f32) (sitofp .f32 (constantI S_ 32 0#32) : FVec F S_ .f32) pads_S2x4096x4x192_S2x4096x4x256_000_000_000_0640 h_S_) shapeCasts_S2x4096x4x256_S2x4096x1024 := by
  unfold V
  simp only [hostOps0, hostOps0_1, hostOps0_2, hostOps0_3, hostOps0_4, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp <;> rfl

theorem V_kv : (V m c main_v3 : Vec F S2x4096x256 .bf16)
    = truncf .bf16 (pad S2x4096x256 ![0, 0, 0] ![0, 0, 64] ![0, 0, 0] (m (c, main_arg1) : Vec F S2x4096x192 .f32) (sitofp .f32 (constantI S_ 32 0#32) : FVec F S_ .f32) pads_S2x4096x192_S2x4096x256_000_000_0640 h_S_) bitsLt_bf16_f32 := by
  unfold V
  simp only [hostOps0, hostOps0_1, hostOps0_2, hostOps0_3, hostOps0_4, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp <;> rfl
end

/-- The zero the padding writes. -/
theorem pad_zero : (FloatOps.sitofp .f32 (0#32) : Ideal .f32) = (0 : EReal) := by
  show (((0#32 : BitVec 32).toInt : ℝ) : EReal) = 0
  simp

theorem padQ_at (x : Vec Ideal S2x4096x4x192 .f32) (b : Fin 2) (y : Fin 4096) (h : Fin 4) (d : Fin 256) :
    (pad S2x4096x4x256 ![0, 0, 0, 0] ![0, 0, 0, 64] ![0, 0, 0, 0] x (sitofp .f32 (constantI S_ 32 0#32) : FVec Ideal S_ .f32) pads_S2x4096x4x192_S2x4096x4x256_000_000_000_0640 h_S_ : FVec Ideal S2x4096x4x256 .f32) (ix4 b y h d)
      = if hd : d.val < 192 then x (ix4 b y h ⟨d.val, hd⟩) else (0 : EReal) := by
  pointwise
  rw [pad_zero]

theorem rowsQ_at (x : FVec Ideal S2x4096x4x256 .f32) (b : Fin 2) (y : Fin 4096) (h : Fin 4) (d : Fin 256) (l : Fin 1024) (hl : l.val = 256 * h.val + d.val) :
    (shapeCast S2x4096x1024 x shapeCasts_S2x4096x4x256_S2x4096x1024 : FVec Ideal S2x4096x1024 .f32) (ix3 b y l) = x (ix4 b y h d) := by
  have e : (shapeCast S2x4096x1024 x shapeCasts_S2x4096x4x256_S2x4096x1024 : FVec Ideal S2x4096x1024 .f32) (ix3 b y l)
      = x (ix4 b y ⟨l.val / 256, by omega⟩ ⟨l.val % 256, by omega⟩) := by
    pointwise
  have e1 : (⟨l.val / 256, by omega⟩ : Fin 4) = h := Fin.ext (by show l.val / 256 = h.val; omega)
  have e2 : (⟨l.val % 256, by omega⟩ : Fin 256) = d := Fin.ext (by show l.val % 256 = d.val; omega)
  rw [e, e1, e2]

theorem padK_at (x : Vec Ideal S2x4096x192 .f32) (b : Fin 2) (y : Fin 4096) (d : Fin 256) :
    (truncf .bf16 (pad S2x4096x256 ![0, 0, 0] ![0, 0, 64] ![0, 0, 0] x (sitofp .f32 (constantI S_ 32 0#32) : FVec Ideal S_ .f32) pads_S2x4096x192_S2x4096x256_000_000_0640 h_S_) bitsLt_bf16_f32 : FVec Ideal S2x4096x256 .bf16) (ix3 b y d)
      = if hd : d.val < 192 then x (ix3 b y ⟨d.val, hd⟩) else (0 : EReal) := by
  pointwise
  rw [pad_zero]

variable (m : (ℓ : Loc nD τ sig) → Buf (Elt Ideal) ℓ) (c : Dev nD)

theorem index_q : ∀ t : Fin grid0.N, win0_0.index t 0 = t.val / 32 ∧ win0_0.index t 1 = t.val % 32 ∧ win0_0.index t 2 = 0 := by decide +kernel
theorem index_k : ∀ t : Fin grid0.N, win0_1.index t 0 = t.val / 32 ∧ win0_1.index t 1 = 0 ∧ win0_1.index t 2 = 0 := by decide +kernel
theorem index_o : ∀ t : Fin grid0.N, win0_2.index t 0 = t.val / 32 ∧ win0_2.index t 1 = t.val % 32 ∧ win0_2.index t 2 = 0 := by decide +kernel

theorem t_lt (t : Fin cfg0.N) : t.val < 64 := lt_of_lt_of_eq t.isLt (show cfg0.N = 64 from N_0)

theorem read_q (A : Buf (Elt Ideal) ((c : Thread nD τ).loc main_v1)) (t : Fin cfg0.N) (r : Fin 128) (l : Fin 1024) (b : Fin 2) (y : Fin 4096)
    (hb : b.val = t.val / 32) (hy : y.val = 128 * (t.val % 32) + r.val) :
    (((cfg0.win 0).blk t).view.read (Elt Ideal) A : Vec Ideal S1x128x1024 .f32) (ix3 0 r l) = (A : Vec Ideal S2x4096x1024 .f32) (ix3 b y l) := by
  rw [View.read_apply]
  show A _ = A _
  congr 1
  funext a
  apply Fin.ext
  match a with
  | ⟨0, _⟩ => show win0_0.index t 0 * 1 + 1 * 0 = b.val; rw [(index_q t).1]; omega
  | ⟨1, _⟩ => show win0_0.index t 1 * 128 + 1 * r.val = y.val; rw [(index_q t).2.1]; omega
  | ⟨2, _⟩ => show win0_0.index t 2 * 1024 + 1 * l.val = l.val; rw [(index_q t).2.2]; omega

theorem read_k (A : Buf (Elt Ideal) ((c : Thread nD τ).loc main_v3)) (t : Fin cfg0.N) (y : Fin 4096) (d : Fin 256) (b : Fin 2) (hb : b.val = t.val / 32) :
    (((cfg0.win 1).blk t).view.read (Elt Ideal) A : Vec Ideal S1x4096x256 .bf16) (ix3 0 y d) = (A : Vec Ideal S2x4096x256 .bf16) (ix3 b y d) := by
  rw [View.read_apply]
  show A _ = A _
  congr 1
  funext a
  apply Fin.ext
  match a with
  | ⟨0, _⟩ => show win0_1.index t 0 * 1 + 1 * 0 = b.val; rw [(index_k t).1]; omega
  | ⟨1, _⟩ => show win0_1.index t 1 * 4096 + 1 * y.val = y.val; rw [(index_k t).2.1]; omega
  | ⟨2, _⟩ => show win0_1.index t 2 * 256 + 1 * d.val = d.val; rw [(index_k t).2.2]; omega

theorem read_o (A : Buf (Elt Ideal) ((c : Thread nD τ).loc main_v4)) (t : Fin cfg0.N) (r : Fin 128) (l : Fin 512) (b : Fin 2) (y : Fin 4096)
    (hb : b.val = t.val / 32) (hy : y.val = 128 * (t.val % 32) + r.val) :
    (((cfg0.win 2).blk t).view.read (Elt Ideal) A : Vec Ideal S1x128x512 .f32) (ix3 0 r l) = (A : Vec Ideal S2x4096x512 .f32) (ix3 b y l) := by
  rw [View.read_apply]
  show A _ = A _
  congr 1
  funext a
  apply Fin.ext
  match a with
  | ⟨0, _⟩ => show win0_2.index t 0 * 1 + 1 * 0 = b.val; rw [(index_o t).1]; omega
  | ⟨1, _⟩ => show win0_2.index t 1 * 128 + 1 * r.val = y.val; rw [(index_o t).2.1]; omega
  | ⟨2, _⟩ => show win0_2.index t 2 * 512 + 1 * l.val = l.val; rw [(index_o t).2.2]; omega

/-- The queries a grid point reads. -/
theorem q_block (t : Fin cfg0.N) (r : Fin 128) (h : Fin 4) (d : Fin 256) (l : Fin 1024) (hl : l.val = 256 * h.val + d.val) (b : Fin 2) (y : Fin 4096)
    (hb : b.val = t.val / 32) (hy : y.val = 128 * (t.val % 32) + r.val) :
    (iblk m c 0 t : Vec Ideal S1x128x1024 .f32) (ix3 0 r l)
      = if hd : d.val < 192 then (m (c, main_arg0) : Vec Ideal S2x4096x4x192 .f32) (ix4 b y h ⟨d.val, hd⟩) else (0 : EReal) := by
  have e : (iblk m c 0 t : Vec Ideal S1x128x1024 .f32) (ix3 0 r l) = (V m c main_v1 : Vec Ideal S2x4096x1024 .f32) (ix3 b y l) := by
    unfold iblk
    exact read_q c (V m c main_v1) t r l b y hb hy
  rw [e, V_q, rowsQ_at _ _ _ h d l hl, padQ_at]

/-- The keys a grid point reads. -/
theorem k_block (t : Fin cfg0.N) (y : Fin 4096) (d : Fin 256) (b : Fin 2) (hb : b.val = t.val / 32) :
    (iblk m c 1 t : Vec Ideal S1x4096x256 .bf16) (ix3 0 y d)
      = if hd : d.val < 192 then (m (c, main_arg1) : Vec Ideal S2x4096x192 .f32) (ix3 b y ⟨d.val, hd⟩) else (0 : EReal) := by
  have e : (iblk m c 1 t : Vec Ideal S1x4096x256 .bf16) (ix3 0 y d) = (V m c main_v3 : Vec Ideal S2x4096x256 .bf16) (ix3 b y d) := by
    unfold iblk
    exact read_k c (V m c main_v3) t y d b hb
  rw [e, V_kv, padK_at]

end Cert.KernelIdeal.Host
end
-- ==== Proof.AttnOut.lean ====
/-
  The attention kernel's result array at an element: the blocks it reads are the arguments padded with zero lanes, and
  the element is the quotient of the softmax's state over all the keys.
-/
module

public import proofs.«01_k».proof.Proof.AttnHost
public import proofs.«01_k».proof.Proof.Gen.KernelIdeal.Value
public import Idealize.ShloMosaic.Lib.Tactic
public import Idealize.ShloMosaic.Lib.StableHlo.Run

@[expose] public section

set_option maxRecDepth 16384

noncomputable section

namespace Cert.KernelIdeal.Out

open Cert.KernelIdeal Cert.KernelIdeal.Gen Cert.KernelIdeal.Body Cert.KernelIdeal.Step Cert.Softmax Idealize.ShloMosaic Idealize.ShloMosaic.TcCoe Idealize.SL.Sem

/-! ## The block a grid point writes -/

section
variable (l : Vec Ideal S4x128x1 .f32) (a : Vec Ideal S512x128 .f32)

/-- The quotient of a head's row. -/
def quot (h : Fin 4) (r d : Fin 128) : EReal := Ideal.div (a (ix2 ⟨h.val * 128 + r.val, by omega⟩ d)) (safe (l (ix3 h r 0)))

theorem pay47_at (h : Fin 4) (r d : Fin 128) : k0_pay47 (F := Ideal) l a (ix2 ⟨h.val * 128 + r.val, by omega⟩ d) = quot l a h r d := by
  have e : ∀ R : Fin 512, k0_pay47 (F := Ideal) l a (ix2 R d)
      = Ideal.div (a (ix2 R d)) (safe (l (ix3 ⟨R.val / 128, by omega⟩ ⟨R.val % 128, by omega⟩ 0))) := by
    intro R
    pointwise [k0_pay47]
    rfl
  rw [e]
  have e1 : (⟨(h.val * 128 + r.val) / 128, by omega⟩ : Fin 4) = h := Fin.ext (by simp only []; omega)
  have e2 : (⟨(h.val * 128 + r.val) % 128, by omega⟩ : Fin 128) = r := Fin.ext (by simp only []; omega)
  simp only [e1, e2, quot]

theorem pay48_at (r d : Fin 128) : k0_pay48 (F := Ideal) l a (ix3 0 r d) = quot l a 0 r d := by
  have e : k0_pay48 (F := Ideal) l a (ix3 0 r d) = k0_pay47 (F := Ideal) l a (ix2 ⟨r.val, by omega⟩ d) := by pointwise [k0_pay48]
  rw [e, ← pay47_at]
  congr 2
  exact Fin.ext (by show r.val = 0 * 128 + r.val; omega)

theorem pay49_at (r d : Fin 128) : k0_pay49 (F := Ideal) l a (ix3 0 r d) = quot l a 1 r d := by
  have e : k0_pay49 (F := Ideal) l a (ix3 0 r d) = k0_pay47 (F := Ideal) l a (ix2 ⟨128 + r.val, by omega⟩ d) := by pointwise [k0_pay49]
  rw [e, ← pay47_at]
  rfl

theorem pay50_at (r d : Fin 128) : k0_pay50 (F := Ideal) l a (ix3 0 r d) = quot l a 2 r d := by
  have e : k0_pay50 (F := Ideal) l a (ix3 0 r d) = k0_pay47 (F := Ideal) l a (ix2 ⟨256 + r.val, by omega⟩ d) := by pointwise [k0_pay50]
  rw [e, ← pay47_at]
  rfl

theorem pay1_at (r d : Fin 128) : k0_pay1 (k0_pay47 (F := Ideal) l a) (ix3 0 r d) = quot l a 3 r d := by
  have e : ∀ x : FVec Ideal S512x128 .f32, k0_pay1 (F := Ideal) x (ix3 0 r d) = x (ix2 ⟨384 + r.val, by omega⟩ d) := by
    intro x
    pointwise [k0_pay1]
  rw [e, ← pay47_at]
  rfl

/-- One stored head, where it holds a column. -/
theorem tile_at (s : Fin 4) (off : Fin S1x128x512.rank → ℕ) (he : off = ![0, 0, 128 * s.val]) (w : Vec Ideal S1x128x128 .f32)
    (hw : ∀ r d : Fin 128, w (ix3 0 r d) = quot l a s r d) (r : Fin 128) (col : Fin 512) :
    View.TileAt (Val := Elt Ideal) (e := .f32) (S := S1x128x512) (ix3 0 r col) off ![1, 128, 128] w (quot l a ⟨col.val / 128, by omega⟩ r ⟨col.val % 128, by omega⟩) := by
  subst he
  intro x hx
  have h1 : r.val = 0 + (x 1).val := hx 1
  have h2 : col.val = 128 * s.val + (x 2).val := hx 2
  have b2 : (x 2).val < 128 := (x 2).isLt
  have b0 : (x 0).val < 1 := (x 0).isLt
  have ex : x = ix3 (n1 := 128) (n2 := 128) 0 r ⟨col.val % 128, by omega⟩ := by
    funext i
    apply Fin.ext
    match i with
    | ⟨0, _⟩ => show (x 0).val = 0; omega
    | ⟨1, _⟩ => show (x 1).val = r.val; omega
    | ⟨2, _⟩ => show (x 2).val = col.val % 128; omega
  have es : (⟨col.val / 128, by omega⟩ : Fin 4) = s := Fin.ext (by show col.val / 128 = s.val; omega)
  rw [es]
  exact (congrArg w ex).trans (hw _ _)
end

section
variable (c : Dev nD) (t : Fin grid0.N)
  (a2 : Memref sig .tc .vmem S1x128x1024 .f32) (h2 : a2.IsWhole) (a3 : Memref sig .tc .vmem S1x4096x256 .bf16) (h3 : a3.IsWhole)
  (a4 : Memref sig .tc .vmem S1x128x512 .f32) (h4 : a4.IsWhole) (a5 : Memref sig .tc .vmem S512x128 .f32) (h5 : a5.IsWhole)
  (a6 : Memref sig .tc .vmem S4x128x1 .f32) (h6 : a6.IsWhole) (a7 : Memref sig .tc .vmem S4x128x1 .f32) (h7 : a7.IsWhole)
  (x0 : Vec Ideal S1x128x1024 .f32) (x1 : Vec Ideal S1x4096x256 .bf16)

theorem block_at (r : Fin 128) (col : Fin 512) :
    (out0_A_2 c (grid0.coords t) a2 h2 a3 h3 a4 h4 a5 h5 a6 h6 a7 h7 x0 x1 : Vec Ideal S1x128x512 .f32) (ix3 0 r col)
      = quot (final (grid0.coords t) x0 x1).2.2 (final (grid0.coords t) x0 x1).1 ⟨col.val / 128, by omega⟩ r ⟨col.val % 128, by omega⟩ := by
  rw [out_eq c (grid0.coords t) a2 h2 a3 h3 a4 h4 a5 h5 a6 h6 a7 h7 x0 x1 (trips2 t) (trips4 t)]
  refine View.canon_eq_of_allAt _ _ _ (View.cover_of_tiled_head _ _ _ rfl _) ?_
  refine View.allAt_cons_unit _ _ _ _ _ (tile_at _ _ 3 _ rfl _ (pay1_at _ _) r col) ?_
  refine View.allAt_cons_unit _ _ _ _ _ (tile_at _ _ 2 _ rfl _ (pay50_at _ _) r col) ?_
  refine View.allAt_cons_unit _ _ _ _ _ (tile_at _ _ 1 _ rfl _ (pay49_at _ _) r col) ?_
  exact View.allAt_cons_unit _ _ _ _ _ (tile_at _ _ 0 _ rfl _ (pay48_at _ _) r col) (View.allAt_nil _ _)

/-- The block's element: the softmax's quotient over all the keys. -/
theorem block_eq (r : Fin 128) (col : Fin 512) :
    (out0_A_2 c (grid0.coords t) a2 h2 a3 h3 a4 h4 a5 h5 a6 h6 a7 h7 x0 x1 : Vec Ideal S1x128x512 .f32) (ix3 0 r col)
      = Ideal.div (num (masked (queries x0) x1 (128 * (t.val % 32)) ⟨col.val / 128, by omega⟩ r) (Finset.range 4096) (value x1 ⟨col.val % 128, by omega⟩))
          (safe (den (masked (queries x0) x1 (128 * (t.val % 32)) ⟨col.val / 128, by omega⟩ r) (Finset.range 4096))) := by
  obtain ⟨_, e2, e3⟩ := final_holds x1 t x0 ⟨col.val / 128, by omega⟩ r
  rw [block_at, quot, e2, e3]
end

/-! ## The queries' rows -/

theorem pay32_at (x y z w : Vec Ideal S1x128x256 .f32) (R : Fin 512) (k : Fin 256) : (k0_pay32 x y z w : FVec Ideal S512x256 .bf16) (ix2 R k)
    = (if h : R.val < 128 then x (ix3 0 ⟨R.val, h⟩ k) else if h1 : R.val - 128 < 128 then y (ix3 0 ⟨R.val - 128, h1⟩ k)
        else if h2 : R.val - 128 - 128 < 128 then z (ix3 0 ⟨R.val - 128 - 128, h2⟩ k) else w (ix3 0 ⟨R.val - 128 - 128 - 128, by omega⟩ k)) * Ideal.ofBits .f32 0x3D93CD3A#32 := by
  pointwise [k0_pay32]

/-- A head's lanes loaded from the queries' block. -/
theorem head_at (x0 : Vec Ideal S1x128x1024 .f32) (off : Fin S1x128x1024.rank → ℕ) (inb) (h : Fin 4) (he : off = ![0, 0, 256 * h.val]) (r : Fin 128) (x : Fin 256) :
    (View.ld x0 (Rect.unit (s := S1x128x1024) off S1x128x256.size inb) : Vec Ideal S1x128x256 .f32) (ix3 0 r x) = x0 (ix3 0 r ⟨256 * h.val + x.val, by omega⟩) := by
  subst he
  refine View.ld_unit_apply_of x0 _ _ _ _ _ fun a => ?_
  match a with
  | ⟨0, _⟩ => rfl
  | ⟨1, _⟩ => show r.val = 0 + r.val; omega
  | ⟨2, _⟩ => rfl

theorem queries_at (x0 : Vec Ideal S1x128x1024 .f32) (h : Fin 4) (r : Fin 128) (x : Fin 256) :
    queries x0 (ix2 ⟨h.val * 128 + r.val, by omega⟩ x) = x0 (ix3 0 r ⟨256 * h.val + x.val, by omega⟩) * Ideal.ofBits .f32 0x3D93CD3A#32 := by
  rw [queries, pay32_at]
  congr 1
  by_cases c0 : h.val * 128 + r.val < 128
  · rw [dif_pos c0, head_at x0 ![0, 0, 0] inb_S1x128x1024_S1x128x256_0_0_0 0 rfl]
    congr 2
    · exact Fin.ext (by show h.val * 128 + r.val = r.val; omega)
    · exact Fin.ext (by show 256 * 0 + x.val = 256 * h.val + x.val; omega)
  · rw [dif_neg c0]
    by_cases c1 : h.val * 128 + r.val - 128 < 128
    · rw [dif_pos c1, head_at x0 ![0, 0, 256] inb_S1x128x1024_S1x128x256_0_0_256 1 rfl]
      congr 2
      · exact Fin.ext (by show h.val * 128 + r.val - 128 = r.val; omega)
      · exact Fin.ext (by show 256 * 1 + x.val = 256 * h.val + x.val; omega)
    · rw [dif_neg c1]
      by_cases c2 : h.val * 128 + r.val - 128 - 128 < 128
      · rw [dif_pos c2, head_at x0 ![0, 0, 512] inb_S1x128x1024_S1x128x256_0_0_512 2 rfl]
        congr 2
        · exact Fin.ext (by show h.val * 128 + r.val - 128 - 128 = r.val; omega)
        · exact Fin.ext (by show 256 * 2 + x.val = 256 * h.val + x.val; omega)
      · rw [dif_neg c2, head_at x0 ![0, 0, 768] inb_S1x128x1024_S1x128x256_0_0_768 3 rfl]
        congr 2
        · exact Fin.ext (by show h.val * 128 + r.val - 128 - 128 - 128 = r.val; omega)
        · exact Fin.ext (by show 256 * 3 + x.val = 256 * h.val + x.val; omega)

/-! ## The result array -/

section
variable (m : (ℓ : Loc nD τ sig) → Buf (Elt Ideal) ℓ) (c : Dev nD)

/-- A lane's product, zero past the last lane. -/
def lane (Q K : Fin 192 → EReal) (a : EReal) (n : ℕ) : EReal := if h : n < 192 then K ⟨n, h⟩ * Q ⟨n, h⟩ * a else 0

/-- A product over 256 lanes whose last 64 are zero, scaled on one side, is the scaled product over the 192. -/
theorem pad_sum (Q K : Fin 192 → EReal) (a : EReal) (h0 : 0 ≤ a) (ht : a ≠ ⊤) :
    ∑ x : Fin 256, (if h : x.val < 192 then Q ⟨x.val, h⟩ else 0) * a * (if h : x.val < 192 then K ⟨x.val, h⟩ else 0) = (∑ d, K d * Q d) * a := by
  have e1 : ∀ x : Fin 256, (if h : x.val < 192 then Q ⟨x.val, h⟩ else 0) * a * (if h : x.val < 192 then K ⟨x.val, h⟩ else 0)
      = lane Q K a x.val := by
    intro x
    by_cases h : x.val < 192
    · simp only [lane, dif_pos h]
      rw [mul_comm, mul_assoc]
    · simp only [lane, dif_neg h, mul_zero]
  rw [Finset.sum_congr rfl fun x _ => e1 x, ← Finset.sum_range (lane Q K a), Softmax.sum_mul _ _ h0 ht]
  have e2 : ∀ d : Fin 192, K d * Q d * a = lane Q K a d.val := by
    intro d
    simp only [lane, dif_pos d.isLt]
  rw [Finset.sum_congr rfl fun d _ => e2 d, ← Finset.sum_range (lane Q K a)]
  refine (Finset.sum_subset (Finset.range_mono (by omega)) fun n _ hn => ?_).symm
  rw [Finset.mem_range] at hn
  simp only [lane, dif_neg hn]

theorem scale_nonneg : (0 : EReal) ≤ Ideal.ofBits .f32 0x3D93CD3A#32 := by
  rw [Cert.Consts.f32_scale]
  exact EReal.coe_nonneg.mpr (by norm_num)

theorem scale_ne_top : Ideal.ofBits .f32 0x3D93CD3A#32 ≠ (⊤ : EReal) := by
  rw [Cert.Consts.f32_scale]
  exact EReal.coe_ne_top _

/-- The queries of the arguments. -/
abbrev argQ : FVec Ideal S2x4096x4x192 .f32 := m (c, main_arg0)

/-- The keys and values of the arguments. -/
abbrev argK : FVec Ideal S2x4096x192 .f32 := m (c, main_arg1)

/-- A grid point's score of its row against a key. -/
theorem score_at (t : Fin cfg0.N) (h : Fin 4) (r : Fin 128) (k : ℕ) (hk : k < 4096) (b : Fin 2) (y : Fin 4096)
    (hb : b.val = t.val / 32) (hy : y.val = 128 * (t.val % 32) + r.val) :
    score (queries (iblk m c 0 t : Vec Ideal S1x128x1024 .f32)) (iblk m c 1 t : Vec Ideal S1x4096x256 .bf16) h r k
      = (∑ d : Fin 192, argK m c (ix3 b ⟨k, hk⟩ d) * argQ m c (ix4 b y h d))
          * Ideal.ofBits .f32 0x3D93CD3A#32 := by
  rw [score, dif_pos hk, ← pad_sum _ _ _ scale_nonneg scale_ne_top]
  refine Finset.sum_congr rfl fun x _ => ?_
  rw [queries_at, Host.q_block m c t r h x _ rfl b y hb hy, Host.k_block m c t _ x b hb]

/-- A grid point's value lane of a key. -/
theorem value_at (t : Fin cfg0.N) (d : Fin 128) (k : ℕ) (hk : k < 4096) (b : Fin 2) (hb : b.val = t.val / 32) :
    value (iblk m c 1 t : Vec Ideal S1x4096x256 .bf16) d k = argK m c (ix3 b ⟨k, hk⟩ ⟨d.val, by omega⟩) := by
  rw [value, dif_pos hk, Host.k_block m c t _ _ b hb, dif_pos (by show d.val < 192; omega)]

/-- The result array, from the block of the grid point that writes it. -/
theorem arr_at (t : Fin cfg0.N) (r : Fin 128) (col : Fin 512) (b : Fin 2) (y : Fin 4096)
    (hb : b.val = t.val / 32) (hy : y.val = 128 * (t.val % 32) + r.val) :
    ((dats m 0 c).arrAt 2 cfg0.N : Vec Ideal S2x4096x512 .f32) (ix3 b y col)
      = Ideal.div (num (masked (queries (iblk m c 0 t : Vec Ideal S1x128x1024 .f32)) (iblk m c 1 t : Vec Ideal S1x4096x256 .bf16) (128 * (t.val % 32)) ⟨col.val / 128, by omega⟩ r) (Finset.range 4096) (value (iblk m c 1 t : Vec Ideal S1x4096x256 .bf16) ⟨col.val % 128, by omega⟩))
          (safe (den (masked (queries (iblk m c 0 t : Vec Ideal S1x128x1024 .f32)) (iblk m c 1 t : Vec Ideal S1x4096x256 .bf16) (128 * (t.val % 32)) ⟨col.val / 128, by omega⟩ r) (Finset.range 4096))) := by
  have e := (Host.read_o c ((dats m 0 c).arrAt 2 cfg0.N) t r col b y hb hy).symm
  have e2 := congrFun ((Value.blocks2 m c t (flush0_2 t)).trans (Value.flushed2_A m c t)) (ix3 0 r col)
  refine e.trans (e2.trans ?_)
  exact block_eq c t (ms0_0 t) (hs0_0 t) (ms0_1 t) (hs0_1 t) (ms0_2 t) (hs0_2 t) scM0_0 (Memref.isWhole_whole _) scM0_1 (Memref.isWhole_whole _) scM0_2 (Memref.isWhole_whole _) (iblk m c 0 t) (iblk m c 1 t) r col

end

end Cert.KernelIdeal.Out
end
-- ==== Proof.AttnRef.lean ====
/-
  The attention reference, element by element: scores, causal mask, the guarded maximum, the exponentials, the guarded
  sum, the division and the product with the values.
-/
module

public import proofs.«01_k».proof.Proof.Consts
public import proofs.«01_k».proof.Proof.AttnOut
public import Idealize.ShloMosaic.Lib.Pointwise
public import proofs.«01_k».proof.Proof.Gen.ReferenceIdeal.Run

@[expose] public section

set_option maxRecDepth 16384

noncomputable section

namespace Cert.ReferenceIdeal.Read

open Cert.ReferenceIdeal Cert.ReferenceIdeal.Gen Cert.Softmax Idealize.ShloMosaic Idealize.ShloMosaic.TcCoe Idealize.SL.Sem

/-- The causal mask's bits. -/
def bits : IVec S2x4x4096x4096 1 :=
  broadcastInDim S2x4x4096x4096 ![0, 1, 2, 3] bcast_S1x1x4096x4096_S2x4x4096x4096_0_1_2_3 (broadcastInDim S1x1x4096x4096 ![2, 3] bcast_S4096x4096_S1x1x4096x4096_2_3 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0)))))

/-- The products of the keys with the queries. -/
def dots (k : FVec Ideal S2x4096x192 .f32) (q : FVec Ideal S2x4096x4x192 .f32) : FVec Ideal S2x4096x4096x4 .f32 :=
  Host.dotGeneral dot_S2x4096x192_S2x4096x4x192_S2x4096x4096x4_2_3_1_12_0_0 none k q

/-- The scaled scores with the later keys masked. -/
def scores (b : IVec S2x4x4096x4096 1) (d : FVec Ideal S2x4096x4096x4 .f32) : FVec Ideal S2x4x4096x4096 .f32 :=
  select b (mulf (transpose S2x4x4096x4096 [0, 3, 2, 1] d transposes_S2x4096x4096x4_S2x4x4096x4096_0_3_2_1) (broadcastInDim S2x4x4096x4096 ![] bcast_S_S2x4x4096x4096 (constant S_ .f32 0x3D93CD3A#32))) (broadcastInDim S2x4x4096x4096 ![] bcast_S_S2x4x4096x4096 (id (constant S_ .f32 0xFF800000#32)))

/-- The maximum of each row. -/
def tops (s : FVec Ideal S2x4x4096x4096 .f32) : FVec Ideal S2x4x4096x1 .f32 :=
  broadcastInDim S2x4x4096x1 ![0, 1, 2] bcast_S2x4x4096_S2x4x4096x1_0_1_2 (Host.reduce FloatOps.maximumf s (constant S_ .f32 0xFF800000#32) reducesTo_S2x4x4096x4096_S2x4x4096_d3 h_S_)

/-- The maximum, or zero where it is not finite. -/
def refs (t : FVec Ideal S2x4x4096x1 .f32) : FVec Ideal S2x4x4096x1 .f32 :=
  select (cmpf .olt (Host.absf t) (broadcastInDim S2x4x4096x1 ![] bcast_S_S2x4x4096x1 (constant S_ .f32 0x7F800000#32))) t (broadcastInDim S2x4x4096x1 ![] bcast_S_S2x4x4096x1 (id (constant S_ .f32 0x00000000#32)))

/-- The masked exponentials. -/
def exps (b : IVec S2x4x4096x4096 1) (s : FVec Ideal S2x4x4096x4096 .f32) (r : FVec Ideal S2x4x4096x1 .f32) : FVec Ideal S2x4x4096x4096 .f32 :=
  select b (Host.exp (subf s (broadcastInDim S2x4x4096x4096 ![0, 1, 2, 3] bcast_S2x4x4096x1_S2x4x4096x4096_0_1_2_3 r))) (broadcastInDim S2x4x4096x4096 ![] bcast_S_S2x4x4096x4096 (id (constant S_ .f32 0x00000000#32)))

/-- Their sum along each row. -/
def dens (e : FVec Ideal S2x4x4096x4096 .f32) : FVec Ideal S2x4x4096x1 .f32 :=
  broadcastInDim S2x4x4096x1 ![0, 1, 2] bcast_S2x4x4096_S2x4x4096x1_0_1_2 (Host.reduceAdd e (constant S_ .f32 0x00000000#32) reducesTo_S2x4x4096x4096_S2x4x4096_d3 h_S_)

/-- The probabilities. -/
def probs (e : FVec Ideal S2x4x4096x4096 .f32) (d : FVec Ideal S2x4x4096x1 .f32) : FVec Ideal S2x4x4096x4096 .f32 :=
  Host.divf e (broadcastInDim S2x4x4096x4096 ![0, 1, 2, 3] bcast_S2x4x4096x1_S2x4x4096x4096_0_1_2_3 (select (cmpf .ogt d (broadcastInDim S2x4x4096x1 ![] bcast_S_S2x4x4096x1 (constant S_ .f32 0x00000000#32))) d (broadcastInDim S2x4x4096x1 ![] bcast_S_S2x4x4096x1 (id (constant S_ .f32 0x3F800000#32)))))

/-- The products of the values with the probabilities. -/
def mix (k : FVec Ideal S2x4096x192 .f32) (p : FVec Ideal S2x4x4096x4096 .f32) : FVec Ideal S2x128x4x4096 .f32 :=
  Host.dotGeneral dot_S2x4096x128_S2x4x4096x4096_S2x128x4x4096_1_3_2_12_0_0 none (extractStridedSlice S2x4096x128 ![0, 0, 0] k slices_S2x4096x192_S2x4096x128_0_0_0) p

/-- The heads side by side. -/
def lay (o : FVec Ideal S2x128x4x4096 .f32) : FVec Ideal S2x4096x512 .f32 :=
  shapeCast S2x4096x512 (transpose S2x4096x4x128 [0, 3, 2, 1] o transposes_S2x128x4x4096_S2x4096x4x128_0_3_2_1) shapeCasts_S2x4096x4x128_S2x4096x512

/-- The masked scores of the arguments. -/
def scoresOf (q : FVec Ideal S2x4096x4x192 .f32) (k : FVec Ideal S2x4096x192 .f32) : FVec Ideal S2x4x4096x4096 .f32 := scores bits (dots k q)

/-- Their exponentials. -/
def expsOf (q : FVec Ideal S2x4096x4x192 .f32) (k : FVec Ideal S2x4096x192 .f32) : FVec Ideal S2x4x4096x4096 .f32 :=
  exps bits (scoresOf q k) (refs (tops (scoresOf q k)))

theorem res_eq (m : (ℓ : Loc nD τ sig) → Buf (Elt Ideal) ℓ) (c : Dev nD) :
    (Cert.ReferenceIdeal.Value.res_out0 m c : Vec Ideal S2x4096x512 .f32)
      = lay (mix (m ((c.tc : Thread nD τ).loc main_arg1) : Vec Ideal S2x4096x192 .f32)
          (probs (expsOf (m ((c.tc : Thread nD τ).loc main_arg0) : Vec Ideal S2x4096x4x192 .f32) (m ((c.tc : Thread nD τ).loc main_arg1) : Vec Ideal S2x4096x192 .f32))
            (dens (expsOf (m ((c.tc : Thread nD τ).loc main_arg0) : Vec Ideal S2x4096x4x192 .f32) (m ((c.tc : Thread nD τ).loc main_arg1) : Vec Ideal S2x4096x192 .f32))))) := rfl

theorem bits_at (b : Fin 2) (h : Fin 4) (x y : Fin 4096) :
    bits (ix4 b h x y) = BitVec.ofBool (decide (y.val ≤ x.val)) := by
  have e : bits (ix4 b h x y) = IntOp.cmpi .sle (BitVec.ofNat 32 y.val) (BitVec.ofNat 32 x.val) := by pointwise [bits]
  have hx : (BitVec.ofNat 32 x.val).toInt = (x.val : ℤ) := by
    rw [BitVec.toInt_eq_toNat_of_lt (by rw [BitVec.toNat_ofNat]; omega), BitVec.toNat_ofNat, Nat.mod_eq_of_lt (by omega)]
  have hy : (BitVec.ofNat 32 y.val).toInt = (y.val : ℤ) := by
    rw [BitVec.toInt_eq_toNat_of_lt (by rw [BitVec.toNat_ofNat]; omega), BitVec.toNat_ofNat, Nat.mod_eq_of_lt (by omega)]
  rw [e]
  show BitVec.ofBool (decide ((BitVec.ofNat 32 y.val).toInt ≤ (BitVec.ofNat 32 x.val).toInt)) = _
  rw [hx, hy]
  congr 1
  exact decide_eq_decide.mpr (by omega)

theorem dots_at (k : FVec Ideal S2x4096x192 .f32) (q : FVec Ideal S2x4096x4x192 .f32) (b : Fin 2) (y x : Fin 4096) (h : Fin 4) :
    dots k q (ix4 b y x h) = ∑ d : Fin 192, k (ix3 b y d) * q (ix4 b x h d) := by
  pointwise [dots]

theorem scores_at (c : IVec S2x4x4096x4096 1) (d : FVec Ideal S2x4096x4096x4 .f32) (b : Fin 2) (h : Fin 4) (x y : Fin 4096) :
    scores c d (ix4 b h x y) = Scalar.select (c (ix4 b h x y)) (d (ix4 b y x h) * Ideal.ofBits .f32 0x3D93CD3A#32) (Ideal.ofBits .f32 0xFF800000#32) := by
  pointwise [scores]
  rfl

theorem tops_at (s : FVec Ideal S2x4x4096x4096 .f32) (b : Fin 2) (h : Fin 4) (x : Fin 4096) :
    tops s (ix4 b h x 0) = Finset.fold max (Ideal.ofBits .f32 0xFF800000#32) (fun y => s (ix4 b h x y)) Finset.univ := by
  pointwise [tops]

theorem refs_at (t : FVec Ideal S2x4x4096x1 .f32) (b : Fin 2) (h : Fin 4) (x : Fin 4096) :
    refs t (ix4 b h x 0) = ref (t (ix4 b h x 0)) := by
  pointwise [refs]
  have z : (id (constant S_ FTy.f32 0x00000000#32) : FVec Ideal S_ .f32) ix0 = (0 : EReal) := Cert.Consts.f32_zero
  rw [z, Cert.Consts.f32_inf]
  rfl

theorem exps_at (c : IVec S2x4x4096x4096 1) (s : FVec Ideal S2x4x4096x4096 .f32) (r : FVec Ideal S2x4x4096x1 .f32) (b : Fin 2) (h : Fin 4) (x y : Fin 4096) :
    exps c s r (ix4 b h x y) = Scalar.select (c (ix4 b h x y)) (Ideal.exp (s (ix4 b h x y) - r (ix4 b h x 0))) (0 : EReal) := by
  pointwise [exps]
  have z : (id (constant S_ FTy.f32 0x00000000#32) : FVec Ideal S_ .f32) ix0 = (0 : EReal) := Cert.Consts.f32_zero
  rw [z]

theorem dens_at (e : FVec Ideal S2x4x4096x4096 .f32) (b : Fin 2) (h : Fin 4) (x : Fin 4096) :
    dens e (ix4 b h x 0) = ∑ y : Fin 4096, e (ix4 b h x y) := by
  pointwise [dens]

theorem probs_at (e : FVec Ideal S2x4x4096x4096 .f32) (d : FVec Ideal S2x4x4096x1 .f32) (b : Fin 2) (h : Fin 4) (x y : Fin 4096) :
    probs e d (ix4 b h x y) = Ideal.div (e (ix4 b h x y)) (safe (d (ix4 b h x 0))) := by
  pointwise [probs]
  have z : (id (constant S_ FTy.f32 0x3F800000#32) : FVec Ideal S_ .f32) ix0 = (1 : EReal) := Cert.Consts.f32_one
  rw [z]
  rfl

theorem mix_at (k : FVec Ideal S2x4096x192 .f32) (p : FVec Ideal S2x4x4096x4096 .f32) (b : Fin 2) (d : Fin 128) (h : Fin 4) (x : Fin 4096) :
    mix k p (ix4 b d h x) = ∑ y : Fin 4096, k (ix3 b y ⟨d.val, by omega⟩) * p (ix4 b h x y) := by
  pointwise [mix]

theorem lay_at (o : FVec Ideal S2x128x4x4096 .f32) (b : Fin 2) (x : Fin 4096) (c : Fin 512) :
    lay o (ix3 b x c) = o (ix4 b ⟨c.val % 128, by omega⟩ ⟨c.val / 128, by omega⟩ x) := by
  pointwise [lay]

/-! ## A row's result -/

section
variable (q : FVec Ideal S2x4096x4x192 .f32) (k : FVec Ideal S2x4096x192 .f32)

/-- The masked score of a query position against the key at `y`. -/
def rowScore (b : Fin 2) (h : Fin 4) (x : Fin 4096) (y : ℕ) : EReal :=
  if y ≤ x.val then (if hy : y < 4096 then (∑ d : Fin 192, k (ix3 b ⟨y, hy⟩ d) * q (ix4 b x h d)) * Ideal.ofBits .f32 0x3D93CD3A#32 else ⊥) else ⊥

/-- A lane of the value at `y`. -/
def rowValue (b : Fin 2) (d : Fin 128) (y : ℕ) : EReal := if hy : y < 4096 then k (ix3 b ⟨y, hy⟩ ⟨d.val, by omega⟩) else 0

theorem sup_range (n : ℕ) (f : ℕ → EReal) : (Finset.range n).sup f = Finset.univ.sup fun i : Fin n => f i.val := by
  apply le_antisymm
  · exact Finset.sup_le fun i hi => Finset.le_sup (f := fun i : Fin n => f i.val) (Finset.mem_univ ⟨i, Finset.mem_range.mp hi⟩)
  · exact Finset.sup_le fun i _ => Finset.le_sup (f := f) (Finset.mem_range.mpr i.isLt)

theorem scoresOf_at (b : Fin 2) (h : Fin 4) (x y : Fin 4096) : scoresOf q k (ix4 b h x y) = rowScore q k b h x y.val := by
  rw [scoresOf, scores_at, bits_at, Cert.Consts.f32_neg_inf, dots_at, rowScore, dif_pos y.isLt]
  unfold Scalar.select
  by_cases hc : y.val ≤ x.val <;> simp [hc]

theorem topsOf_at (b : Fin 2) (h : Fin 4) (x : Fin 4096) : tops (scoresOf q k) (ix4 b h x 0) = top (rowScore q k b h x) (Finset.range 4096) := by
  rw [tops_at, Cert.Consts.f32_neg_inf, top, sup_range]
  simp only [scoresOf_at]
  rfl

theorem expsOf_at (b : Fin 2) (h : Fin 4) (x y : Fin 4096) :
    expsOf q k (ix4 b h x y) = Ideal.exp (rowScore q k b h x y.val - ref (top (rowScore q k b h x) (Finset.range 4096))) := by
  rw [expsOf, exps_at, refs_at, topsOf_at, scoresOf_at, bits_at]
  unfold Scalar.select
  by_cases hc : y.val ≤ x.val
  · simp [hc]
  · have e : rowScore q k b h x y.val = ⊥ := by rw [rowScore, if_neg hc]
    rw [e, exp_bot_sub]
    simp [hc]

/-- The reference's result: the softmax's weighted sum of the values over all the keys. -/
theorem out_at (b : Fin 2) (x : Fin 4096) (c : Fin 512) :
    lay (mix k (probs (expsOf q k) (dens (expsOf q k)))) (ix3 b x c)
      = Ideal.div (num (rowScore q k b ⟨c.val / 128, by omega⟩ x) (Finset.range 4096) (rowValue k b ⟨c.val % 128, by omega⟩))
          (safe (den (rowScore q k b ⟨c.val / 128, by omega⟩ x) (Finset.range 4096))) := by
  rw [lay_at, mix_at, quotient, Finset.sum_range, Finset.sum_range]
  refine Finset.sum_congr rfl fun y _ => ?_
  rw [probs_at, dens_at, expsOf_at, mul_comm, rowValue, dif_pos y.isLt]
  simp only [expsOf_at]

end

end Cert.ReferenceIdeal.Read
end
-- ==== Proof.AttnClaim.lean ====
/-
  The attention value claim: over the extended reals the kernel's result is the reference's, at every element.
-/
module

public import proofs.«01_k».proof.Defs
public import proofs.«01_k».proof.Proof.AttnRef

@[expose] public section

set_option maxRecDepth 16384

noncomputable section

namespace Cert.AttnProof

open Idealize.ShloMosaic Idealize.ShloMosaic.TcCoe Idealize.SL.Sem Cert.Softmax
open Cert.KernelIdeal.Step (masked score value)
open Cert.KernelIdeal.Body (queries)
open Cert.KernelIdeal.Out (argQ argK)
open Cert.ReferenceIdeal.Read

/-- Equal scores and values over the keys give equal quotients. -/
theorem quotient_congr (S T : ℕ → EReal) (v w : ℕ → EReal) (n : ℕ) (hS : ∀ k, k < n → S k = T k) (hv : ∀ k, k < n → v k = w k) :
    Ideal.div (num S (Finset.range n) v) (safe (den S (Finset.range n))) = Ideal.div (num T (Finset.range n) w) (safe (den T (Finset.range n))) := by
  have ht : top S (Finset.range n) = top T (Finset.range n) := Finset.sup_congr rfl fun k hk => hS k (Finset.mem_range.mp hk)
  have hn : num S (Finset.range n) v = num T (Finset.range n) w :=
    Finset.sum_congr rfl fun k hk => by rw [ht, hS k (Finset.mem_range.mp hk), hv k (Finset.mem_range.mp hk)]
  have hd : den S (Finset.range n) = den T (Finset.range n) :=
    Finset.sum_congr rfl fun k hk => by rw [ht, hS k (Finset.mem_range.mp hk)]
  rw [hn, hd]

theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    (Cert.ReferenceIdeal.Value.res_out0 m' c : Vec Ideal Cert.ReferenceIdeal.S2x4096x512 .f32)
      = ((Cert.KernelIdeal.Gen.dats m 0 c).arrAt 2 Cert.KernelIdeal.cfg0.N : Vec Ideal Cert.KernelIdeal.S2x4096x512 .f32) := by
  have key : ∀ (b : Fin 2) (y : Fin 4096) (col : Fin 512),
      (Cert.ReferenceIdeal.Value.res_out0 m' c : Vec Ideal Cert.ReferenceIdeal.S2x4096x512 .f32) (ix3 b y col)
        = ((Cert.KernelIdeal.Gen.dats m 0 c).arrAt 2 Cert.KernelIdeal.cfg0.N : Vec Ideal Cert.KernelIdeal.S2x4096x512 .f32) (ix3 b y col) := by
    intro b y col
    have hb : b.val = (32 * b.val + y.val / 128) / 32 := by omega
    have hy : y.val = 128 * ((32 * b.val + y.val / 128) % 32) + y.val % 128 := by omega
    have ht : 32 * b.val + y.val / 128 < Cert.KernelIdeal.cfg0.N := lt_of_lt_of_eq (by omega) (show Cert.KernelIdeal.cfg0.N = 64 from Cert.KernelIdeal.Gen.N_0).symm
    rw [res_eq, out_at, Cert.KernelIdeal.Out.arr_at m c ⟨32 * b.val + y.val / 128, ht⟩ ⟨y.val % 128, by omega⟩ col b y hb hy]
    refine quotient_congr _ _ _ _ _ (fun k hk => ?_) fun k hk => ?_
    · rw [rowScore, masked]
      have e : (k ≤ 128 * ((32 * b.val + y.val / 128) % 32) + y.val % 128) = (k ≤ y.val) := by rw [← hy]
      by_cases hc : k ≤ y.val
      · rw [if_pos hc, if_pos (by show k ≤ 128 * ((32 * b.val + y.val / 128) % 32) + y.val % 128; omega), dif_pos hk,
          Cert.KernelIdeal.Out.score_at m c ⟨32 * b.val + y.val / 128, ht⟩ _ _ k hk b y hb hy]
        exact congrArg₂ (fun (A : FVec Ideal Cert.KernelIdeal.S2x4096x192 .f32) (B : FVec Ideal Cert.KernelIdeal.S2x4096x4x192 .f32) =>
          (∑ d : Fin 192, A (ix3 b ⟨k, hk⟩ d) * B (ix4 b y ⟨col.val / 128, by omega⟩ d)) * Ideal.ofBits .f32 0x3D93CD3A#32) h1 h0
      · rw [if_neg hc, if_neg (by show ¬k ≤ 128 * ((32 * b.val + y.val / 128) % 32) + y.val % 128; omega)]
    · rw [rowValue, dif_pos hk, Cert.KernelIdeal.Out.value_at m c ⟨32 * b.val + y.val / 128, ht⟩ _ k hk b hb]
      exact congrArg (fun (A : FVec Ideal Cert.KernelIdeal.S2x4096x192 .f32) => A (ix3 b ⟨k, hk⟩ ⟨col.val % 128, by omega⟩)) h1
  funext j
  have e : j = ix3 (j 0) (j 1) (j 2) := by funext a; match a with | ⟨0, _⟩ => rfl | ⟨1, _⟩ => rfl | ⟨2, _⟩ => rfl
  rw [e]
  exact key (j 0) (j 1) (j 2)

theorem algebraic : @Cert.algebraic_KernelIdeal_ReferenceIdeal Cert.KernelIdeal.Gen.facts Cert.ReferenceIdeal.Gen.facts :=
  fun m ρ m' ρ' _ hag => ⟨fun c => (Cert.KernelIdeal.Gen.dats m 0 c).arrAt 2 Cert.KernelIdeal.cfg0.N, Cert.KernelIdeal.Value.run_blocks m ρ,
    (θ_run _ _ _).mono (fun _ h c => ⟨(h c).1.trans (results_eq m m' c (hag c).1 (hag c).2), (h c).2⟩)
      (Cert.ReferenceIdeal.Value.run m' ρ')⟩

end Cert.AttnProof
end
-- ==== Proof.ProjMath.lean ====
/-
  The plain formulas both projection programs compute lane by lane: the root-mean-square norm, the rotary turn on 128
  and on 64 lanes, and the logarithm of the sigmoid. Then the laws that make the two programs' spellings of them agree:
  multiplying by the reciprocal against dividing, adding the negated product against subtracting, and the two forms of
  the logarithm of the sigmoid.
-/
module

public import proofs.«01_k».proof.Proof.Consts

@[expose] public section

noncomputable section

namespace Cert.ProjMath

open Idealize.ShloMosaic

/-- The root-mean-square norm of `v` with gain `g`, the mean taken by multiplying the sum with `c`. -/
def nrm {n : ℕ} (c : EReal) (v g : Fin n → EReal) (k : Fin n) : EReal :=
  v k * Ideal.rsqrt ((∑ i : Fin n, v i * v i) * c + Ideal.ofBits .f32 0x358637BD#32) * g k

/-- The reciprocals the means multiply with. -/
abbrev inv2048 : EReal := Ideal.ofBits .f32 0x3A000000#32
abbrev inv128 : EReal := Ideal.ofBits .f32 0x3C000000#32
abbrev inv64 : EReal := Ideal.ofBits .f32 0x3C800000#32

/-- The rotary turn of 128 lanes by 64 angles: lane `k` goes with lane `k ± 64`. -/
def rope128 (x : Fin 128 → EReal) (a : Fin 64 → EReal) (k : Fin 128) : EReal :=
  if h : k.val < 64 then x k * Ideal.cos (a ⟨k.val, h⟩) - x ⟨k.val + 64, by omega⟩ * Ideal.sin (a ⟨k.val, h⟩)
  else x k * Ideal.cos (a ⟨k.val - 64, by omega⟩) + x ⟨k.val - 64, by omega⟩ * Ideal.sin (a ⟨k.val - 64, by omega⟩)

/-- The rotary turn of 64 lanes by 32 angles: lane `k` goes with lane `k ± 32`. -/
def rope64 (x : Fin 64 → EReal) (a : Fin 32 → EReal) (k : Fin 64) : EReal :=
  if h : k.val < 32 then x k * Ideal.cos (a ⟨k.val, h⟩) - x ⟨k.val + 32, by omega⟩ * Ideal.sin (a ⟨k.val, h⟩)
  else x k * Ideal.cos (a ⟨k.val - 32, by omega⟩) + x ⟨k.val - 32, by omega⟩ * Ideal.sin (a ⟨k.val - 32, by omega⟩)

/-- The logarithm of the sigmoid, from below: the lesser of `v` and zero, less `log (1 + e^(-|v|))`. -/
def logSig (v : EReal) : EReal :=
  min v 0 - Ideal.log1p (Ideal.exp (0 - FloatOps.absf (F := Ideal) (φ := .f32) v))

/-- 128 consecutive lanes of a row of projections, from lane `o` on. -/
def seg (z : Fin 3408 → EReal) (o : ℕ) (ho : o + 128 ≤ 3408) (i : Fin 128) : EReal := z ⟨o + i.val, by omega⟩

/-- A row of projections: the normed row times the weight. -/
def zRow (x g : Fin 2048 → EReal) (w : Fin 2048 → Fin 3408 → EReal) (j : Fin 3408) : EReal :=
  ∑ d : Fin 2048, nrm inv2048 x g d * w d j

/-- A row of turned, normed keys, its values behind them. -/
def keyRow (z : Fin 3408 → EReal) (o : ℕ) (ho : o + 256 ≤ 3408) (g : Fin 128 → EReal) (a : Fin 64 → EReal) (l : Fin 256) : EReal :=
  if h : l.val < 128 then rope128 (nrm inv128 (seg z o (by omega)) g) a ⟨l.val, h⟩ else z ⟨o + l.val, by omega⟩

/-- A row of normed keys, its values behind them. -/
def normRow (z : Fin 3408 → EReal) (o : ℕ) (ho : o + 256 ≤ 3408) (g : Fin 128 → EReal) (l : Fin 256) : EReal :=
  if h : l.val < 128 then nrm inv128 (seg z o (by omega)) g ⟨l.val, h⟩ else z ⟨o + l.val, by omega⟩

/-- A row of the latent cache: the normed latent, the turned normed key behind it. -/
def mlaRow (z : Fin 3408 → EReal) (g : Fin 128 → EReal) (g' : Fin 64 → EReal) (a : Fin 32 → EReal) (l : Fin 192) : EReal :=
  if h : l.val < 128 then nrm inv128 (seg z 384 (by norm_num)) g ⟨l.val, h⟩
  else rope64 (nrm inv64 (fun i : Fin 64 => z ⟨512 + i.val, by omega⟩) g') a ⟨l.val - 128, by omega⟩

/-- The four heads' normed, turned queries, head after head. -/
def turnedHeads (z : Fin 3408 → EReal) (o : ℕ) (ho : o + 512 ≤ 3408) (g : Fin 128 → EReal) (a : Fin 64 → EReal) (l : Fin 512) : EReal :=
  rope128 (nrm inv128 (seg z (o + 128 * (l.val / 128)) (by omega)) g) a ⟨l.val % 128, by omega⟩

/-- The four heads' normed queries, head after head. -/
def normedHeads (z : Fin 3408 → EReal) (o : ℕ) (ho : o + 512 ≤ 3408) (g : Fin 128 → EReal) (l : Fin 512) : EReal :=
  nrm inv128 (seg z (o + 128 * (l.val / 128)) (by omega)) g ⟨l.val % 128, by omega⟩

theorem f32_128 : Ideal.ofBits .f32 0x43000000#32 = ((128 : ℝ) : EReal) := by
  simp [Ideal.ofBits, Ideal.ieee, -EReal.coe_mul]; norm_num

theorem f32_inv_128 : Ideal.ofBits .f32 0x3C000000#32 = ((1 / 128 : ℝ) : EReal) := by
  simp [Ideal.ofBits, Ideal.ieee, -EReal.coe_mul]; norm_num

theorem f32_64 : Ideal.ofBits .f32 0x42800000#32 = ((64 : ℝ) : EReal) := by
  simp [Ideal.ofBits, Ideal.ieee, -EReal.coe_mul]; norm_num

theorem f32_inv_64 : Ideal.ofBits .f32 0x3C800000#32 = ((1 / 64 : ℝ) : EReal) := by
  simp [Ideal.ofBits, Ideal.ieee, -EReal.coe_mul]; norm_num

theorem mean2048 (s : EReal) : Ideal.div s (Ideal.ofBits .f32 0x45000000#32) = s * inv2048 := by
  rw [Consts.f32_2048, inv2048, Consts.f32_inv_2048]
  exact Ideal.div_coe (by norm_num : (2048 : ℝ) ≠ 0) s

theorem mean128 (s : EReal) : Ideal.div s (Ideal.ofBits .f32 0x43000000#32) = s * inv128 := by
  rw [f32_128, inv128, f32_inv_128]
  exact Ideal.div_coe (by norm_num : (128 : ℝ) ≠ 0) s

theorem mean64 (s : EReal) : Ideal.div s (Ideal.ofBits .f32 0x42800000#32) = s * inv64 := by
  rw [f32_64, inv64, f32_inv_64]
  exact Ideal.div_coe (by norm_num : (64 : ℝ) ≠ 0) s

end Cert.ProjMath
end
-- ==== Proof.ProjBody.lean ====
/-
  What the projection kernel's body computes on one block of 256 rows, lane by lane, from the product of the normed
  rows with the input weight.
-/
module

public import proofs.«01_k».proof.Proof.Gen.ProjIdeal.Frame
public import proofs.«01_k».proof.Proof.ProjMath
public import Idealize.ShloMosaic.Lib.Tactic
public import Idealize.ShloMosaic.Lib.Pointwise

@[expose] public section

set_option maxRecDepth 16384

noncomputable section

namespace Cert.ProjIdeal.Body

open Cert.ProjIdeal Cert.ProjIdeal.Gen Idealize.ShloMosaic Idealize.ShloMosaic.TcCoe Idealize.SL.Sem Cert.ProjMath

/-- The product of the normed rows with the weight. -/
theorem pay6_at (x : Vec Ideal S256x2048 .f32) (g : Vec Ideal S1x2048 .f32) (w : Vec Ideal S2048x3584 .bf16) (p : Fin 256) (j : Fin 3584) :
    k0_pay6 (F := Ideal) x g w (ix2 p j)
      = ∑ d : Fin 2048, nrm inv2048 (fun i => x (ix2 p i)) (fun i => g (ix2 0 i)) d * w (ix2 d j) := by
  unfold nrm
  pointwise [k0_pay6]

/-- A turn by tables: lane `k` goes with the lane 64 before it, around the 128. -/
def turn (x c s : Fin 128 → EReal) (k : Fin 128) : EReal :=
  x k * c k + x ⟨(k.val + 128 - 64) % 128, Nat.mod_lt _ (by norm_num)⟩ * s k

/-- A turn by tables within 64 lanes of the 128: the lanes 32 after and 32 before. -/
def turnHalf (x c s s' : Fin 128 → EReal) (k : Fin 128) : EReal :=
  x k * c k + x ⟨(k.val + 128 - 96) % 128, Nat.mod_lt _ (by norm_num)⟩ * s k + x ⟨(k.val + 128 - 32) % 128, Nat.mod_lt _ (by norm_num)⟩ * s' k

variable (z : FVec Ideal S256x3584 .f32) (vec : FVec Ideal S16x384 .f32) (c1 s1 c2 s2a s2b : FVec Ideal S256x128 .f32) (p : Fin 256) (k : Fin 128)

/-- 128 columns of the product from column `o` on. -/
def cols (o : ℕ) (ho : o + 128 ≤ 3584) (i : Fin 128) : EReal := z (ix2 p ⟨o + i.val, by omega⟩)

/-- The first 128 lanes of a row of the table of gains. -/
def gain (r : Fin 16) (i : Fin 128) : EReal := vec (ix2 r ⟨i.val, by omega⟩)

/-- A row of a table of a turn. -/
def lanes (t : FVec Ideal S256x128 .f32) (i : Fin 128) : EReal := t (ix2 p i)

theorem mlaNorm_at : k0_pay45 (F := Ideal) (k0_pay42 z) (k0_pay43 vec) (k0_pay44 z) (ix2 p k)
    = nrm inv128 (cols z p 384 (by norm_num)) (gain vec 3) k := by
  unfold nrm cols gain
  pointwise [k0_pay45, k0_pay42, k0_pay43, k0_pay44]

theorem mlaTurn_at : k0_pay46 (F := Ideal) z c2 s2a s2b vec (ix2 p k)
    = turnHalf (nrm inv64 (cols z p 512 (by norm_num)) (gain vec 4)) (lanes p c2) (lanes p s2a) (lanes p s2b) k := by
  unfold turnHalf nrm cols gain lanes
  pointwise [k0_pay46]

theorem nsaQ0_at : k0_pay49 (F := Ideal) s1 (k0_pay47 z vec) (k0_pay48 z c1 vec) (ix2 p k)
    = turn (nrm inv128 (cols z p 640 (by norm_num)) (gain vec 5)) (lanes p c1) (lanes p s1) k := by
  unfold turn nrm cols gain lanes
  pointwise [k0_pay49, k0_pay48, k0_pay47]

theorem nsaQ1_at : k0_pay52 (F := Ideal) z c1 s1 vec (ix2 p k)
    = turn (nrm inv128 (cols z p 768 (by norm_num)) (gain vec 5)) (lanes p c1) (lanes p s1) k := by
  unfold turn nrm cols gain lanes
  pointwise [k0_pay52]

theorem nsaQ2_at : k0_pay55 (F := Ideal) z c1 s1 vec (ix2 p k)
    = turn (nrm inv128 (cols z p 896 (by norm_num)) (gain vec 5)) (lanes p c1) (lanes p s1) k := by
  unfold turn nrm cols gain lanes
  pointwise [k0_pay55]

theorem nsaQ3_at : k0_pay61 (F := Ideal) z c1 s1 vec (ix2 p k)
    = turn (nrm inv128 (cols z p 1024 (by norm_num)) (gain vec 5)) (lanes p c1) (lanes p s1) k := by
  unfold turn nrm cols gain lanes
  pointwise [k0_pay61]

theorem cmp_at : k0_pay68 (F := Ideal) z c1 s1 vec (ix2 p k)
    = turn (nrm inv128 (cols z p 1152 (by norm_num)) (gain vec 6)) (lanes p c1) (lanes p s1) k := by
  unfold turn nrm cols gain lanes
  pointwise [k0_pay68]

theorem cmpV_at : k0_pay69 (F := Ideal) z (ix2 p k)
    = cols z p 1280 (by norm_num) k := by
  unfold cols
  pointwise [k0_pay69]

theorem sel_at : k0_pay72 (F := Ideal) s1 (k0_pay70 z vec) (k0_pay71 z c1 vec) 64#32 (ix2 p k)
    = turn (nrm inv128 (cols z p 1408 (by norm_num)) (gain vec 7)) (lanes p c1) (lanes p s1) k := by
  unfold turn nrm cols gain lanes
  pointwise [k0_pay72, k0_pay71, k0_pay70]

theorem selV_at : k0_pay73 (F := Ideal) z (ix2 p k)
    = cols z p 1536 (by norm_num) k := by
  unfold cols
  pointwise [k0_pay73]

theorem win_at : k0_pay74 (F := Ideal) z c1 s1 vec (ix2 p k)
    = turn (nrm inv128 (cols z p 1664 (by norm_num)) (gain vec 8)) (lanes p c1) (lanes p s1) k := by
  unfold turn nrm cols gain lanes
  pointwise [k0_pay74]

theorem winV_at : k0_pay75 (F := Ideal) z (ix2 p k)
    = cols z p 1792 (by norm_num) k := by
  unfold cols
  pointwise [k0_pay75]

theorem sbQ0_at : k0_pay50 (F := Ideal) z (ix2 p k)
    = cols z p 1920 (by norm_num) k := by
  unfold cols
  pointwise [k0_pay50]

theorem sbQ1_at : k0_pay53 (F := Ideal) z (ix2 p k)
    = cols z p 2048 (by norm_num) k := by
  unfold cols
  pointwise [k0_pay53]

theorem sbQ2_at : k0_pay56 (F := Ideal) z (ix2 p k)
    = cols z p 2176 (by norm_num) k := by
  unfold cols
  pointwise [k0_pay56]

theorem sbQ3_at : k0_pay62 (F := Ideal) z (ix2 p k)
    = cols z p 2304 (by norm_num) k := by
  unfold cols
  pointwise [k0_pay62]

theorem sbRow_at (l : Fin 256) : k0_pay76 (F := Ideal) z (ix2 p l) = z (ix2 p ⟨2432 + l.val, by omega⟩) := by
  pointwise [k0_pay76]

theorem foxQ0_at : k0_pay51 (F := Ideal) z vec (ix2 p k)
    = nrm inv128 (cols z p 2688 (by norm_num)) (gain vec 9) k := by
  unfold nrm cols gain
  pointwise [k0_pay51]

theorem foxQ1_at : k0_pay54 (F := Ideal) z vec (ix2 p k)
    = nrm inv128 (cols z p 2816 (by norm_num)) (gain vec 9) k := by
  unfold nrm cols gain
  pointwise [k0_pay54]

theorem foxQ2_at : k0_pay60 (F := Ideal) (k0_pay57 z) (k0_pay58 vec) (k0_pay59 z) (ix2 p k)
    = nrm inv128 (cols z p 2944 (by norm_num)) (gain vec 9) k := by
  unfold nrm cols gain
  pointwise [k0_pay60, k0_pay57, k0_pay58, k0_pay59]

theorem foxQ3_at : k0_pay67 (F := Ideal) (k0_pay63 z) (k0_pay64 vec) (k0_pay65 z) (k0_pay66 (F := Ideal)) (ix2 p k)
    = nrm inv128 (cols z p 3072 (by norm_num)) (gain vec 9) k := by
  unfold nrm cols gain
  pointwise [k0_pay67, k0_pay63, k0_pay64, k0_pay65, k0_pay66]

theorem fox_at : k0_pay1 (F := Ideal) (k0_pay77 z) (k0_pay78 vec) (k0_pay79 z) (ix2 p k)
    = nrm inv128 (cols z p 3200 (by norm_num)) (gain vec 10) k := by
  unfold nrm cols gain
  pointwise [k0_pay1, k0_pay77, k0_pay78, k0_pay79]

theorem foxV_at : k0_pay2 (F := Ideal) z (ix2 p k)
    = cols z p 3328 (by norm_num) k := by
  unfold cols
  pointwise [k0_pay2]

theorem gate_at : k0_pay4 (F := Ideal) z (ix2 p k)
    = Ideal.logistic (cols z p 3456 (by norm_num) k) := by
  unfold cols
  pointwise [k0_pay4, k0_pay3]

theorem logf_at (fb : Vec Ideal S1x128 .f32) : k0_pay5 (F := Ideal) z fb (ix2 p k)
    = logSig (cols z p 3456 (by norm_num) k + fb (ix2 0 k)) := by
  unfold logSig cols
  pointwise [k0_pay5, k0_pay3]

end Cert.ProjIdeal.Body
end
-- ==== Proof.ProjHost.lean ====
/-
  The arrays the projection kernel reads, as the host operations before the call leave them: the two inputs stacked into
  one array of rows, the norm weights as rows of one table, the input weight with its columns laid out on whole lanes,
  and the tables of the rotary turns. Then each of them at an index.
-/
module

public import proofs.«01_k».proof.Proof.Gen.ProjIdeal.Frame
public import proofs.«01_k».proof.Proof.ProjBody
public import Idealize.ShloMosaic.Lib.Tactic
public import Idealize.ShloMosaic.Lib.Pointwise
public import Idealize.ShloMosaic.Lib.StableHlo.Run

@[expose] public section

set_option maxRecDepth 16384

noncomputable section

namespace Cert.ProjIdeal.Host

open Cert.ProjIdeal Cert.ProjIdeal.Gen Idealize.ShloMosaic Idealize.ShloMosaic.TcCoe Idealize.SL.Sem

section
variable {F : FTy → Type} [FloatOps F]

/-- The position of each row. -/
def pos : IVec S8704 32 :=
  concatenate S8704 0 [⟨S8192, shapeCast S8192 (broadcastInDim S2x4096 ![0, 1] bcast_S1x4096_S2x4096_0_1 (shapeCast S1x4096 (iotaInDim S4096 32 0) shapeCasts_S4096_S1x4096)) shapeCasts_S2x4096_S8192⟩,
    ⟨S512, shapeCast S512 (broadcastInDim S128x4 ![0, 1] bcast_S1x4_S128x4_0_1 (shapeCast S1x4 (addi (broadcastInDim S4 ![] bcast_S_S4 (constantI S_ 32 8192#32)) (iotaInDim S4 32 0)) shapeCasts_S4_S1x4)) shapeCasts_S128x4_S512⟩] concatenates_S8192_S512_S8704_d0

/-- The angles of the 128-lane turns. -/
def ang64 : FVec F S8704x64 .f32 :=
  mulf (broadcastInDim S8704x64 ![0, 1] bcast_S8704x1_S8704x64_0_1 (broadcastInDim S8704x1 ![0] bcast_S8704_S8704x1_0 (sitofp .f32 pos)))
    (broadcastInDim S8704x64 ![0, 1] bcast_S1x64_S8704x64_0_1 (broadcastInDim S1x64 ![1] bcast_S64_S1x64_1 (Host.powf (broadcastInDim S64 ![] bcast_S_S64 (constant S_ .f32 0x461C4000#32)) (Host.divf (Host.negf (sitofp .f32 (iotaInDim S64 32 0))) (broadcastInDim S64 ![] bcast_S_S64 (constant S_ .f32 0x42800000#32))))))

/-- The angles of the 64-lane turn. -/
def ang32 : FVec F S8704x32 .f32 :=
  mulf (broadcastInDim S8704x32 ![0, 1] bcast_S8704x1_S8704x32_0_1 (broadcastInDim S8704x1 ![0] bcast_S8704_S8704x1_0 (sitofp .f32 pos)))
    (broadcastInDim S8704x32 ![0, 1] bcast_S1x32_S8704x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))

/-- The zero lanes of the 64-lane turn's tables. -/
def zero32 : FVec F S8704x32 .f32 := broadcastInDim S8704x32 ![] bcast_S_S8704x32 (constant S_ .f32 0x00000000#32)

/-- The stacked rows. -/
def rows (x : FVec F S2x4096x2048 .f32) (y : FVec F S128x4x2048 .f32) : FVec F S8704x2048 .f32 :=
  concatenate S8704x2048 0 [⟨S8192x2048, shapeCast S8192x2048 x shapeCasts_S2x4096x2048_S8192x2048⟩, ⟨S512x2048, shapeCast S512x2048 y shapeCasts_S128x4x2048_S512x2048⟩] concatenates_S8192x2048_S512x2048_S8704x2048_d0

/-- A gain of 128, of 64, of 384 lanes as a row of the table. -/
def row128 (g : FVec F S128 .f32) : FVec F S1x384 .f32 :=
  broadcastInDim S1x384 ![1] bcast_S384_S1x384_1 (pad S384 ![0] ![256] ![0] g (sitofp .f32 (constantI S_ 32 0#32)) pads_S128_S384_02560 h_S_)
def row64 (g : FVec F S64 .f32) : FVec F S1x384 .f32 :=
  broadcastInDim S1x384 ![1] bcast_S384_S1x384_1 (pad S384 ![0] ![320] ![0] g (sitofp .f32 (constantI S_ 32 0#32)) pads_S64_S384_03200 h_S_)
def row384 (g : FVec F S384 .f32) : FVec F S1x384 .f32 :=
  broadcastInDim S1x384 ![1] bcast_S384_S1x384_1 (pad S384 ![0] ![0] ![0] g (sitofp .f32 (constantI S_ 32 0#32)) pads_S384_S384_000 h_S_)

/-- The table of gains, from its rows. -/
def gains (g0 g1 g2 g3 g4 g5 g6 g7 g8 g9 g10 : FVec F S1x384 .f32) : FVec F S16x384 .f32 :=
  pad S16x384 ![0, 0] ![5, 0] ![0, 0] (concatenate S11x384 0 [⟨S1x384, g0⟩, ⟨S1x384, g1⟩, ⟨S1x384, g2⟩, ⟨S1x384, g3⟩, ⟨S1x384, g4⟩, ⟨S1x384, g5⟩, ⟨S1x384, g6⟩, ⟨S1x384, g7⟩, ⟨S1x384, g8⟩, ⟨S1x384, g9⟩, ⟨S1x384, g10⟩] concatenates_S1x384_S1x384_S1x384_S1x384_S1x384_S1x384_S1x384_S1x384_S1x384_S1x384_S1x384_S11x384_d0)
    (sitofp .f32 (constantI S_ 32 0#32)) pads_S11x384_S16x384_050_000 h_S_

/-- The input weight with its columns laid out on whole lanes. -/
def laid (w : FVec F S2048x3408 .f32) : FVec F S2048x3584 .bf16 :=
  truncf .bf16 (concatenate S2048x3584 1 [⟨S2048x384, extractStridedSlice S2048x384 ![0, 0] w slices_S2048x3408_S2048x384_0_0⟩,
    ⟨S2048x128, extractStridedSlice S2048x128 ![0, 384] w slices_S2048x3408_S2048x128_0_384⟩,
    ⟨S2048x64, extractStridedSlice S2048x64 ![0, 512] w slices_S2048x3408_S2048x64_0_512⟩,
    ⟨S2048x64, broadcastInDim S2048x64 ![] bcast_S_S2048x64 (constant S_ .f32 0x00000000#32)⟩,
    ⟨S2048x512, extractStridedSlice S2048x512 ![0, 576] w slices_S2048x3408_S2048x512_0_576⟩,
    ⟨S2048x256, extractStridedSlice S2048x256 ![0, 1088] w slices_S2048x3408_S2048x256_0_1088⟩,
    ⟨S2048x256, extractStridedSlice S2048x256 ![0, 1344] w slices_S2048x3408_S2048x256_0_1344⟩,
    ⟨S2048x256, extractStridedSlice S2048x256 ![0, 1600] w slices_S2048x3408_S2048x256_0_1600⟩,
    ⟨S2048x512, extractStridedSlice S2048x512 ![0, 1868] w slices_S2048x3408_S2048x512_0_1868⟩,
    ⟨S2048x256, extractStridedSlice S2048x256 ![0, 2380] w slices_S2048x3408_S2048x256_0_2380⟩,
    ⟨S2048x512, extractStridedSlice S2048x512 ![0, 2636] w slices_S2048x3408_S2048x512_0_2636⟩,
    ⟨S2048x256, extractStridedSlice S2048x256 ![0, 3148] w slices_S2048x3408_S2048x256_0_3148⟩,
    ⟨S2048x12, extractStridedSlice S2048x12 ![0, 1856] w slices_S2048x3408_S2048x12_0_1856⟩,
    ⟨S2048x4, extractStridedSlice S2048x4 ![0, 3404] w slices_S2048x3408_S2048x4_0_3404⟩,
    ⟨S2048x112, broadcastInDim S2048x112 ![] bcast_S_S2048x112 (constant S_ .f32 0x00000000#32)⟩] concatenates_S2048x384_S2048x128_S2048x64_S2048x64_S2048x512_S2048x256_S2048x256_S2048x256_S2048x512_S2048x256_S2048x512_S2048x256_S2048x12_S2048x4_S2048x112_S2048x3584_d1) bitsLt_bf16_f32

/-- The forget gate's bias on its lanes. -/
def bias (b : FVec F S4 .f32) : FVec F S1x128 .f32 :=
  Host.scatter scatter_S1x128_S2_S4_0_0_01_0 (fun _ b => b) (broadcastInDim S1x128 ![] bcast_S_S1x128 (constant S_ .f32 0x00000000#32) : FVec F S1x128 .f32)
    (concatenate S2 0 [⟨S1, broadcastInDim S1 ![] bcast_S_S1 (constantI S_ 32 0#32)⟩, ⟨S1, broadcastInDim S1 ![] bcast_S_S1 (constantI S_ 32 12#32)⟩] concatenates_S1_S1_S2_d0) b

variable (m : (ℓ : Loc nD τ sig) → Buf (Elt F) ℓ) (c : Dev nD)

theorem V_rows : (V m c main_v2 : FVec F S8704x2048 .f32)
    = rows (m (c, main_arg0) : FVec F S2x4096x2048 .f32) (m (c, main_arg1) : FVec F S128x4x2048 .f32) := by
  unfold V V0
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp <;> rfl

theorem V_norm : (V m c main_v88 : FVec F S1x2048 .f32)
    = broadcastInDim S1x2048 ![1] bcast_S2048_S1x2048_1 (m (c, main_arg2) : FVec F S2048 .f32) := by
  unfold V V0
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp <;> rfl

theorem V_laid : (V m c main_v105 : FVec F S2048x3584 .bf16)
    = laid (m (c, main_arg3) : FVec F S2048x3408 .f32) := by
  unfold V V0
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp <;> rfl

theorem V_gains : (V m c main_v82 : FVec F S16x384 .f32)
    = gains (row384 (m (c, main_arg4) : FVec F S384 .f32)) (row128 (extractStridedSlice S128 ![0] (m (c, main_arg6) : FVec F S192 .f32) slices_S192_S128_0)) (row64 (extractStridedSlice S64 ![128] (m (c, main_arg6) : FVec F S192 .f32) slices_S192_S64_128)) (row128 (m (c, main_arg7) : FVec F S128 .f32)) (row64 (m (c, main_arg8) : FVec F S64 .f32)) (row128 (m (c, main_arg10) : FVec F S128 .f32)) (row128 (shapeCast S128 (extractStridedSlice S1x128 ![0, 0] (m (c, main_arg11) : FVec F S3x128 .f32) slices_S3x128_S1x128_0_0) shapeCasts_S1x128_S128)) (row128 (shapeCast S128 (extractStridedSlice S1x128 ![1, 0] (m (c, main_arg11) : FVec F S3x128 .f32) slices_S3x128_S1x128_1_0) shapeCasts_S1x128_S128)) (row128 (shapeCast S128 (extractStridedSlice S1x128 ![2, 0] (m (c, main_arg11) : FVec F S3x128 .f32) slices_S3x128_S1x128_2_0) shapeCasts_S1x128_S128)) (row128 (m (c, main_arg12) : FVec F S128 .f32)) (row128 (m (c, main_arg13) : FVec F S128 .f32)) := by
  unfold V V0
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp <;> rfl

theorem V_bias : (V m c main_v87 : FVec F S1x128 .f32)
    = bias (m (c, main_arg14) : FVec F S4 .f32) := by
  unfold V V0
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp <;> rfl

theorem V_c1 : (V m c main_v28 : FVec F S8704x128 .f32)
    = concatenate S8704x128 1 [⟨S8704x64, Host.cos ang64⟩, ⟨S8704x64, Host.cos ang64⟩] concatenates_S8704x64_S8704x64_S8704x128_d1 := by
  unfold V V0
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp <;> rfl

theorem V_s1 : (V m c main_v30 : FVec F S8704x128 .f32)
    = concatenate S8704x128 1 [⟨S8704x64, Host.negf (Host.sin ang64)⟩, ⟨S8704x64, Host.sin ang64⟩] concatenates_S8704x64_S8704x64_S8704x128_d1 := by
  unfold V V0
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp <;> rfl

theorem V_c2 : (V m c main_v44 : FVec F S8704x128 .f32)
    = concatenate S8704x128 1 [⟨S8704x32, Host.cos ang32⟩, ⟨S8704x32, Host.cos ang32⟩, ⟨S8704x32, zero32⟩, ⟨S8704x32, zero32⟩] concatenates_S8704x32_S8704x32_S8704x32_S8704x32_S8704x128_d1 := by
  unfold V V0
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp <;> rfl

theorem V_s2a : (V m c main_v46 : FVec F S8704x128 .f32)
    = concatenate S8704x128 1 [⟨S8704x32, Host.negf (Host.sin ang32)⟩, ⟨S8704x32, zero32⟩, ⟨S8704x32, zero32⟩, ⟨S8704x32, zero32⟩] concatenates_S8704x32_S8704x32_S8704x32_S8704x32_S8704x128_d1 := by
  unfold V V0
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp <;> rfl

theorem V_s2b : (V m c main_v47 : FVec F S8704x128 .f32)
    = concatenate S8704x128 1 [⟨S8704x32, zero32⟩, ⟨S8704x32, Host.sin ang32⟩, ⟨S8704x32, zero32⟩, ⟨S8704x32, zero32⟩] concatenates_S8704x32_S8704x32_S8704x32_S8704x32_S8704x128_d1 := by
  unfold V V0
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp <;> rfl
end

end Cert.ProjIdeal.Host
end
-- ==== Proof.ProjBlocks.lean ====
/-
  The arrays the projection kernel reads, at an index, and the blocks of them a grid point sees.
-/
module

public import proofs.«01_k».proof.Proof.ProjHost
public import proofs.«01_k».proof.Proof.ProjBody
public import Idealize.ShloMosaic.Lib.Routing.OpsOne

@[expose] public section

set_option maxRecDepth 16384
set_option maxHeartbeats 2000000

noncomputable section

namespace Cert.ProjIdeal.Blocks

open Cert.ProjIdeal Cert.ProjIdeal.Gen Cert.ProjIdeal.Host Cert.ProjIdeal.Body Cert.ProjMath Idealize.ShloMosaic Idealize.ShloMosaic.TcCoe Idealize.SL.Sem

/-- The zero the padding writes. -/
theorem pad_zero : (FloatOps.sitofp .f32 (0#32) : Ideal .f32) = (0 : EReal) := by
  show (((0#32 : BitVec 32).toInt : ℝ) : EReal) = 0
  simp

/-- The pieces of the laid out weight. -/
abbrev parts (w : FVec Ideal S2048x3408 .f32) : List ((s : Shape) × (s.Idx → EReal)) :=
  [⟨S2048x384, extractStridedSlice S2048x384 ![0, 0] w slices_S2048x3408_S2048x384_0_0⟩,
    ⟨S2048x128, extractStridedSlice S2048x128 ![0, 384] w slices_S2048x3408_S2048x128_0_384⟩,
    ⟨S2048x64, extractStridedSlice S2048x64 ![0, 512] w slices_S2048x3408_S2048x64_0_512⟩,
    ⟨S2048x64, broadcastInDim S2048x64 ![] bcast_S_S2048x64 (constant (F := Ideal) S_ .f32 0x00000000#32)⟩,
    ⟨S2048x512, extractStridedSlice S2048x512 ![0, 576] w slices_S2048x3408_S2048x512_0_576⟩,
    ⟨S2048x256, extractStridedSlice S2048x256 ![0, 1088] w slices_S2048x3408_S2048x256_0_1088⟩,
    ⟨S2048x256, extractStridedSlice S2048x256 ![0, 1344] w slices_S2048x3408_S2048x256_0_1344⟩,
    ⟨S2048x256, extractStridedSlice S2048x256 ![0, 1600] w slices_S2048x3408_S2048x256_0_1600⟩,
    ⟨S2048x512, extractStridedSlice S2048x512 ![0, 1868] w slices_S2048x3408_S2048x512_0_1868⟩,
    ⟨S2048x256, extractStridedSlice S2048x256 ![0, 2380] w slices_S2048x3408_S2048x256_0_2380⟩,
    ⟨S2048x512, extractStridedSlice S2048x512 ![0, 2636] w slices_S2048x3408_S2048x512_0_2636⟩,
    ⟨S2048x256, extractStridedSlice S2048x256 ![0, 3148] w slices_S2048x3408_S2048x256_0_3148⟩,
    ⟨S2048x12, extractStridedSlice S2048x12 ![0, 1856] w slices_S2048x3408_S2048x12_0_1856⟩,
    ⟨S2048x4, extractStridedSlice S2048x4 ![0, 3404] w slices_S2048x3408_S2048x4_0_3404⟩,
    ⟨S2048x112, broadcastInDim S2048x112 ![] bcast_S_S2048x112 (constant (F := Ideal) S_ .f32 0x00000000#32)⟩]

theorem laid_eq (w : FVec Ideal S2048x3408 .f32) (i : S2048x3584.Idx) :
    laid (F := Ideal) w i = concatenate S2048x3584 1 (parts w) concatenates_S2048x384_S2048x128_S2048x64_S2048x64_S2048x512_S2048x256_S2048x256_S2048x256_S2048x512_S2048x256_S2048x512_S2048x256_S2048x12_S2048x4_S2048x112_S2048x3584_d1 i := rfl

/-- Lane `j` of the laid out weight is column `j'` of the weight. -/
def Laid (j j' : ℕ) : Prop :=
  (j < 576 ∧ j' = j) ∨ (640 ≤ j ∧ j < 1920 ∧ j' + 64 = j) ∨ (1920 ≤ j ∧ j < 3456 ∧ j' + 52 = j)
    ∨ (3456 ≤ j ∧ j < 3468 ∧ j' + 1600 = j) ∨ (3468 ≤ j ∧ j < 3472 ∧ j' + 64 = j)

section
variable (w : FVec Ideal S2048x3408 .f32) (d : Fin 2048) (j : Fin 3584) (j' : Fin 3408)

theorem laid0 (h : 0 ≤ j.val) (h' : j.val < 384) (e : j'.val + 0 = j.val + 0) :
    laid (F := Ideal) w (ix2 d j) = w (ix2 d j') := by
  rw [laid_eq]
  refine (concatenate_apply_piece (α := EReal) (t := S2048x3584) 1 (parts w) concatenates_S2048x384_S2048x128_S2048x64_S2048x64_S2048x512_S2048x256_S2048x256_S2048x256_S2048x512_S2048x256_S2048x512_S2048x256_S2048x12_S2048x4_S2048x112_S2048x3584_d1 (ix2 d j) 0 ?_ S2048x384 (extractStridedSlice S2048x384 ![0, 0] w slices_S2048x3408_S2048x384_0_0) ?_ rfl 0 ?_ (ix2 d ⟨j.val - 0, by omega⟩) ?_ ?_).trans ?_
  · show 0 < 15; decide
  · rfl
  · rfl
  · intro b hb
    match b with
    | ⟨0, _⟩ => rfl
    | ⟨1, _⟩ => exact absurd rfl hb
  · show 0 + (j.val - 0) = j.val; omega
  · refine congrArg w (funext fun b => Fin.ext ?_)
    match b with
    | ⟨0, _⟩ => show 0 + d.val = d.val; omega
    | ⟨1, _⟩ => show 0 + (j.val - 0) = j'.val; omega

theorem laid1 (h : 384 ≤ j.val) (h' : j.val < 512) (e : j'.val + 384 = j.val + 384) :
    laid (F := Ideal) w (ix2 d j) = w (ix2 d j') := by
  rw [laid_eq]
  refine (concatenate_apply_piece (α := EReal) (t := S2048x3584) 1 (parts w) concatenates_S2048x384_S2048x128_S2048x64_S2048x64_S2048x512_S2048x256_S2048x256_S2048x256_S2048x512_S2048x256_S2048x512_S2048x256_S2048x12_S2048x4_S2048x112_S2048x3584_d1 (ix2 d j) 1 ?_ S2048x128 (extractStridedSlice S2048x128 ![0, 384] w slices_S2048x3408_S2048x128_0_384) ?_ rfl 384 ?_ (ix2 d ⟨j.val - 384, by omega⟩) ?_ ?_).trans ?_
  · show 1 < 15; decide
  · rfl
  · rfl
  · intro b hb
    match b with
    | ⟨0, _⟩ => rfl
    | ⟨1, _⟩ => exact absurd rfl hb
  · show 384 + (j.val - 384) = j.val; omega
  · refine congrArg w (funext fun b => Fin.ext ?_)
    match b with
    | ⟨0, _⟩ => show 0 + d.val = d.val; omega
    | ⟨1, _⟩ => show 384 + (j.val - 384) = j'.val; omega

theorem laid2 (h : 512 ≤ j.val) (h' : j.val < 576) (e : j'.val + 512 = j.val + 512) :
    laid (F := Ideal) w (ix2 d j) = w (ix2 d j') := by
  rw [laid_eq]
  refine (concatenate_apply_piece (α := EReal) (t := S2048x3584) 1 (parts w) concatenates_S2048x384_S2048x128_S2048x64_S2048x64_S2048x512_S2048x256_S2048x256_S2048x256_S2048x512_S2048x256_S2048x512_S2048x256_S2048x12_S2048x4_S2048x112_S2048x3584_d1 (ix2 d j) 2 ?_ S2048x64 (extractStridedSlice S2048x64 ![0, 512] w slices_S2048x3408_S2048x64_0_512) ?_ rfl 512 ?_ (ix2 d ⟨j.val - 512, by omega⟩) ?_ ?_).trans ?_
  · show 2 < 15; decide
  · rfl
  · rfl
  · intro b hb
    match b with
    | ⟨0, _⟩ => rfl
    | ⟨1, _⟩ => exact absurd rfl hb
  · show 512 + (j.val - 512) = j.val; omega
  · refine congrArg w (funext fun b => Fin.ext ?_)
    match b with
    | ⟨0, _⟩ => show 0 + d.val = d.val; omega
    | ⟨1, _⟩ => show 512 + (j.val - 512) = j'.val; omega

theorem laid_zero (h : 576 ≤ j.val) (h' : j.val < 640) : laid (F := Ideal) w (ix2 d j) = (0 : EReal) := by
  rw [laid_eq]
  refine (concatenate_apply_piece (α := EReal) (t := S2048x3584) 1 (parts w) concatenates_S2048x384_S2048x128_S2048x64_S2048x64_S2048x512_S2048x256_S2048x256_S2048x256_S2048x512_S2048x256_S2048x512_S2048x256_S2048x12_S2048x4_S2048x112_S2048x3584_d1 (ix2 d j) 3 ?_ S2048x64 (broadcastInDim S2048x64 ![] bcast_S_S2048x64 (constant (F := Ideal) S_ .f32 0x00000000#32)) ?_ rfl 576 ?_ (ix2 d ⟨j.val - 576, by omega⟩) ?_ ?_).trans ?_
  · show 3 < 15; decide
  · rfl
  · rfl
  · intro b hb
    match b with
    | ⟨0, _⟩ => rfl
    | ⟨1, _⟩ => exact absurd rfl hb
  · show 576 + (j.val - 576) = j.val; omega
  · pointwise

theorem laid4 (h : 640 ≤ j.val) (h' : j.val < 1152) (e : j'.val + 640 = j.val + 576) :
    laid (F := Ideal) w (ix2 d j) = w (ix2 d j') := by
  rw [laid_eq]
  refine (concatenate_apply_piece (α := EReal) (t := S2048x3584) 1 (parts w) concatenates_S2048x384_S2048x128_S2048x64_S2048x64_S2048x512_S2048x256_S2048x256_S2048x256_S2048x512_S2048x256_S2048x512_S2048x256_S2048x12_S2048x4_S2048x112_S2048x3584_d1 (ix2 d j) 4 ?_ S2048x512 (extractStridedSlice S2048x512 ![0, 576] w slices_S2048x3408_S2048x512_0_576) ?_ rfl 640 ?_ (ix2 d ⟨j.val - 640, by omega⟩) ?_ ?_).trans ?_
  · show 4 < 15; decide
  · rfl
  · rfl
  · intro b hb
    match b with
    | ⟨0, _⟩ => rfl
    | ⟨1, _⟩ => exact absurd rfl hb
  · show 640 + (j.val - 640) = j.val; omega
  · refine congrArg w (funext fun b => Fin.ext ?_)
    match b with
    | ⟨0, _⟩ => show 0 + d.val = d.val; omega
    | ⟨1, _⟩ => show 576 + (j.val - 640) = j'.val; omega

theorem laid5 (h : 1152 ≤ j.val) (h' : j.val < 1408) (e : j'.val + 1152 = j.val + 1088) :
    laid (F := Ideal) w (ix2 d j) = w (ix2 d j') := by
  rw [laid_eq]
  refine (concatenate_apply_piece (α := EReal) (t := S2048x3584) 1 (parts w) concatenates_S2048x384_S2048x128_S2048x64_S2048x64_S2048x512_S2048x256_S2048x256_S2048x256_S2048x512_S2048x256_S2048x512_S2048x256_S2048x12_S2048x4_S2048x112_S2048x3584_d1 (ix2 d j) 5 ?_ S2048x256 (extractStridedSlice S2048x256 ![0, 1088] w slices_S2048x3408_S2048x256_0_1088) ?_ rfl 1152 ?_ (ix2 d ⟨j.val - 1152, by omega⟩) ?_ ?_).trans ?_
  · show 5 < 15; decide
  · rfl
  · rfl
  · intro b hb
    match b with
    | ⟨0, _⟩ => rfl
    | ⟨1, _⟩ => exact absurd rfl hb
  · show 1152 + (j.val - 1152) = j.val; omega
  · refine congrArg w (funext fun b => Fin.ext ?_)
    match b with
    | ⟨0, _⟩ => show 0 + d.val = d.val; omega
    | ⟨1, _⟩ => show 1088 + (j.val - 1152) = j'.val; omega

theorem laid6 (h : 1408 ≤ j.val) (h' : j.val < 1664) (e : j'.val + 1408 = j.val + 1344) :
    laid (F := Ideal) w (ix2 d j) = w (ix2 d j') := by
  rw [laid_eq]
  refine (concatenate_apply_piece (α := EReal) (t := S2048x3584) 1 (parts w) concatenates_S2048x384_S2048x128_S2048x64_S2048x64_S2048x512_S2048x256_S2048x256_S2048x256_S2048x512_S2048x256_S2048x512_S2048x256_S2048x12_S2048x4_S2048x112_S2048x3584_d1 (ix2 d j) 6 ?_ S2048x256 (extractStridedSlice S2048x256 ![0, 1344] w slices_S2048x3408_S2048x256_0_1344) ?_ rfl 1408 ?_ (ix2 d ⟨j.val - 1408, by omega⟩) ?_ ?_).trans ?_
  · show 6 < 15; decide
  · rfl
  · rfl
  · intro b hb
    match b with
    | ⟨0, _⟩ => rfl
    | ⟨1, _⟩ => exact absurd rfl hb
  · show 1408 + (j.val - 1408) = j.val; omega
  · refine congrArg w (funext fun b => Fin.ext ?_)
    match b with
    | ⟨0, _⟩ => show 0 + d.val = d.val; omega
    | ⟨1, _⟩ => show 1344 + (j.val - 1408) = j'.val; omega

theorem laid7 (h : 1664 ≤ j.val) (h' : j.val < 1920) (e : j'.val + 1664 = j.val + 1600) :
    laid (F := Ideal) w (ix2 d j) = w (ix2 d j') := by
  rw [laid_eq]
  refine (concatenate_apply_piece (α := EReal) (t := S2048x3584) 1 (parts w) concatenates_S2048x384_S2048x128_S2048x64_S2048x64_S2048x512_S2048x256_S2048x256_S2048x256_S2048x512_S2048x256_S2048x512_S2048x256_S2048x12_S2048x4_S2048x112_S2048x3584_d1 (ix2 d j) 7 ?_ S2048x256 (extractStridedSlice S2048x256 ![0, 1600] w slices_S2048x3408_S2048x256_0_1600) ?_ rfl 1664 ?_ (ix2 d ⟨j.val - 1664, by omega⟩) ?_ ?_).trans ?_
  · show 7 < 15; decide
  · rfl
  · rfl
  · intro b hb
    match b with
    | ⟨0, _⟩ => rfl
    | ⟨1, _⟩ => exact absurd rfl hb
  · show 1664 + (j.val - 1664) = j.val; omega
  · refine congrArg w (funext fun b => Fin.ext ?_)
    match b with
    | ⟨0, _⟩ => show 0 + d.val = d.val; omega
    | ⟨1, _⟩ => show 1600 + (j.val - 1664) = j'.val; omega

theorem laid8 (h : 1920 ≤ j.val) (h' : j.val < 2432) (e : j'.val + 1920 = j.val + 1868) :
    laid (F := Ideal) w (ix2 d j) = w (ix2 d j') := by
  rw [laid_eq]
  refine (concatenate_apply_piece (α := EReal) (t := S2048x3584) 1 (parts w) concatenates_S2048x384_S2048x128_S2048x64_S2048x64_S2048x512_S2048x256_S2048x256_S2048x256_S2048x512_S2048x256_S2048x512_S2048x256_S2048x12_S2048x4_S2048x112_S2048x3584_d1 (ix2 d j) 8 ?_ S2048x512 (extractStridedSlice S2048x512 ![0, 1868] w slices_S2048x3408_S2048x512_0_1868) ?_ rfl 1920 ?_ (ix2 d ⟨j.val - 1920, by omega⟩) ?_ ?_).trans ?_
  · show 8 < 15; decide
  · rfl
  · rfl
  · intro b hb
    match b with
    | ⟨0, _⟩ => rfl
    | ⟨1, _⟩ => exact absurd rfl hb
  · show 1920 + (j.val - 1920) = j.val; omega
  · refine congrArg w (funext fun b => Fin.ext ?_)
    match b with
    | ⟨0, _⟩ => show 0 + d.val = d.val; omega
    | ⟨1, _⟩ => show 1868 + (j.val - 1920) = j'.val; omega

theorem laid9 (h : 2432 ≤ j.val) (h' : j.val < 2688) (e : j'.val + 2432 = j.val + 2380) :
    laid (F := Ideal) w (ix2 d j) = w (ix2 d j') := by
  rw [laid_eq]
  refine (concatenate_apply_piece (α := EReal) (t := S2048x3584) 1 (parts w) concatenates_S2048x384_S2048x128_S2048x64_S2048x64_S2048x512_S2048x256_S2048x256_S2048x256_S2048x512_S2048x256_S2048x512_S2048x256_S2048x12_S2048x4_S2048x112_S2048x3584_d1 (ix2 d j) 9 ?_ S2048x256 (extractStridedSlice S2048x256 ![0, 2380] w slices_S2048x3408_S2048x256_0_2380) ?_ rfl 2432 ?_ (ix2 d ⟨j.val - 2432, by omega⟩) ?_ ?_).trans ?_
  · show 9 < 15; decide
  · rfl
  · rfl
  · intro b hb
    match b with
    | ⟨0, _⟩ => rfl
    | ⟨1, _⟩ => exact absurd rfl hb
  · show 2432 + (j.val - 2432) = j.val; omega
  · refine congrArg w (funext fun b => Fin.ext ?_)
    match b with
    | ⟨0, _⟩ => show 0 + d.val = d.val; omega
    | ⟨1, _⟩ => show 2380 + (j.val - 2432) = j'.val; omega

theorem laid10 (h : 2688 ≤ j.val) (h' : j.val < 3200) (e : j'.val + 2688 = j.val + 2636) :
    laid (F := Ideal) w (ix2 d j) = w (ix2 d j') := by
  rw [laid_eq]
  refine (concatenate_apply_piece (α := EReal) (t := S2048x3584) 1 (parts w) concatenates_S2048x384_S2048x128_S2048x64_S2048x64_S2048x512_S2048x256_S2048x256_S2048x256_S2048x512_S2048x256_S2048x512_S2048x256_S2048x12_S2048x4_S2048x112_S2048x3584_d1 (ix2 d j) 10 ?_ S2048x512 (extractStridedSlice S2048x512 ![0, 2636] w slices_S2048x3408_S2048x512_0_2636) ?_ rfl 2688 ?_ (ix2 d ⟨j.val - 2688, by omega⟩) ?_ ?_).trans ?_
  · show 10 < 15; decide
  · rfl
  · rfl
  · intro b hb
    match b with
    | ⟨0, _⟩ => rfl
    | ⟨1, _⟩ => exact absurd rfl hb
  · show 2688 + (j.val - 2688) = j.val; omega
  · refine congrArg w (funext fun b => Fin.ext ?_)
    match b with
    | ⟨0, _⟩ => show 0 + d.val = d.val; omega
    | ⟨1, _⟩ => show 2636 + (j.val - 2688) = j'.val; omega

theorem laid11 (h : 3200 ≤ j.val) (h' : j.val < 3456) (e : j'.val + 3200 = j.val + 3148) :
    laid (F := Ideal) w (ix2 d j) = w (ix2 d j') := by
  rw [laid_eq]
  refine (concatenate_apply_piece (α := EReal) (t := S2048x3584) 1 (parts w) concatenates_S2048x384_S2048x128_S2048x64_S2048x64_S2048x512_S2048x256_S2048x256_S2048x256_S2048x512_S2048x256_S2048x512_S2048x256_S2048x12_S2048x4_S2048x112_S2048x3584_d1 (ix2 d j) 11 ?_ S2048x256 (extractStridedSlice S2048x256 ![0, 3148] w slices_S2048x3408_S2048x256_0_3148) ?_ rfl 3200 ?_ (ix2 d ⟨j.val - 3200, by omega⟩) ?_ ?_).trans ?_
  · show 11 < 15; decide
  · rfl
  · rfl
  · intro b hb
    match b with
    | ⟨0, _⟩ => rfl
    | ⟨1, _⟩ => exact absurd rfl hb
  · show 3200 + (j.val - 3200) = j.val; omega
  · refine congrArg w (funext fun b => Fin.ext ?_)
    match b with
    | ⟨0, _⟩ => show 0 + d.val = d.val; omega
    | ⟨1, _⟩ => show 3148 + (j.val - 3200) = j'.val; omega

theorem laid12 (h : 3456 ≤ j.val) (h' : j.val < 3468) (e : j'.val + 3456 = j.val + 1856) :
    laid (F := Ideal) w (ix2 d j) = w (ix2 d j') := by
  rw [laid_eq]
  refine (concatenate_apply_piece (α := EReal) (t := S2048x3584) 1 (parts w) concatenates_S2048x384_S2048x128_S2048x64_S2048x64_S2048x512_S2048x256_S2048x256_S2048x256_S2048x512_S2048x256_S2048x512_S2048x256_S2048x12_S2048x4_S2048x112_S2048x3584_d1 (ix2 d j) 12 ?_ S2048x12 (extractStridedSlice S2048x12 ![0, 1856] w slices_S2048x3408_S2048x12_0_1856) ?_ rfl 3456 ?_ (ix2 d ⟨j.val - 3456, by omega⟩) ?_ ?_).trans ?_
  · show 12 < 15; decide
  · rfl
  · rfl
  · intro b hb
    match b with
    | ⟨0, _⟩ => rfl
    | ⟨1, _⟩ => exact absurd rfl hb
  · show 3456 + (j.val - 3456) = j.val; omega
  · refine congrArg w (funext fun b => Fin.ext ?_)
    match b with
    | ⟨0, _⟩ => show 0 + d.val = d.val; omega
    | ⟨1, _⟩ => show 1856 + (j.val - 3456) = j'.val; omega

theorem laid13 (h : 3468 ≤ j.val) (h' : j.val < 3472) (e : j'.val + 3468 = j.val + 3404) :
    laid (F := Ideal) w (ix2 d j) = w (ix2 d j') := by
  rw [laid_eq]
  refine (concatenate_apply_piece (α := EReal) (t := S2048x3584) 1 (parts w) concatenates_S2048x384_S2048x128_S2048x64_S2048x64_S2048x512_S2048x256_S2048x256_S2048x256_S2048x512_S2048x256_S2048x512_S2048x256_S2048x12_S2048x4_S2048x112_S2048x3584_d1 (ix2 d j) 13 ?_ S2048x4 (extractStridedSlice S2048x4 ![0, 3404] w slices_S2048x3408_S2048x4_0_3404) ?_ rfl 3468 ?_ (ix2 d ⟨j.val - 3468, by omega⟩) ?_ ?_).trans ?_
  · show 13 < 15; decide
  · rfl
  · rfl
  · intro b hb
    match b with
    | ⟨0, _⟩ => rfl
    | ⟨1, _⟩ => exact absurd rfl hb
  · show 3468 + (j.val - 3468) = j.val; omega
  · refine congrArg w (funext fun b => Fin.ext ?_)
    match b with
    | ⟨0, _⟩ => show 0 + d.val = d.val; omega
    | ⟨1, _⟩ => show 3404 + (j.val - 3468) = j'.val; omega

theorem laid_at (h : Laid j.val j'.val) : laid (F := Ideal) w (ix2 d j) = w (ix2 d j') := by
  unfold Laid at h
  by_cases h13 : 3468 ≤ j.val
  · exact laid13 w d j j' h13 (by omega) (by omega)
  by_cases h12 : 3456 ≤ j.val
  · exact laid12 w d j j' h12 (by omega) (by omega)
  by_cases h11 : 3200 ≤ j.val
  · exact laid11 w d j j' h11 (by omega) (by omega)
  by_cases h10 : 2688 ≤ j.val
  · exact laid10 w d j j' h10 (by omega) (by omega)
  by_cases h9 : 2432 ≤ j.val
  · exact laid9 w d j j' h9 (by omega) (by omega)
  by_cases h8 : 1920 ≤ j.val
  · exact laid8 w d j j' h8 (by omega) (by omega)
  by_cases h7 : 1664 ≤ j.val
  · exact laid7 w d j j' h7 (by omega) (by omega)
  by_cases h6 : 1408 ≤ j.val
  · exact laid6 w d j j' h6 (by omega) (by omega)
  by_cases h5 : 1152 ≤ j.val
  · exact laid5 w d j j' h5 (by omega) (by omega)
  by_cases h4 : 640 ≤ j.val
  · exact laid4 w d j j' h4 (by omega) (by omega)
  by_cases h2 : 512 ≤ j.val
  · exact laid2 w d j j' h2 (by omega) (by omega)
  by_cases h1 : 384 ≤ j.val
  · exact laid1 w d j j' h1 (by omega) (by omega)
  · exact laid0 w d j j' (by omega) (by omega) (by omega)
end

theorem row128_at (g : FVec Ideal S128 .f32) (k : Fin 128) : row128 (F := Ideal) g (ix2 0 ⟨k.val, by omega⟩) = g (ix1 k) := by
  have h : k.val < 128 := k.isLt
  pointwise [row128]

theorem row64_at (g : FVec Ideal S64 .f32) (k : Fin 128) : row64 (F := Ideal) g (ix2 0 ⟨k.val, by omega⟩) = if h : k.val < 64 then g (ix1 ⟨k.val, h⟩) else (0 : EReal) := by
  pointwise [row64]
  rw [pad_zero]

section
variable (g0 g1 g2 g3 g4 g5 g6 g7 g8 g9 g10 : FVec Ideal S1x384 .f32) (k : Fin 384)
theorem gains3 : gains (F := Ideal) g0 g1 g2 g3 g4 g5 g6 g7 g8 g9 g10 (ix2 3 k) = g3 (ix2 0 k) := by
  pointwise [gains]
theorem gains4 : gains (F := Ideal) g0 g1 g2 g3 g4 g5 g6 g7 g8 g9 g10 (ix2 4 k) = g4 (ix2 0 k) := by
  pointwise [gains]
theorem gains5 : gains (F := Ideal) g0 g1 g2 g3 g4 g5 g6 g7 g8 g9 g10 (ix2 5 k) = g5 (ix2 0 k) := by
  pointwise [gains]
theorem gains6 : gains (F := Ideal) g0 g1 g2 g3 g4 g5 g6 g7 g8 g9 g10 (ix2 6 k) = g6 (ix2 0 k) := by
  pointwise [gains]
theorem gains7 : gains (F := Ideal) g0 g1 g2 g3 g4 g5 g6 g7 g8 g9 g10 (ix2 7 k) = g7 (ix2 0 k) := by
  pointwise [gains]
theorem gains8 : gains (F := Ideal) g0 g1 g2 g3 g4 g5 g6 g7 g8 g9 g10 (ix2 8 k) = g8 (ix2 0 k) := by
  pointwise [gains]
theorem gains9 : gains (F := Ideal) g0 g1 g2 g3 g4 g5 g6 g7 g8 g9 g10 (ix2 9 k) = g9 (ix2 0 k) := by
  pointwise [gains]
theorem gains10 : gains (F := Ideal) g0 g1 g2 g3 g4 g5 g6 g7 g8 g9 g10 (ix2 10 k) = g10 (ix2 0 k) := by
  pointwise [gains]
end

/-- Where the bias's entries land. -/
theorem lands (idx : IVec S2 32) (h0 : (idx (ix1 (0 : Fin 2))).toInt = 0) (h1 : (idx (ix1 (1 : Fin 2))).toInt = 12) (k : Fin 4) (c : Fin 128) :
    scatter_S1x128_S2_S4_0_0_01_0.resultIdx? (ix1 k) idx = some (ix2 0 c) ↔ 12 + k.val = c.val := by
  have w0 : scatter_S1x128_S2_S4_0_0_01_0.window (ix1 k) 0 = 0 := rfl
  have w1 : scatter_S1x128_S2_S4_0_0_01_0.window (ix1 k) 1 = k.val := rfl
  refine (Routing.resultIdx?_ix2 scatter_S1x128_S2_S4_0_0_01_0 (ix1 k) idx (0 : Fin 1) c).trans ?_
  rw [Routing.start_pair _ rfl rfl, Routing.start_pair _ rfl rfl, w0, w1]
  show ((idx (ix1 (0 : Fin 2))).toInt + ((0 : ℕ) : ℤ) = ((0 : ℕ) : ℤ) ∧ (idx (ix1 (1 : Fin 2))).toInt + (k.val : ℤ) = (c.val : ℤ)) ↔ _
  rw [h0, h1]
  omega

theorem bias_at (b : FVec Ideal S4 .f32) (k : Fin 4) (c : Fin 128) (hc : c.val = 12 + k.val) : bias (F := Ideal) b (ix2 0 c) = b (ix1 k) := by
  unfold bias
  refine Routing.scatter_set_hit _ _ _ _ _ _ (fun k' hk' => ?_) (ix1 k) ((lands _ (by decide) (by decide) k c).2 hc.symm)
  obtain ⟨q, rfl⟩ : ∃ q : Fin 4, k' = ix1 q := ⟨k' 0, eq_ix1 k'⟩
  have e := (lands _ (by decide) (by decide) q c).1 hk'
  exact congrArg (fun q => b (ix1 q)) (Fin.ext (by omega))

/-- The cosines of a turn of 128 lanes at a lane, the signed sines, and the tables of the turn of 64 lanes. -/
theorem c1_at (R : Fin 8704) (k : Fin 128) : (concatenate S8704x128 1 [⟨S8704x64, Host.cos (ang64 (F := Ideal))⟩, ⟨S8704x64, Host.cos (ang64 (F := Ideal))⟩] concatenates_S8704x64_S8704x64_S8704x128_d1 : FVec Ideal S8704x128 .f32) (ix2 R k)
    = if h : k.val < 64 then Ideal.cos (ang64 (F := Ideal) (ix2 R ⟨k.val, h⟩)) else Ideal.cos (ang64 (F := Ideal) (ix2 R ⟨k.val - 64, by omega⟩)) := by
  pointwise

theorem s1_at (R : Fin 8704) (k : Fin 128) : (concatenate S8704x128 1 [⟨S8704x64, Host.negf (Host.sin (ang64 (F := Ideal)))⟩, ⟨S8704x64, Host.sin (ang64 (F := Ideal))⟩] concatenates_S8704x64_S8704x64_S8704x128_d1 : FVec Ideal S8704x128 .f32) (ix2 R k)
    = if h : k.val < 64 then -Ideal.sin (ang64 (F := Ideal) (ix2 R ⟨k.val, h⟩)) else Ideal.sin (ang64 (F := Ideal) (ix2 R ⟨k.val - 64, by omega⟩)) := by
  pointwise

/-- The block of rows, or of none, a grid point sees of each array. -/
theorem index_0 : ∀ t : Fin grid0.N, win0_0.index t 0 = t.val ∧ win0_0.index t 1 = 0 := by decide +kernel
theorem index_1 : ∀ t : Fin grid0.N, win0_1.index t 0 = 0 ∧ win0_1.index t 1 = 0 := by decide +kernel
theorem index_2 : ∀ t : Fin grid0.N, win0_2.index t 0 = 0 ∧ win0_2.index t 1 = 0 := by decide +kernel
theorem index_5 : ∀ t : Fin grid0.N, win0_5.index t 0 = 0 ∧ win0_5.index t 1 = 0 := by decide +kernel
theorem index_6 : ∀ t : Fin grid0.N, win0_6.index t 0 = 0 ∧ win0_6.index t 1 = 0 := by decide +kernel
theorem index_7 : ∀ t : Fin grid0.N, win0_7.index t 0 = t.val ∧ win0_7.index t 1 = 0 := by decide +kernel
theorem index_8 : ∀ t : Fin grid0.N, win0_8.index t 0 = t.val ∧ win0_8.index t 1 = 0 := by decide +kernel
theorem index_9 : ∀ t : Fin grid0.N, win0_9.index t 0 = t.val ∧ win0_9.index t 1 = 0 := by decide +kernel
theorem index_10 : ∀ t : Fin grid0.N, win0_10.index t 0 = t.val ∧ win0_10.index t 1 = 0 := by decide +kernel
theorem index_11 : ∀ t : Fin grid0.N, win0_11.index t 0 = t.val ∧ win0_11.index t 1 = 0 := by decide +kernel
theorem index_13 : ∀ t : Fin grid0.N, win0_13.index t 0 = t.val ∧ win0_13.index t 1 = 0 := by decide +kernel
theorem index_14 : ∀ t : Fin grid0.N, win0_14.index t 0 = t.val ∧ win0_14.index t 1 = 0 := by decide +kernel
theorem index_15 : ∀ t : Fin grid0.N, win0_15.index t 0 = t.val ∧ win0_15.index t 1 = 0 := by decide +kernel
theorem index_16 : ∀ t : Fin grid0.N, win0_16.index t 0 = t.val ∧ win0_16.index t 1 = 0 := by decide +kernel
theorem index_17 : ∀ t : Fin grid0.N, win0_17.index t 0 = t.val ∧ win0_17.index t 1 = 0 := by decide +kernel
theorem index_18 : ∀ t : Fin grid0.N, win0_18.index t 0 = t.val ∧ win0_18.index t 1 = 0 := by decide +kernel
theorem index_19 : ∀ t : Fin grid0.N, win0_19.index t 0 = t.val ∧ win0_19.index t 1 = 0 := by decide +kernel
theorem index_20 : ∀ t : Fin grid0.N, win0_20.index t 0 = t.val ∧ win0_20.index t 1 = 0 := by decide +kernel
theorem index_21 : ∀ t : Fin grid0.N, win0_21.index t 0 = t.val ∧ win0_21.index t 1 = 0 := by decide +kernel
theorem index_22 : ∀ t : Fin grid0.N, win0_22.index t 0 = t.val ∧ win0_22.index t 1 = 0 := by decide +kernel
theorem index_23 : ∀ t : Fin grid0.N, win0_23.index t 0 = t.val ∧ win0_23.index t 1 = 0 := by decide +kernel

variable (m : (ℓ : Loc nD τ sig) → Buf (Elt Ideal) ℓ) (c : Dev nD)

theorem read_0 (A : Buf (Elt Ideal) ((c : Thread nD τ).loc main_v2)) (t : Fin cfg0.N) (p : Fin 256) (l : Fin 2048) (R : Fin 8704) (hR : R.val = 256 * t.val + p.val) :
    (((cfg0.win 0).blk t).view.read (Elt Ideal) A : Vec Ideal S256x2048 .f32) (ix2 p l) = (A : Vec Ideal S8704x2048 .f32) (ix2 R l) := by
  rw [View.read_apply]
  show A _ = A _
  congr 1
  funext a
  apply Fin.ext
  match a with
  | ⟨0, _⟩ => show win0_0.index t 0 * 256 + 1 * p.val = R.val; rw [(index_0 t).1]; omega
  | ⟨1, _⟩ => show win0_0.index t 1 * 2048 + 1 * l.val = l.val; rw [(index_0 t).2]; omega

theorem read_1 (A : Buf (Elt Ideal) ((c : Thread nD τ).loc main_v88)) (t : Fin cfg0.N) (p : Fin 1) (l : Fin 2048) (R : Fin 1) (hR : R = p) :
    (((cfg0.win 1).blk t).view.read (Elt Ideal) A : Vec Ideal S1x2048 .f32) (ix2 p l) = (A : Vec Ideal S1x2048 .f32) (ix2 R l) := by
  rw [View.read_apply]
  show A _ = A _
  congr 1
  funext a
  apply Fin.ext
  match a with
  | ⟨0, _⟩ => show win0_1.index t 0 * 1 + 1 * p.val = R.val; rw [(index_1 t).1]; subst hR; omega
  | ⟨1, _⟩ => show win0_1.index t 1 * 2048 + 1 * l.val = l.val; rw [(index_1 t).2]; omega

theorem read_2 (A : Buf (Elt Ideal) ((c : Thread nD τ).loc main_v105)) (t : Fin cfg0.N) (p : Fin 2048) (l : Fin 3584) (R : Fin 2048) (hR : R = p) :
    (((cfg0.win 2).blk t).view.read (Elt Ideal) A : Vec Ideal S2048x3584 .bf16) (ix2 p l) = (A : Vec Ideal S2048x3584 .bf16) (ix2 R l) := by
  rw [View.read_apply]
  show A _ = A _
  congr 1
  funext a
  apply Fin.ext
  match a with
  | ⟨0, _⟩ => show win0_2.index t 0 * 2048 + 1 * p.val = R.val; rw [(index_2 t).1]; subst hR; omega
  | ⟨1, _⟩ => show win0_2.index t 1 * 3584 + 1 * l.val = l.val; rw [(index_2 t).2]; omega

theorem read_5 (A : Buf (Elt Ideal) ((c : Thread nD τ).loc main_v82)) (t : Fin cfg0.N) (p : Fin 16) (l : Fin 384) (R : Fin 16) (hR : R = p) :
    (((cfg0.win 5).blk t).view.read (Elt Ideal) A : Vec Ideal S16x384 .f32) (ix2 p l) = (A : Vec Ideal S16x384 .f32) (ix2 R l) := by
  rw [View.read_apply]
  show A _ = A _
  congr 1
  funext a
  apply Fin.ext
  match a with
  | ⟨0, _⟩ => show win0_5.index t 0 * 16 + 1 * p.val = R.val; rw [(index_5 t).1]; subst hR; omega
  | ⟨1, _⟩ => show win0_5.index t 1 * 384 + 1 * l.val = l.val; rw [(index_5 t).2]; omega

theorem read_6 (A : Buf (Elt Ideal) ((c : Thread nD τ).loc main_v87)) (t : Fin cfg0.N) (p : Fin 1) (l : Fin 128) (R : Fin 1) (hR : R = p) :
    (((cfg0.win 6).blk t).view.read (Elt Ideal) A : Vec Ideal S1x128 .f32) (ix2 p l) = (A : Vec Ideal S1x128 .f32) (ix2 R l) := by
  rw [View.read_apply]
  show A _ = A _
  congr 1
  funext a
  apply Fin.ext
  match a with
  | ⟨0, _⟩ => show win0_6.index t 0 * 1 + 1 * p.val = R.val; rw [(index_6 t).1]; subst hR; omega
  | ⟨1, _⟩ => show win0_6.index t 1 * 128 + 1 * l.val = l.val; rw [(index_6 t).2]; omega

theorem read_7 (A : Buf (Elt Ideal) ((c : Thread nD τ).loc main_v28)) (t : Fin cfg0.N) (p : Fin 256) (l : Fin 128) (R : Fin 8704) (hR : R.val = 256 * t.val + p.val) :
    (((cfg0.win 7).blk t).view.read (Elt Ideal) A : Vec Ideal S256x128 .f32) (ix2 p l) = (A : Vec Ideal S8704x128 .f32) (ix2 R l) := by
  rw [View.read_apply]
  show A _ = A _
  congr 1
  funext a
  apply Fin.ext
  match a with
  | ⟨0, _⟩ => show win0_7.index t 0 * 256 + 1 * p.val = R.val; rw [(index_7 t).1]; omega
  | ⟨1, _⟩ => show win0_7.index t 1 * 128 + 1 * l.val = l.val; rw [(index_7 t).2]; omega

theorem read_8 (A : Buf (Elt Ideal) ((c : Thread nD τ).loc main_v30)) (t : Fin cfg0.N) (p : Fin 256) (l : Fin 128) (R : Fin 8704) (hR : R.val = 256 * t.val + p.val) :
    (((cfg0.win 8).blk t).view.read (Elt Ideal) A : Vec Ideal S256x128 .f32) (ix2 p l) = (A : Vec Ideal S8704x128 .f32) (ix2 R l) := by
  rw [View.read_apply]
  show A _ = A _
  congr 1
  funext a
  apply Fin.ext
  match a with
  | ⟨0, _⟩ => show win0_8.index t 0 * 256 + 1 * p.val = R.val; rw [(index_8 t).1]; omega
  | ⟨1, _⟩ => show win0_8.index t 1 * 128 + 1 * l.val = l.val; rw [(index_8 t).2]; omega

theorem read_9 (A : Buf (Elt Ideal) ((c : Thread nD τ).loc main_v44)) (t : Fin cfg0.N) (p : Fin 256) (l : Fin 128) (R : Fin 8704) (hR : R.val = 256 * t.val + p.val) :
    (((cfg0.win 9).blk t).view.read (Elt Ideal) A : Vec Ideal S256x128 .f32) (ix2 p l) = (A : Vec Ideal S8704x128 .f32) (ix2 R l) := by
  rw [View.read_apply]
  show A _ = A _
  congr 1
  funext a
  apply Fin.ext
  match a with
  | ⟨0, _⟩ => show win0_9.index t 0 * 256 + 1 * p.val = R.val; rw [(index_9 t).1]; omega
  | ⟨1, _⟩ => show win0_9.index t 1 * 128 + 1 * l.val = l.val; rw [(index_9 t).2]; omega

theorem read_10 (A : Buf (Elt Ideal) ((c : Thread nD τ).loc main_v46)) (t : Fin cfg0.N) (p : Fin 256) (l : Fin 128) (R : Fin 8704) (hR : R.val = 256 * t.val + p.val) :
    (((cfg0.win 10).blk t).view.read (Elt Ideal) A : Vec Ideal S256x128 .f32) (ix2 p l) = (A : Vec Ideal S8704x128 .f32) (ix2 R l) := by
  rw [View.read_apply]
  show A _ = A _
  congr 1
  funext a
  apply Fin.ext
  match a with
  | ⟨0, _⟩ => show win0_10.index t 0 * 256 + 1 * p.val = R.val; rw [(index_10 t).1]; omega
  | ⟨1, _⟩ => show win0_10.index t 1 * 128 + 1 * l.val = l.val; rw [(index_10 t).2]; omega

theorem read_11 (A : Buf (Elt Ideal) ((c : Thread nD τ).loc main_v47)) (t : Fin cfg0.N) (p : Fin 256) (l : Fin 128) (R : Fin 8704) (hR : R.val = 256 * t.val + p.val) :
    (((cfg0.win 11).blk t).view.read (Elt Ideal) A : Vec Ideal S256x128 .f32) (ix2 p l) = (A : Vec Ideal S8704x128 .f32) (ix2 R l) := by
  rw [View.read_apply]
  show A _ = A _
  congr 1
  funext a
  apply Fin.ext
  match a with
  | ⟨0, _⟩ => show win0_11.index t 0 * 256 + 1 * p.val = R.val; rw [(index_11 t).1]; omega
  | ⟨1, _⟩ => show win0_11.index t 1 * 128 + 1 * l.val = l.val; rw [(index_11 t).2]; omega

theorem read_13 (A : Buf (Elt Ideal) ((c : Thread nD τ).loc main_v109_1)) (t : Fin cfg0.N) (p : Fin 256) (l : Fin 256) (R : Fin 8704) (hR : R.val = 256 * t.val + p.val) :
    (((cfg0.win 13).blk t).view.read (Elt Ideal) A : Vec Ideal S256x256 .f32) (ix2 p l) = (A : Vec Ideal S8704x256 .f32) (ix2 R l) := by
  rw [View.read_apply]
  show A _ = A _
  congr 1
  funext a
  apply Fin.ext
  match a with
  | ⟨0, _⟩ => show win0_13.index t 0 * 256 + 1 * p.val = R.val; rw [(index_13 t).1]; omega
  | ⟨1, _⟩ => show win0_13.index t 1 * 256 + 1 * l.val = l.val; rw [(index_13 t).2]; omega

theorem read_14 (A : Buf (Elt Ideal) ((c : Thread nD τ).loc main_v109_2)) (t : Fin cfg0.N) (p : Fin 256) (l : Fin 512) (R : Fin 8704) (hR : R.val = 256 * t.val + p.val) :
    (((cfg0.win 14).blk t).view.read (Elt Ideal) A : Vec Ideal S256x512 .f32) (ix2 p l) = (A : Vec Ideal S8704x512 .f32) (ix2 R l) := by
  rw [View.read_apply]
  show A _ = A _
  congr 1
  funext a
  apply Fin.ext
  match a with
  | ⟨0, _⟩ => show win0_14.index t 0 * 256 + 1 * p.val = R.val; rw [(index_14 t).1]; omega
  | ⟨1, _⟩ => show win0_14.index t 1 * 512 + 1 * l.val = l.val; rw [(index_14 t).2]; omega

theorem read_15 (A : Buf (Elt Ideal) ((c : Thread nD τ).loc main_v109_3)) (t : Fin cfg0.N) (p : Fin 256) (l : Fin 256) (R : Fin 8704) (hR : R.val = 256 * t.val + p.val) :
    (((cfg0.win 15).blk t).view.read (Elt Ideal) A : Vec Ideal S256x256 .f32) (ix2 p l) = (A : Vec Ideal S8704x256 .f32) (ix2 R l) := by
  rw [View.read_apply]
  show A _ = A _
  congr 1
  funext a
  apply Fin.ext
  match a with
  | ⟨0, _⟩ => show win0_15.index t 0 * 256 + 1 * p.val = R.val; rw [(index_15 t).1]; omega
  | ⟨1, _⟩ => show win0_15.index t 1 * 256 + 1 * l.val = l.val; rw [(index_15 t).2]; omega

theorem read_16 (A : Buf (Elt Ideal) ((c : Thread nD τ).loc main_v109_4)) (t : Fin cfg0.N) (p : Fin 256) (l : Fin 256) (R : Fin 8704) (hR : R.val = 256 * t.val + p.val) :
    (((cfg0.win 16).blk t).view.read (Elt Ideal) A : Vec Ideal S256x256 .f32) (ix2 p l) = (A : Vec Ideal S8704x256 .f32) (ix2 R l) := by
  rw [View.read_apply]
  show A _ = A _
  congr 1
  funext a
  apply Fin.ext
  match a with
  | ⟨0, _⟩ => show win0_16.index t 0 * 256 + 1 * p.val = R.val; rw [(index_16 t).1]; omega
  | ⟨1, _⟩ => show win0_16.index t 1 * 256 + 1 * l.val = l.val; rw [(index_16 t).2]; omega

theorem read_17 (A : Buf (Elt Ideal) ((c : Thread nD τ).loc main_v109_5)) (t : Fin cfg0.N) (p : Fin 256) (l : Fin 256) (R : Fin 8704) (hR : R.val = 256 * t.val + p.val) :
    (((cfg0.win 17).blk t).view.read (Elt Ideal) A : Vec Ideal S256x256 .f32) (ix2 p l) = (A : Vec Ideal S8704x256 .f32) (ix2 R l) := by
  rw [View.read_apply]
  show A _ = A _
  congr 1
  funext a
  apply Fin.ext
  match a with
  | ⟨0, _⟩ => show win0_17.index t 0 * 256 + 1 * p.val = R.val; rw [(index_17 t).1]; omega
  | ⟨1, _⟩ => show win0_17.index t 1 * 256 + 1 * l.val = l.val; rw [(index_17 t).2]; omega

theorem read_18 (A : Buf (Elt Ideal) ((c : Thread nD τ).loc main_v109_6)) (t : Fin cfg0.N) (p : Fin 256) (l : Fin 512) (R : Fin 8704) (hR : R.val = 256 * t.val + p.val) :
    (((cfg0.win 18).blk t).view.read (Elt Ideal) A : Vec Ideal S256x512 .f32) (ix2 p l) = (A : Vec Ideal S8704x512 .f32) (ix2 R l) := by
  rw [View.read_apply]
  show A _ = A _
  congr 1
  funext a
  apply Fin.ext
  match a with
  | ⟨0, _⟩ => show win0_18.index t 0 * 256 + 1 * p.val = R.val; rw [(index_18 t).1]; omega
  | ⟨1, _⟩ => show win0_18.index t 1 * 512 + 1 * l.val = l.val; rw [(index_18 t).2]; omega

theorem read_19 (A : Buf (Elt Ideal) ((c : Thread nD τ).loc main_v109_7)) (t : Fin cfg0.N) (p : Fin 256) (l : Fin 256) (R : Fin 8704) (hR : R.val = 256 * t.val + p.val) :
    (((cfg0.win 19).blk t).view.read (Elt Ideal) A : Vec Ideal S256x256 .f32) (ix2 p l) = (A : Vec Ideal S8704x256 .f32) (ix2 R l) := by
  rw [View.read_apply]
  show A _ = A _
  congr 1
  funext a
  apply Fin.ext
  match a with
  | ⟨0, _⟩ => show win0_19.index t 0 * 256 + 1 * p.val = R.val; rw [(index_19 t).1]; omega
  | ⟨1, _⟩ => show win0_19.index t 1 * 256 + 1 * l.val = l.val; rw [(index_19 t).2]; omega

theorem read_20 (A : Buf (Elt Ideal) ((c : Thread nD τ).loc main_v109_8)) (t : Fin cfg0.N) (p : Fin 256) (l : Fin 512) (R : Fin 8704) (hR : R.val = 256 * t.val + p.val) :
    (((cfg0.win 20).blk t).view.read (Elt Ideal) A : Vec Ideal S256x512 .f32) (ix2 p l) = (A : Vec Ideal S8704x512 .f32) (ix2 R l) := by
  rw [View.read_apply]
  show A _ = A _
  congr 1
  funext a
  apply Fin.ext
  match a with
  | ⟨0, _⟩ => show win0_20.index t 0 * 256 + 1 * p.val = R.val; rw [(index_20 t).1]; omega
  | ⟨1, _⟩ => show win0_20.index t 1 * 512 + 1 * l.val = l.val; rw [(index_20 t).2]; omega

theorem read_21 (A : Buf (Elt Ideal) ((c : Thread nD τ).loc main_v109_9)) (t : Fin cfg0.N) (p : Fin 256) (l : Fin 256) (R : Fin 8704) (hR : R.val = 256 * t.val + p.val) :
    (((cfg0.win 21).blk t).view.read (Elt Ideal) A : Vec Ideal S256x256 .f32) (ix2 p l) = (A : Vec Ideal S8704x256 .f32) (ix2 R l) := by
  rw [View.read_apply]
  show A _ = A _
  congr 1
  funext a
  apply Fin.ext
  match a with
  | ⟨0, _⟩ => show win0_21.index t 0 * 256 + 1 * p.val = R.val; rw [(index_21 t).1]; omega
  | ⟨1, _⟩ => show win0_21.index t 1 * 256 + 1 * l.val = l.val; rw [(index_21 t).2]; omega

theorem read_22 (A : Buf (Elt Ideal) ((c : Thread nD τ).loc main_v109_10)) (t : Fin cfg0.N) (p : Fin 256) (l : Fin 128) (R : Fin 8704) (hR : R.val = 256 * t.val + p.val) :
    (((cfg0.win 22).blk t).view.read (Elt Ideal) A : Vec Ideal S256x128 .f32) (ix2 p l) = (A : Vec Ideal S8704x128 .f32) (ix2 R l) := by
  rw [View.read_apply]
  show A _ = A _
  congr 1
  funext a
  apply Fin.ext
  match a with
  | ⟨0, _⟩ => show win0_22.index t 0 * 256 + 1 * p.val = R.val; rw [(index_22 t).1]; omega
  | ⟨1, _⟩ => show win0_22.index t 1 * 128 + 1 * l.val = l.val; rw [(index_22 t).2]; omega

theorem read_23 (A : Buf (Elt Ideal) ((c : Thread nD τ).loc main_v109_11)) (t : Fin cfg0.N) (p : Fin 256) (l : Fin 128) (R : Fin 8704) (hR : R.val = 256 * t.val + p.val) :
    (((cfg0.win 23).blk t).view.read (Elt Ideal) A : Vec Ideal S256x128 .f32) (ix2 p l) = (A : Vec Ideal S8704x128 .f32) (ix2 R l) := by
  rw [View.read_apply]
  show A _ = A _
  congr 1
  funext a
  apply Fin.ext
  match a with
  | ⟨0, _⟩ => show win0_23.index t 0 * 256 + 1 * p.val = R.val; rw [(index_23 t).1]; omega
  | ⟨1, _⟩ => show win0_23.index t 1 * 128 + 1 * l.val = l.val; rw [(index_23 t).2]; omega

end Cert.ProjIdeal.Blocks
end
-- ==== Proof.ProjZ.lean ====
/-
  The projection kernel's blocks at a grid point: the product of the block's rows with the laid out weight is the rows'
  projections, its columns moved to whole lanes; the gains and the tables of the turns are the arguments' and the
  angles'.
-/
module

public import proofs.«01_k».proof.Proof.ProjBlocks
public import Idealize.ShloMosaic.Lib.Tactic
public import Idealize.ShloMosaic.Lib.Pointwise

@[expose] public section

set_option maxRecDepth 16384
set_option maxHeartbeats 2000000

noncomputable section

namespace Cert.ProjIdeal.Z

open Cert.ProjIdeal Cert.ProjIdeal.Gen Cert.ProjIdeal.Host Cert.ProjIdeal.Body Cert.ProjIdeal.Blocks Cert.ProjMath Idealize.ShloMosaic Idealize.ShloMosaic.TcCoe Idealize.SL.Sem

theorem hz : (![0, 0] : Fin 2 → ℕ) = fun _ => 0 := by funext a; match a with | ⟨0, _⟩ => rfl | ⟨1, _⟩ => rfl

/-! ## The turns by tables -/

theorem turn_rope (x : Fin 128 → EReal) (a : Fin 64 → EReal) (k : Fin 128) :
    turn x (fun k => if h : k.val < 64 then Ideal.cos (a ⟨k.val, h⟩) else Ideal.cos (a ⟨k.val - 64, by omega⟩))
      (fun k => if h : k.val < 64 then -Ideal.sin (a ⟨k.val, h⟩) else Ideal.sin (a ⟨k.val - 64, by omega⟩)) k = rope128 x a k := by
  unfold turn rope128
  by_cases h : k.val < 64
  · have e : (⟨(k.val + 128 - 64) % 128, Nat.mod_lt _ (by norm_num)⟩ : Fin 128) = ⟨k.val + 64, by omega⟩ := Fin.ext (by show (k.val + 128 - 64) % 128 = k.val + 64; omega)
    simp only [dif_pos h, e, mul_neg, sub_eq_add_neg]
  · have e : (⟨(k.val + 128 - 64) % 128, Nat.mod_lt _ (by norm_num)⟩ : Fin 128) = ⟨k.val - 64, by omega⟩ := Fin.ext (by show (k.val + 128 - 64) % 128 = k.val - 64; omega)
    simp only [dif_neg h, e]

/-- The turn within 64 lanes: the lanes' other partner is multiplied by the tables' zeros. -/
theorem turnHalf_rope (x c s s' : Fin 128 → EReal) (y : Fin 64 → EReal) (a : Fin 32 → EReal) (hx : ∀ i : Fin 64, x ⟨i.val, by omega⟩ = y i)
    (hc : ∀ i : Fin 64, c ⟨i.val, by omega⟩ = if h : i.val < 32 then Ideal.cos (a ⟨i.val, h⟩) else Ideal.cos (a ⟨i.val - 32, by omega⟩))
    (hs : ∀ i : Fin 64, s ⟨i.val, by omega⟩ = if h : i.val < 32 then -Ideal.sin (a ⟨i.val, h⟩) else 0)
    (hs' : ∀ i : Fin 64, s' ⟨i.val, by omega⟩ = if h : i.val < 32 then 0 else Ideal.sin (a ⟨i.val - 32, by omega⟩)) (k : Fin 64) :
    turnHalf x c s s' ⟨k.val, by omega⟩ = rope64 y a k := by
  unfold turnHalf rope64
  rw [hx, hc, hs, hs']
  by_cases h : k.val < 32
  · have e : (⟨(k.val + 128 - 96) % 128, Nat.mod_lt _ (by norm_num)⟩ : Fin 128) = ⟨k.val + 32, by omega⟩ := Fin.ext (by show (k.val + 128 - 96) % 128 = k.val + 32; omega)
    simp only [dif_pos h, e, mul_neg, mul_zero, add_zero, sub_eq_add_neg]
    simp only [← hx]
  · have e : (⟨(k.val + 128 - 32) % 128, Nat.mod_lt _ (by norm_num)⟩ : Fin 128) = ⟨k.val - 32, by omega⟩ := Fin.ext (by show (k.val + 128 - 32) % 128 = k.val - 32; omega)
    simp only [dif_neg h, e, mul_zero, add_zero]
    simp only [← hx]

/-- The norm over 128 lanes of which the upper half is zero is the norm over the lower half. -/
theorem nrm_half (q : EReal) (v g : Fin 128 → EReal) (v' g' : Fin 64 → EReal) (hv : ∀ i : Fin 64, v ⟨i.val, by omega⟩ = v' i)
    (h0 : ∀ i : Fin 128, 64 ≤ i.val → v i = 0) (hg : ∀ i : Fin 64, g ⟨i.val, by omega⟩ = g' i) (k : Fin 64) :
    nrm q v g ⟨k.val, by omega⟩ = nrm q v' g' k := by
  have e : (∑ i : Fin 128, v i * v i) = ∑ i : Fin 64, v' i * v' i := by
    refine (Fin.sum_univ_add (a := 64) (b := 64) (fun i : Fin (64 + 64) => v i * v i)).trans ?_
    rw [Finset.sum_eq_zero (s := Finset.univ) (f := fun i : Fin 64 => v (Fin.natAdd 64 i) * v (Fin.natAdd 64 i))
      (fun i _ => by rw [h0 (Fin.natAdd 64 i) (by show 64 ≤ 64 + i.val; omega), mul_zero]), add_zero]
    exact Finset.sum_congr rfl fun i _ => congrArg₂ (· * ·) (hv i) (hv i)
  unfold nrm
  rw [e, hv, hg]

/-! ## The tables of the turn of 64 lanes -/

theorem zero32_at (R : Fin 8704) (k : Fin 32) : zero32 (F := Ideal) (ix2 R k) = (0 : EReal) := by
  pointwise [zero32]

theorem c2_at (R : Fin 8704) (k : Fin 64) : (concatenate S8704x128 1 [⟨S8704x32, Host.cos (ang32 (F := Ideal))⟩, ⟨S8704x32, Host.cos (ang32 (F := Ideal))⟩, ⟨S8704x32, zero32 (F := Ideal)⟩, ⟨S8704x32, zero32 (F := Ideal)⟩] concatenates_S8704x32_S8704x32_S8704x32_S8704x32_S8704x128_d1 : FVec Ideal S8704x128 .f32) (ix2 R ⟨k.val, by omega⟩)
    = if h : k.val < 32 then Ideal.cos (ang32 (F := Ideal) (ix2 R ⟨k.val, h⟩)) else Ideal.cos (ang32 (F := Ideal) (ix2 R ⟨k.val - 32, by omega⟩)) := by
  have hk : k.val - 32 < 32 := by omega
  pointwise
  simp only [hk, dif_pos]

theorem s2a_at (R : Fin 8704) (k : Fin 64) : (concatenate S8704x128 1 [⟨S8704x32, Host.negf (Host.sin (ang32 (F := Ideal)))⟩, ⟨S8704x32, zero32 (F := Ideal)⟩, ⟨S8704x32, zero32 (F := Ideal)⟩, ⟨S8704x32, zero32 (F := Ideal)⟩] concatenates_S8704x32_S8704x32_S8704x32_S8704x32_S8704x128_d1 : FVec Ideal S8704x128 .f32) (ix2 R ⟨k.val, by omega⟩)
    = if h : k.val < 32 then -Ideal.sin (ang32 (F := Ideal) (ix2 R ⟨k.val, h⟩)) else 0 := by
  have hk : k.val - 32 < 32 := by omega
  pointwise
  simp only [hk, dif_pos, zero32_at]

theorem s2b_at (R : Fin 8704) (k : Fin 64) : (concatenate S8704x128 1 [⟨S8704x32, zero32 (F := Ideal)⟩, ⟨S8704x32, Host.sin (ang32 (F := Ideal))⟩, ⟨S8704x32, zero32 (F := Ideal)⟩, ⟨S8704x32, zero32 (F := Ideal)⟩] concatenates_S8704x32_S8704x32_S8704x32_S8704x32_S8704x128_d1 : FVec Ideal S8704x128 .f32) (ix2 R ⟨k.val, by omega⟩)
    = if h : k.val < 32 then 0 else Ideal.sin (ang32 (F := Ideal) (ix2 R ⟨k.val - 32, by omega⟩)) := by
  have hk : k.val - 32 < 32 := by omega
  pointwise
  simp only [hk, dif_pos, zero32_at]

section
variable (x0 : Vec Ideal S256x2048 .f32) (x1 : Vec Ideal S1x2048 .f32) (x2 : Vec Ideal S2048x3584 .bf16) (x3 : Vec Ideal S384x1024 .bf16) (x4 : Vec Ideal S4x128x128 .bf16)
  (x5 : Vec Ideal S16x384 .f32) (x6 : Vec Ideal S1x128 .f32) (x7 x8 x9 x10 x11 : Vec Ideal S256x128 .f32)

/-- The body's values read the blocks whole. -/
theorem pay80_at (p : Fin 256) (j : Fin 3584) : k0_pay80 (F := Ideal) x0 x1 x2 x3 x4 x5 x6 x7 x8 x9 x10 x11 (ix2 p j)
    = ∑ d : Fin 2048, nrm inv2048 (fun i => x0 (ix2 p i)) (fun i => x1 (ix2 0 i)) d * x2 (ix2 d j) := by
  unfold k0_pay80
  simp only [View.ld_unit_zero (S := S256x2048) hz, View.ld_unit_zero (S := S1x2048) hz, View.ld_unit_zero (S := S2048x3584) hz]
  exact pay6_at _ _ _ p j

theorem pay86_at (r : Fin 16) (l : Fin 384) : k0_pay86 (F := Ideal) x0 x1 x2 x3 x4 x5 x6 x7 x8 x9 x10 x11 (ix2 r l) = x5 (ix2 r l) := by
  unfold k0_pay86
  simp only [View.ld_unit_zero (S := S16x384) hz]
  pointwise [k0_pay12]

theorem pay81_at (p : Fin 256) (k : Fin 128) : k0_pay81 (F := Ideal) x0 x1 x2 x3 x4 x5 x6 x7 x8 x9 x10 x11 (ix2 p k) = x7 (ix2 p k) := by
  unfold k0_pay81
  simp only [View.ld_unit_zero (S := S256x128) hz]
  pointwise [k0_pay7]

theorem pay82_at (p : Fin 256) (k : Fin 128) : k0_pay82 (F := Ideal) x0 x1 x2 x3 x4 x5 x6 x7 x8 x9 x10 x11 (ix2 p k) = x8 (ix2 p k) := by
  unfold k0_pay82
  simp only [View.ld_unit_zero (S := S256x128) hz]
  pointwise [k0_pay8]

theorem pay83_at (p : Fin 256) (k : Fin 128) : k0_pay83 (F := Ideal) x0 x1 x2 x3 x4 x5 x6 x7 x8 x9 x10 x11 (ix2 p k) = x9 (ix2 p k) := by
  unfold k0_pay83
  simp only [View.ld_unit_zero (S := S256x128) hz]
  pointwise [k0_pay9]

theorem pay84_at (p : Fin 256) (k : Fin 128) : k0_pay84 (F := Ideal) x0 x1 x2 x3 x4 x5 x6 x7 x8 x9 x10 x11 (ix2 p k) = x10 (ix2 p k) := by
  unfold k0_pay84
  simp only [View.ld_unit_zero (S := S256x128) hz]
  pointwise [k0_pay10]

theorem pay85_at (p : Fin 256) (k : Fin 128) : k0_pay85 (F := Ideal) x0 x1 x2 x3 x4 x5 x6 x7 x8 x9 x10 x11 (ix2 p k) = x11 (ix2 p k) := by
  unfold k0_pay85
  simp only [View.ld_unit_zero (S := S256x128) hz]
  pointwise [k0_pay11]

end

variable (m : (ℓ : Loc nD τ sig) → Buf (Elt Ideal) ℓ) (c : Dev nD)

/-- A row's projections, from the arguments. -/
def zr (R : Fin 8704) : Fin 3408 → EReal :=
  zRow (fun i => rows (F := Ideal) (m (c, main_arg0) : FVec Ideal S2x4096x2048 .f32) (m (c, main_arg1) : FVec Ideal S128x4x2048 .f32) (ix2 R i))
    (fun i => (m (c, main_arg2) : FVec Ideal S2048 .f32) (ix1 i)) (fun d j => (m (c, main_arg3) : FVec Ideal S2048x3408 .f32) (ix2 d j))

variable (t : Fin cfg0.N) (p : Fin 256) (R : Fin 8704) (hR : R.val = 256 * t.val + p.val)

/-- The blocks the body works on at a grid point. -/
abbrev zB : FVec Ideal S256x3584 .f32 := k0_pay80 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
abbrev c1B : FVec Ideal S256x128 .f32 := k0_pay81 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
abbrev s1B : FVec Ideal S256x128 .f32 := k0_pay82 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
abbrev c2B : FVec Ideal S256x128 .f32 := k0_pay83 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
abbrev s2aB : FVec Ideal S256x128 .f32 := k0_pay84 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
abbrev s2bB : FVec Ideal S256x128 .f32 := k0_pay85 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
abbrev vecB : FVec Ideal S16x384 .f32 := k0_pay86 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)

include hR in
theorem zB_at (j : Fin 3584) : zB m c t (ix2 p j)
    = ∑ d : Fin 2048, nrm inv2048 (fun i => rows (F := Ideal) (m (c, main_arg0) : FVec Ideal S2x4096x2048 .f32) (m (c, main_arg1) : FVec Ideal S128x4x2048 .f32) (ix2 R i))
        (fun i => (m (c, main_arg2) : FVec Ideal S2048 .f32) (ix1 i)) d * laid (F := Ideal) (m (c, main_arg3) : FVec Ideal S2048x3408 .f32) (ix2 d j) := by
  have e0 : (fun i => (iblk m c 0 t : Vec Ideal S256x2048 .f32) (ix2 p i)) = fun i => rows (F := Ideal) (m (c, main_arg0) : FVec Ideal S2x4096x2048 .f32) (m (c, main_arg1) : FVec Ideal S128x4x2048 .f32) (ix2 R i) := by
    funext i
    unfold iblk
    exact (read_0 c (V m c main_v2) t p i R hR).trans (congrFun (V_rows m c) (ix2 R i))
  have e1 : (fun i => (iblk m c 1 t : Vec Ideal S1x2048 .f32) (ix2 0 i)) = fun i => (m (c, main_arg2) : FVec Ideal S2048 .f32) (ix1 i) := by
    funext i
    unfold iblk
    refine (read_1 c (V m c main_v88) t 0 i 0 rfl).trans ((congrFun (V_norm m c) (ix2 0 i)).trans ?_)
    pointwise
  have e2 : ∀ d : Fin 2048, (iblk m c 2 t : Vec Ideal S2048x3584 .bf16) (ix2 d j) = laid (F := Ideal) (m (c, main_arg3) : FVec Ideal S2048x3408 .f32) (ix2 d j) := by
    intro d
    unfold iblk
    exact (read_2 c (V m c main_v105) t d j d rfl).trans (congrFun (V_laid m c) (ix2 d j))
  refine (pay80_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p j).trans ?_
  rw [e0, e1]
  exact Finset.sum_congr rfl fun d _ => congrArg _ (e2 d)

include hR in
/-- A column of the block with one of the weight's behind it. -/
theorem z_at (j : Fin 3584) (j' : Fin 3408) (h : Laid j.val j'.val) : zB m c t (ix2 p j) = zr m c R j' := by
  rw [zB_at m c t p R hR]
  exact Finset.sum_congr rfl fun d _ => congrArg _ (laid_at _ d j j' h)

include hR in
/-- A column of the block with none. -/
theorem z_zero (j : Fin 3584) (h : 576 ≤ j.val) (h' : j.val < 640) : zB m c t (ix2 p j) = 0 := by
  rw [zB_at m c t p R hR]
  refine Finset.sum_eq_zero fun d _ => ?_
  rw [laid_zero _ d j h h', mul_zero]

include hR in
theorem cols_eq (o : ℕ) (ho : o + 128 ≤ 3584) (o' : ℕ) (ho' : o' + 128 ≤ 3408) (h : ∀ i : ℕ, i < 128 → Laid (o + i) (o' + i)) :
    cols (zB m c t) p o ho = seg (zr m c R) o' ho' :=
  funext fun i => z_at m c t p R hR ⟨o + i.val, by omega⟩ ⟨o' + i.val, by omega⟩ (h i.val i.isLt)

/-! ## The gains -/

theorem vecB_at (r : Fin 16) (l : Fin 384) : vecB m c t (ix2 r l) = (V m c main_v82 : FVec Ideal S16x384 .f32) (ix2 r l) := by
  refine (pay86_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) r l).trans ?_
  unfold iblk
  exact read_5 c (V m c main_v82) t r l r rfl

theorem gain3 : gain (vecB m c t) 3 = fun i => (m (c, main_arg7) : FVec Ideal S128 .f32) (ix1 i) := by
  funext i
  exact (vecB_at m c t 3 ⟨i.val, by omega⟩).trans ((congrFun (V_gains m c) (ix2 3 ⟨i.val, by omega⟩)).trans ((gains3 _ _ _ _ _ _ _ _ _ _ _ _).trans (row128_at _ i)))

theorem gain5 : gain (vecB m c t) 5 = fun i => (m (c, main_arg10) : FVec Ideal S128 .f32) (ix1 i) := by
  funext i
  exact (vecB_at m c t 5 ⟨i.val, by omega⟩).trans ((congrFun (V_gains m c) (ix2 5 ⟨i.val, by omega⟩)).trans ((gains5 _ _ _ _ _ _ _ _ _ _ _ _).trans (row128_at _ i)))

theorem gain6 : gain (vecB m c t) 6 = fun i => (m (c, main_arg11) : FVec Ideal S3x128 .f32) (ix2 0 i) := by
  funext i
  exact (vecB_at m c t 6 ⟨i.val, by omega⟩).trans ((congrFun (V_gains m c) (ix2 6 ⟨i.val, by omega⟩)).trans ((gains6 _ _ _ _ _ _ _ _ _ _ _ _).trans ((row128_at _ i).trans (by pointwise))))

theorem gain7 : gain (vecB m c t) 7 = fun i => (m (c, main_arg11) : FVec Ideal S3x128 .f32) (ix2 1 i) := by
  funext i
  exact (vecB_at m c t 7 ⟨i.val, by omega⟩).trans ((congrFun (V_gains m c) (ix2 7 ⟨i.val, by omega⟩)).trans ((gains7 _ _ _ _ _ _ _ _ _ _ _ _).trans ((row128_at _ i).trans (by pointwise))))

theorem gain8 : gain (vecB m c t) 8 = fun i => (m (c, main_arg11) : FVec Ideal S3x128 .f32) (ix2 2 i) := by
  funext i
  exact (vecB_at m c t 8 ⟨i.val, by omega⟩).trans ((congrFun (V_gains m c) (ix2 8 ⟨i.val, by omega⟩)).trans ((gains8 _ _ _ _ _ _ _ _ _ _ _ _).trans ((row128_at _ i).trans (by pointwise))))

theorem gain9 : gain (vecB m c t) 9 = fun i => (m (c, main_arg12) : FVec Ideal S128 .f32) (ix1 i) := by
  funext i
  exact (vecB_at m c t 9 ⟨i.val, by omega⟩).trans ((congrFun (V_gains m c) (ix2 9 ⟨i.val, by omega⟩)).trans ((gains9 _ _ _ _ _ _ _ _ _ _ _ _).trans (row128_at _ i)))

theorem gain10 : gain (vecB m c t) 10 = fun i => (m (c, main_arg13) : FVec Ideal S128 .f32) (ix1 i) := by
  funext i
  exact (vecB_at m c t 10 ⟨i.val, by omega⟩).trans ((congrFun (V_gains m c) (ix2 10 ⟨i.val, by omega⟩)).trans ((gains10 _ _ _ _ _ _ _ _ _ _ _ _).trans (row128_at _ i)))

theorem gain4 (i : Fin 64) : gain (vecB m c t) 4 ⟨i.val, by omega⟩ = (m (c, main_arg8) : FVec Ideal S64 .f32) (ix1 i) :=
  (vecB_at m c t 4 ⟨i.val, by omega⟩).trans ((congrFun (V_gains m c) (ix2 4 ⟨i.val, by omega⟩)).trans ((gains4 _ _ _ _ _ _ _ _ _ _ _ _).trans
    ((row64_at _ ⟨i.val, by omega⟩).trans (dif_pos i.isLt))))

/-! ## The tables -/

include hR in
theorem c1B_at (k : Fin 128) : lanes p (c1B m c t) k = (V m c main_v28 : FVec Ideal S8704x128 .f32) (ix2 R k) := by
  refine (pay81_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p k).trans ?_
  unfold iblk
  exact read_7 c (V m c main_v28) t p k R hR

include hR in
theorem s1B_at (k : Fin 128) : lanes p (s1B m c t) k = (V m c main_v30 : FVec Ideal S8704x128 .f32) (ix2 R k) := by
  refine (pay82_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p k).trans ?_
  unfold iblk
  exact read_8 c (V m c main_v30) t p k R hR

include hR in
theorem c2B_at (k : Fin 128) : lanes p (c2B m c t) k = (V m c main_v44 : FVec Ideal S8704x128 .f32) (ix2 R k) := by
  refine (pay83_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p k).trans ?_
  unfold iblk
  exact read_9 c (V m c main_v44) t p k R hR

include hR in
theorem s2aB_at (k : Fin 128) : lanes p (s2aB m c t) k = (V m c main_v46 : FVec Ideal S8704x128 .f32) (ix2 R k) := by
  refine (pay84_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p k).trans ?_
  unfold iblk
  exact read_10 c (V m c main_v46) t p k R hR

include hR in
theorem s2bB_at (k : Fin 128) : lanes p (s2bB m c t) k = (V m c main_v47 : FVec Ideal S8704x128 .f32) (ix2 R k) := by
  refine (pay85_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p k).trans ?_
  unfold iblk
  exact read_11 c (V m c main_v47) t p k R hR

/-- A row's angles. -/
def a64 (R : Fin 8704) (i : Fin 64) : EReal := ang64 (F := Ideal) (ix2 R i)
def a32 (R : Fin 8704) (i : Fin 32) : EReal := ang32 (F := Ideal) (ix2 R i)

include hR in
/-- The turn by the block's tables is the turn by the row's angles. -/
theorem turn_eq (x : Fin 128 → EReal) (k : Fin 128) : turn x (lanes p (c1B m c t)) (lanes p (s1B m c t)) k = rope128 x (a64 R) k := by
  have ec : lanes p (c1B m c t) = fun k : Fin 128 => if h : k.val < 64 then Ideal.cos (a64 R ⟨k.val, h⟩) else Ideal.cos (a64 R ⟨k.val - 64, by omega⟩) :=
    funext fun k => (c1B_at m c t p R hR k).trans ((congrFun (V_c1 m c) (ix2 R k)).trans (c1_at R k))
  have es : lanes p (s1B m c t) = fun k : Fin 128 => if h : k.val < 64 then -Ideal.sin (a64 R ⟨k.val, h⟩) else Ideal.sin (a64 R ⟨k.val - 64, by omega⟩) :=
    funext fun k => (s1B_at m c t p R hR k).trans ((congrFun (V_s1 m c) (ix2 R k)).trans (s1_at R k))
  rw [ec, es]
  exact turn_rope x (a64 R) k

include hR in
theorem cols_zero (i : Fin 128) (h : 64 ≤ i.val) : cols (zB m c t) p 512 (by norm_num) i = 0 := by
  have h1 : 576 ≤ 512 + i.val := by omega
  have h2 : 512 + i.val < 640 := by omega
  exact z_zero m c t p R hR ⟨512 + i.val, by omega⟩ h1 h2

include hR in
/-- The latent key's lanes: the norm of the 64 and their turn. -/
theorem mlaKey_eq (k : Fin 64) :
    turnHalf (nrm inv64 (cols (zB m c t) p 512 (by norm_num)) (gain (vecB m c t) 4)) (lanes p (c2B m c t)) (lanes p (s2aB m c t)) (lanes p (s2bB m c t)) ⟨k.val, by omega⟩
      = rope64 (nrm inv64 (fun i : Fin 64 => zr m c R ⟨512 + i.val, by omega⟩) (fun i => (m (c, main_arg8) : FVec Ideal S64 .f32) (ix1 i))) (a32 R) k :=
  turnHalf_rope _ _ _ _ _ _
    (nrm_half _ _ _ _ _ (fun i => z_at m c t p R hR ⟨512 + i.val, by omega⟩ ⟨512 + i.val, by omega⟩ (Or.inl ⟨by show 512 + i.val < 576; omega, rfl⟩))
      (cols_zero m c t p R hR) (fun i => gain4 m c t p R i))
    (fun i => (c2B_at m c t p R hR _).trans ((congrFun (V_c2 m c) _).trans (c2_at R i)))
    (fun i => (s2aB_at m c t p R hR _).trans ((congrFun (V_s2a m c) _).trans (s2a_at R i)))
    (fun i => (s2bB_at m c t p R hR _).trans ((congrFun (V_s2b m c) _).trans (s2b_at R i))) k

/-- The biases' row. -/
theorem fb_at (k : Fin 4) : (iblk m c 6 t : Vec Ideal S1x128 .f32) (ix2 0 ⟨12 + k.val, by omega⟩) = (m (c, main_arg14) : FVec Ideal S4 .f32) (ix1 k) := by
  unfold iblk
  exact (read_6 c (V m c main_v87) t 0 ⟨12 + k.val, by omega⟩ 0 rfl).trans ((congrFun (V_bias m c) _).trans (bias_at _ k _ rfl))

end Cert.ProjIdeal.Z
end
-- ==== Proof.ProjOut.lean ====
/-
  The block of each result a grid point of the projection kernel writes, at an element.
-/
module

public import proofs.«01_k».proof.Proof.ProjZ
public import Idealize.ShloMosaic.Lib.Pipeline.ValueKit.Tiles

@[expose] public section

set_option maxRecDepth 16384
set_option maxHeartbeats 2000000

noncomputable section

namespace Cert.ProjIdeal.Out

open Cert.ProjIdeal Cert.ProjIdeal.Gen Cert.ProjIdeal.Host Cert.ProjIdeal.Body Cert.ProjIdeal.Blocks Cert.ProjIdeal.Z Cert.ProjMath Idealize.ShloMosaic Idealize.ShloMosaic.TcCoe Idealize.SL.Sem

/-! ## The rows' formulas on a tile of 128 lanes -/

section
variable (z : Fin 3408 → EReal) (o : ℕ) (g : Fin 128 → EReal) (a : Fin 64 → EReal) (k : Fin 128)

theorem keyRow_lo (ho : o + 256 ≤ 3408) (h : 128 * 0 + k.val < 256) : keyRow z o ho g a ⟨128 * 0 + k.val, h⟩ = rope128 (nrm inv128 (seg z o (by omega)) g) a k := by
  have e : (⟨128 * 0 + k.val, by omega⟩ : Fin 128) = k := Fin.ext (by show 128 * 0 + k.val = k.val; omega)
  unfold keyRow
  rw [dif_pos (show 128 * 0 + k.val < 128 by omega), e]

theorem keyRow_hi (ho : o + 256 ≤ 3408) (h : 128 * 1 + k.val < 256) : keyRow z o ho g a ⟨128 * 1 + k.val, h⟩ = seg z (o + 128) (by omega) k := by
  unfold keyRow seg
  rw [dif_neg (show ¬ 128 * 1 + k.val < 128 by omega)]
  exact congrArg z (Fin.ext (by show o + (128 * 1 + k.val) = o + 128 + k.val; omega))

theorem normRow_lo (ho : o + 256 ≤ 3408) (h : 128 * 0 + k.val < 256) : normRow z o ho g ⟨128 * 0 + k.val, h⟩ = nrm inv128 (seg z o (by omega)) g k := by
  have e : (⟨128 * 0 + k.val, by omega⟩ : Fin 128) = k := Fin.ext (by show 128 * 0 + k.val = k.val; omega)
  unfold normRow
  rw [dif_pos (show 128 * 0 + k.val < 128 by omega), e]

theorem normRow_hi (ho : o + 256 ≤ 3408) (h : 128 * 1 + k.val < 256) : normRow z o ho g ⟨128 * 1 + k.val, h⟩ = seg z (o + 128) (by omega) k := by
  unfold normRow seg
  rw [dif_neg (show ¬ 128 * 1 + k.val < 128 by omega)]
  exact congrArg z (Fin.ext (by show o + (128 * 1 + k.val) = o + 128 + k.val; omega))

theorem turnedHeads_at (ho : o + 512 ≤ 3408) (s : ℕ) (hs : s < 4) (h : 128 * s + k.val < 512) :
    turnedHeads z o ho g a ⟨128 * s + k.val, h⟩ = rope128 (nrm inv128 (seg z (o + 128 * s) (by omega)) g) a k := by
  have e1 : (128 * s + k.val) / 128 = s := by omega
  have e2 : (⟨(128 * s + k.val) % 128, by omega⟩ : Fin 128) = k := Fin.ext (by show (128 * s + k.val) % 128 = k.val; omega)
  have key : ∀ q : ℕ, q = s → ∀ hq : o + 128 * q + 128 ≤ 3408, seg z (o + 128 * q) hq = seg z (o + 128 * s) (by omega) := by
    rintro q rfl _
    rfl
  exact congrArg₂ (fun v u => rope128 (nrm inv128 v g) a u) (key _ e1 _) e2

theorem normedHeads_at (ho : o + 512 ≤ 3408) (s : ℕ) (hs : s < 4) (h : 128 * s + k.val < 512) :
    normedHeads z o ho g ⟨128 * s + k.val, h⟩ = nrm inv128 (seg z (o + 128 * s) (by omega)) g k := by
  have e1 : (128 * s + k.val) / 128 = s := by omega
  have e2 : (⟨(128 * s + k.val) % 128, by omega⟩ : Fin 128) = k := Fin.ext (by show (128 * s + k.val) % 128 = k.val; omega)
  have key : ∀ q : ℕ, q = s → ∀ hq : o + 128 * q + 128 ≤ 3408, seg z (o + 128 * q) hq = seg z (o + 128 * s) (by omega) := by
    rintro q rfl _
    rfl
  exact congrArg₂ (fun v u => nrm inv128 v g u) (key _ e1 _) e2
end

/-- A stored tile of 128 lanes, where it holds a lane of the row `f`. -/
theorem tile2 (s : ℕ) (hs : s < 2) (off : Fin S256x256.rank → ℕ) (he : off = ![0, 128 * s]) (w : Vec Ideal S256x128 .f32) (f : Fin 256 → EReal) (p : Fin 256)
    (hw : ∀ k : Fin 128, w (ix2 p k) = f ⟨128 * s + k.val, by omega⟩) (l : Fin 256) :
    View.TileAt (Val := Elt Ideal) (e := .f32) (S := S256x256) (ix2 p l) off ![256, 128] w (f l) := by
  subst he
  intro x hx
  have h1 : p.val = 0 + (x 0).val := hx 0
  have h2 : l.val = 128 * s + (x 1).val := hx 1
  have b1 : (x 1).val < 128 := (x 1).isLt
  have ex : x = ix2 (n0 := 256) (n1 := 128) p ⟨(x 1).val, b1⟩ := by
    funext i
    apply Fin.ext
    match i with
    | ⟨0, _⟩ => show (x 0).val = p.val; omega
    | ⟨1, _⟩ => rfl
  exact (congrArg w ex).trans ((hw _).trans (congrArg f (Fin.ext (by show 128 * s + (x 1).val = l.val; omega))))

theorem tile4 (s : ℕ) (hs : s < 4) (off : Fin S256x512.rank → ℕ) (he : off = ![0, 128 * s]) (w : Vec Ideal S256x128 .f32) (f : Fin 512 → EReal) (p : Fin 256)
    (hw : ∀ k : Fin 128, w (ix2 p k) = f ⟨128 * s + k.val, by omega⟩) (l : Fin 512) :
    View.TileAt (Val := Elt Ideal) (e := .f32) (S := S256x512) (ix2 p l) off ![256, 128] w (f l) := by
  subst he
  intro x hx
  have h1 : p.val = 0 + (x 0).val := hx 0
  have h2 : l.val = 128 * s + (x 1).val := hx 1
  have b1 : (x 1).val < 128 := (x 1).isLt
  have ex : x = ix2 (n0 := 256) (n1 := 128) p ⟨(x 1).val, b1⟩ := by
    funext i
    apply Fin.ext
    match i with
    | ⟨0, _⟩ => show (x 0).val = p.val; omega
    | ⟨1, _⟩ => rfl
  exact (congrArg w ex).trans ((hw _).trans (congrArg f (Fin.ext (by show 128 * s + (x 1).val = l.val; omega))))

/-! ## The blocks stored whole -/

section
variable (x0 : Vec Ideal S256x2048 .f32) (x1 : Vec Ideal S1x2048 .f32) (x2 : Vec Ideal S2048x3584 .bf16) (x3 : Vec Ideal S384x1024 .bf16) (x4 : Vec Ideal S4x128x128 .bf16)
  (x5 : Vec Ideal S16x384 .f32) (x6 : Vec Ideal S1x128 .f32) (x7 x8 x9 x10 x11 : Vec Ideal S256x128 .f32)

theorem out19_eq : out0_19 (F := Ideal) x0 x1 x2 x3 x4 x5 x6 x7 x8 x9 x10 x11 = k0_pay76 (k0_pay80 x0 x1 x2 x3 x4 x5 x6 x7 x8 x9 x10 x11) := by
  unfold out0_19
  rw [View.canon_unit_zero hz]

theorem out22_eq : out0_22 (F := Ideal) x0 x1 x2 x3 x4 x5 x6 x7 x8 x9 x10 x11 = k0_pay4 (k0_pay80 x0 x1 x2 x3 x4 x5 x6 x7 x8 x9 x10 x11) := by
  unfold out0_22
  rw [View.canon_unit_zero hz]

theorem out23_eq : out0_23 (F := Ideal) x0 x1 x2 x3 x4 x5 x6 x7 x8 x9 x10 x11 = k0_pay5 (k0_pay80 x0 x1 x2 x3 x4 x5 x6 x7 x8 x9 x10 x11) x6 := by
  unfold out0_23
  rw [View.canon_unit_zero hz, View.ld_unit_zero (S := S1x128) hz]
end

variable (m : (ℓ : Loc nD τ sig) → Buf (Elt Ideal) ℓ) (c : Dev nD) (t : Fin cfg0.N) (p : Fin 256)

/-- The 256 lanes of a row of the latent block. -/
def latRow (l : Fin 256) : EReal :=
  if h : l.val < 128 then nrm inv128 (cols (zB m c t) p 384 (by norm_num)) (gain (vecB m c t) 3) ⟨l.val, h⟩
  else turnHalf (nrm inv64 (cols (zB m c t) p 512 (by norm_num)) (gain (vecB m c t) 4)) (lanes p (c2B m c t)) (lanes p (s2aB m c t)) (lanes p (s2bB m c t)) ⟨l.val - 128, by omega⟩

theorem latRow_lo (k : Fin 128) (h : 128 * 0 + k.val < 256) : latRow m c t p ⟨128 * 0 + k.val, h⟩ = nrm inv128 (cols (zB m c t) p 384 (by norm_num)) (gain (vecB m c t) 3) k := by
  have e : (⟨128 * 0 + k.val, by omega⟩ : Fin 128) = k := Fin.ext (by show 128 * 0 + k.val = k.val; omega)
  unfold latRow
  rw [dif_pos (show 128 * 0 + k.val < 128 by omega), e]

theorem latRow_hi (k : Fin 128) (h : 128 * 1 + k.val < 256) : latRow m c t p ⟨128 * 1 + k.val, h⟩
    = turnHalf (nrm inv64 (cols (zB m c t) p 512 (by norm_num)) (gain (vecB m c t) 4)) (lanes p (c2B m c t)) (lanes p (s2aB m c t)) (lanes p (s2bB m c t)) k := by
  have e : (⟨128 * 1 + k.val - 128, by omega⟩ : Fin 128) = k := Fin.ext (by show 128 * 1 + k.val - 128 = k.val; omega)
  unfold latRow
  rw [dif_neg (show ¬ 128 * 1 + k.val < 128 by omega), e]

theorem block13 (l : Fin 256) : (out0_13 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) : Vec Ideal S256x256 .f32) (ix2 p l) = latRow m c t p l := by
  unfold out0_13
  refine View.canon_eq_of_allAt _ _ _ (View.cover_of_tiled_head _ _ _ rfl _) ?_
  refine View.allAt_cons_unit _ _ _ _ _ (tile2 1 (by norm_num) _ rfl _ (latRow m c t p) p (fun k => ?_) l) ?_
  · exact (mlaTurn_at (zB m c t) (vecB m c t) (c2B m c t) (s2aB m c t) (s2bB m c t) p k).trans (latRow_hi m c t p k _).symm
  refine View.allAt_cons_unit _ _ _ _ _ (tile2 0 (by norm_num) _ rfl _ (latRow m c t p) p (fun k => ?_) l) ?_
  · exact (mlaNorm_at (zB m c t) (vecB m c t) p k).trans (latRow_lo m c t p k _).symm
  exact View.allAt_nil _ _

variable (R : Fin 8704) (hR : R.val = 256 * t.val + p.val)

include hR in
/-- The norm of 128 columns of the product's block. -/
theorem nrm_eq (o : ℕ) (ho : o + 128 ≤ 3584) (o' : ℕ) (ho' : o' + 128 ≤ 3408) (h : ∀ i : ℕ, i < 128 → Laid (o + i) (o' + i)) (r : Fin 16) (g : Fin 128 → EReal)
    (hg : gain (vecB m c t) r = g) : nrm inv128 (cols (zB m c t) p o ho) (gain (vecB m c t) r) = nrm inv128 (seg (zr m c R) o' ho') g := by
  rw [cols_eq m c t p R hR o ho o' ho' h, hg]

/-- The norms' gains. -/
abbrev g11 (r : Fin 3) : Fin 128 → EReal := fun i => (m (c, main_arg11) : FVec Ideal S3x128 .f32) (ix2 r i)
abbrev g7 : Fin 128 → EReal := fun i => (m (c, main_arg7) : FVec Ideal S128 .f32) (ix1 i)
abbrev g10 : Fin 128 → EReal := fun i => (m (c, main_arg10) : FVec Ideal S128 .f32) (ix1 i)
abbrev g12 : Fin 128 → EReal := fun i => (m (c, main_arg12) : FVec Ideal S128 .f32) (ix1 i)
abbrev g13 : Fin 128 → EReal := fun i => (m (c, main_arg13) : FVec Ideal S128 .f32) (ix1 i)
abbrev g8 : Fin 64 → EReal := fun i => (m (c, main_arg8) : FVec Ideal S64 .f32) (ix1 i)

include hR in
/-- Its first 192 lanes are the row of the latent cache. -/
theorem latRow_eq (l : Fin 192) : latRow m c t p ⟨l.val, by omega⟩ = mlaRow (zr m c R) (g7 m c) (g8 m c) (a32 R) l := by
  unfold latRow mlaRow
  by_cases h : l.val < 128
  · rw [dif_pos h, dif_pos h]
    exact congrFun (nrm_eq m c t p R hR 384 (by norm_num) 384 (by norm_num) (fun i hi => by unfold Laid; omega) 3 (g7 m c) (gain3 m c t)) ⟨l.val, h⟩
  · rw [dif_neg h, dif_neg h]
    exact mlaKey_eq m c t p R hR ⟨l.val - 128, by omega⟩

include hR in
theorem block15 (l : Fin 256) : (out0_15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) : Vec Ideal S256x256 .f32) (ix2 p l) = keyRow (zr m c R) 1088 (by norm_num) (g11 m c 0) (a64 R) l := by
  unfold out0_15
  refine View.canon_eq_of_allAt _ _ _ (View.cover_of_tiled_head _ _ _ rfl _) ?_
  refine View.allAt_cons_unit _ _ _ _ _ (tile2 1 (by norm_num) _ rfl _ (keyRow (zr m c R) 1088 (by norm_num) (g11 m c 0) (a64 R)) p (fun k => ?_) l) ?_
  · exact (cmpV_at (zB m c t) p k).trans ((congrFun (cols_eq m c t p R hR 1280 (by norm_num) (1088 + 128) (by norm_num) (fun i hi => by unfold Laid; omega)) k).trans (keyRow_hi _ 1088 _ _ k _ _).symm)
  refine View.allAt_cons_unit _ _ _ _ _ (tile2 0 (by norm_num) _ rfl _ (keyRow (zr m c R) 1088 (by norm_num) (g11 m c 0) (a64 R)) p (fun k => ?_) l) ?_
  · exact (cmp_at (zB m c t) (vecB m c t) (c1B m c t) (s1B m c t) p k).trans ((turn_eq m c t p R hR _ k).trans ((congrArg (fun x => rope128 x (a64 R) k) (nrm_eq m c t p R hR 1152 (by norm_num) 1088 (by norm_num) (fun i hi => by unfold Laid; omega) 6 (g11 m c 0) (gain6 m c t))).trans (keyRow_lo _ 1088 _ _ k _ _).symm))
  exact View.allAt_nil _ _

include hR in
theorem block16 (l : Fin 256) : (out0_16 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) : Vec Ideal S256x256 .f32) (ix2 p l) = keyRow (zr m c R) 1344 (by norm_num) (g11 m c 1) (a64 R) l := by
  unfold out0_16
  refine View.canon_eq_of_allAt _ _ _ (View.cover_of_tiled_head _ _ _ rfl _) ?_
  refine View.allAt_cons_unit _ _ _ _ _ (tile2 1 (by norm_num) _ rfl _ (keyRow (zr m c R) 1344 (by norm_num) (g11 m c 1) (a64 R)) p (fun k => ?_) l) ?_
  · exact (selV_at (zB m c t) p k).trans ((congrFun (cols_eq m c t p R hR 1536 (by norm_num) (1344 + 128) (by norm_num) (fun i hi => by unfold Laid; omega)) k).trans (keyRow_hi _ 1344 _ _ k _ _).symm)
  refine View.allAt_cons_unit _ _ _ _ _ (tile2 0 (by norm_num) _ rfl _ (keyRow (zr m c R) 1344 (by norm_num) (g11 m c 1) (a64 R)) p (fun k => ?_) l) ?_
  · exact (sel_at (zB m c t) (vecB m c t) (c1B m c t) (s1B m c t) p k).trans ((turn_eq m c t p R hR _ k).trans ((congrArg (fun x => rope128 x (a64 R) k) (nrm_eq m c t p R hR 1408 (by norm_num) 1344 (by norm_num) (fun i hi => by unfold Laid; omega) 7 (g11 m c 1) (gain7 m c t))).trans (keyRow_lo _ 1344 _ _ k _ _).symm))
  exact View.allAt_nil _ _

include hR in
theorem block17 (l : Fin 256) : (out0_17 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) : Vec Ideal S256x256 .f32) (ix2 p l) = keyRow (zr m c R) 1600 (by norm_num) (g11 m c 2) (a64 R) l := by
  unfold out0_17
  refine View.canon_eq_of_allAt _ _ _ (View.cover_of_tiled_head _ _ _ rfl _) ?_
  refine View.allAt_cons_unit _ _ _ _ _ (tile2 1 (by norm_num) _ rfl _ (keyRow (zr m c R) 1600 (by norm_num) (g11 m c 2) (a64 R)) p (fun k => ?_) l) ?_
  · exact (winV_at (zB m c t) p k).trans ((congrFun (cols_eq m c t p R hR 1792 (by norm_num) (1600 + 128) (by norm_num) (fun i hi => by unfold Laid; omega)) k).trans (keyRow_hi _ 1600 _ _ k _ _).symm)
  refine View.allAt_cons_unit _ _ _ _ _ (tile2 0 (by norm_num) _ rfl _ (keyRow (zr m c R) 1600 (by norm_num) (g11 m c 2) (a64 R)) p (fun k => ?_) l) ?_
  · exact (win_at (zB m c t) (vecB m c t) (c1B m c t) (s1B m c t) p k).trans ((turn_eq m c t p R hR _ k).trans ((congrArg (fun x => rope128 x (a64 R) k) (nrm_eq m c t p R hR 1664 (by norm_num) 1600 (by norm_num) (fun i hi => by unfold Laid; omega) 8 (g11 m c 2) (gain8 m c t))).trans (keyRow_lo _ 1600 _ _ k _ _).symm))
  exact View.allAt_nil _ _

include hR in
theorem block14 (l : Fin 512) : (out0_14 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) : Vec Ideal S256x512 .f32) (ix2 p l) = turnedHeads (zr m c R) 576 (by norm_num) (g10 m c) (a64 R) l := by
  unfold out0_14
  refine View.canon_eq_of_allAt _ _ _ (View.cover_of_tiled_head _ _ _ rfl _) ?_
  refine View.allAt_cons_unit _ _ _ _ _ (tile4 3 (by norm_num) _ rfl _ (turnedHeads (zr m c R) 576 (by norm_num) (g10 m c) (a64 R)) p (fun k => ?_) l) ?_
  · exact (nsaQ3_at (zB m c t) (vecB m c t) (c1B m c t) (s1B m c t) p k).trans ((turn_eq m c t p R hR _ k).trans ((congrArg (fun x => rope128 x (a64 R) k) (nrm_eq m c t p R hR 1024 (by norm_num) (576 + 128 * 3) (by norm_num) (fun i hi => by unfold Laid; omega) 5 (g10 m c) (gain5 m c t))).trans (turnedHeads_at _ 576 _ _ k _ 3 (by norm_num) _).symm))
  refine View.allAt_cons_unit _ _ _ _ _ (tile4 2 (by norm_num) _ rfl _ (turnedHeads (zr m c R) 576 (by norm_num) (g10 m c) (a64 R)) p (fun k => ?_) l) ?_
  · exact (nsaQ2_at (zB m c t) (vecB m c t) (c1B m c t) (s1B m c t) p k).trans ((turn_eq m c t p R hR _ k).trans ((congrArg (fun x => rope128 x (a64 R) k) (nrm_eq m c t p R hR 896 (by norm_num) (576 + 128 * 2) (by norm_num) (fun i hi => by unfold Laid; omega) 5 (g10 m c) (gain5 m c t))).trans (turnedHeads_at _ 576 _ _ k _ 2 (by norm_num) _).symm))
  refine View.allAt_cons_unit _ _ _ _ _ (tile4 1 (by norm_num) _ rfl _ (turnedHeads (zr m c R) 576 (by norm_num) (g10 m c) (a64 R)) p (fun k => ?_) l) ?_
  · exact (nsaQ1_at (zB m c t) (vecB m c t) (c1B m c t) (s1B m c t) p k).trans ((turn_eq m c t p R hR _ k).trans ((congrArg (fun x => rope128 x (a64 R) k) (nrm_eq m c t p R hR 768 (by norm_num) (576 + 128 * 1) (by norm_num) (fun i hi => by unfold Laid; omega) 5 (g10 m c) (gain5 m c t))).trans (turnedHeads_at _ 576 _ _ k _ 1 (by norm_num) _).symm))
  refine View.allAt_cons_unit _ _ _ _ _ (tile4 0 (by norm_num) _ rfl _ (turnedHeads (zr m c R) 576 (by norm_num) (g10 m c) (a64 R)) p (fun k => ?_) l) ?_
  · exact (nsaQ0_at (zB m c t) (vecB m c t) (c1B m c t) (s1B m c t) p k).trans ((turn_eq m c t p R hR _ k).trans ((congrArg (fun x => rope128 x (a64 R) k) (nrm_eq m c t p R hR 640 (by norm_num) (576 + 128 * 0) (by norm_num) (fun i hi => by unfold Laid; omega) 5 (g10 m c) (gain5 m c t))).trans (turnedHeads_at _ 576 _ _ k _ 0 (by norm_num) _).symm))
  exact View.allAt_nil _ _

include hR in
theorem block18 (l : Fin 512) : (out0_18 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) : Vec Ideal S256x512 .f32) (ix2 p l) = (fun l : Fin 512 => zr m c R ⟨1868 + l.val, by omega⟩) l := by
  unfold out0_18
  refine View.canon_eq_of_allAt _ _ _ (View.cover_of_tiled_head _ _ _ rfl _) ?_
  refine View.allAt_cons_unit _ _ _ _ _ (tile4 3 (by norm_num) _ rfl _ ((fun l : Fin 512 => zr m c R ⟨1868 + l.val, by omega⟩)) p (fun k => ?_) l) ?_
  · exact (sbQ3_at (zB m c t) p k).trans (z_at m c t p R hR ⟨2304 + k.val, by omega⟩ ⟨1868 + (128 * 3 + k.val), by omega⟩ (by show Laid (2304 + k.val) (1868 + (128 * 3 + k.val)); unfold Laid; omega))
  refine View.allAt_cons_unit _ _ _ _ _ (tile4 2 (by norm_num) _ rfl _ ((fun l : Fin 512 => zr m c R ⟨1868 + l.val, by omega⟩)) p (fun k => ?_) l) ?_
  · exact (sbQ2_at (zB m c t) p k).trans (z_at m c t p R hR ⟨2176 + k.val, by omega⟩ ⟨1868 + (128 * 2 + k.val), by omega⟩ (by show Laid (2176 + k.val) (1868 + (128 * 2 + k.val)); unfold Laid; omega))
  refine View.allAt_cons_unit _ _ _ _ _ (tile4 1 (by norm_num) _ rfl _ ((fun l : Fin 512 => zr m c R ⟨1868 + l.val, by omega⟩)) p (fun k => ?_) l) ?_
  · exact (sbQ1_at (zB m c t) p k).trans (z_at m c t p R hR ⟨2048 + k.val, by omega⟩ ⟨1868 + (128 * 1 + k.val), by omega⟩ (by show Laid (2048 + k.val) (1868 + (128 * 1 + k.val)); unfold Laid; omega))
  refine View.allAt_cons_unit _ _ _ _ _ (tile4 0 (by norm_num) _ rfl _ ((fun l : Fin 512 => zr m c R ⟨1868 + l.val, by omega⟩)) p (fun k => ?_) l) ?_
  · exact (sbQ0_at (zB m c t) p k).trans (z_at m c t p R hR ⟨1920 + k.val, by omega⟩ ⟨1868 + (128 * 0 + k.val), by omega⟩ (by show Laid (1920 + k.val) (1868 + (128 * 0 + k.val)); unfold Laid; omega))
  exact View.allAt_nil _ _

include hR in
theorem block20 (l : Fin 512) : (out0_20 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) : Vec Ideal S256x512 .f32) (ix2 p l) = normedHeads (zr m c R) 2636 (by norm_num) (g12 m c) l := by
  unfold out0_20
  refine View.canon_eq_of_allAt _ _ _ (View.cover_of_tiled_head _ _ _ rfl _) ?_
  refine View.allAt_cons_unit _ _ _ _ _ (tile4 3 (by norm_num) _ rfl _ (normedHeads (zr m c R) 2636 (by norm_num) (g12 m c)) p (fun k => ?_) l) ?_
  · exact (foxQ3_at (zB m c t) (vecB m c t) p k).trans ((congrFun (nrm_eq m c t p R hR 3072 (by norm_num) (2636 + 128 * 3) (by norm_num) (fun i hi => by unfold Laid; omega) 9 (g12 m c) (gain9 m c t)) k).trans (normedHeads_at _ 2636 _ k _ 3 (by norm_num) _).symm)
  refine View.allAt_cons_unit _ _ _ _ _ (tile4 2 (by norm_num) _ rfl _ (normedHeads (zr m c R) 2636 (by norm_num) (g12 m c)) p (fun k => ?_) l) ?_
  · exact (foxQ2_at (zB m c t) (vecB m c t) p k).trans ((congrFun (nrm_eq m c t p R hR 2944 (by norm_num) (2636 + 128 * 2) (by norm_num) (fun i hi => by unfold Laid; omega) 9 (g12 m c) (gain9 m c t)) k).trans (normedHeads_at _ 2636 _ k _ 2 (by norm_num) _).symm)
  refine View.allAt_cons_unit _ _ _ _ _ (tile4 1 (by norm_num) _ rfl _ (normedHeads (zr m c R) 2636 (by norm_num) (g12 m c)) p (fun k => ?_) l) ?_
  · exact (foxQ1_at (zB m c t) (vecB m c t) p k).trans ((congrFun (nrm_eq m c t p R hR 2816 (by norm_num) (2636 + 128 * 1) (by norm_num) (fun i hi => by unfold Laid; omega) 9 (g12 m c) (gain9 m c t)) k).trans (normedHeads_at _ 2636 _ k _ 1 (by norm_num) _).symm)
  refine View.allAt_cons_unit _ _ _ _ _ (tile4 0 (by norm_num) _ rfl _ (normedHeads (zr m c R) 2636 (by norm_num) (g12 m c)) p (fun k => ?_) l) ?_
  · exact (foxQ0_at (zB m c t) (vecB m c t) p k).trans ((congrFun (nrm_eq m c t p R hR 2688 (by norm_num) (2636 + 128 * 0) (by norm_num) (fun i hi => by unfold Laid; omega) 9 (g12 m c) (gain9 m c t)) k).trans (normedHeads_at _ 2636 _ k _ 0 (by norm_num) _).symm)
  exact View.allAt_nil _ _

include hR in
theorem block21 (l : Fin 256) : (out0_21 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) : Vec Ideal S256x256 .f32) (ix2 p l) = normRow (zr m c R) 3148 (by norm_num) (g13 m c) l := by
  unfold out0_21
  refine View.canon_eq_of_allAt _ _ _ (View.cover_of_tiled_head _ _ _ rfl _) ?_
  refine View.allAt_cons_unit _ _ _ _ _ (tile2 1 (by norm_num) _ rfl _ (normRow (zr m c R) 3148 (by norm_num) (g13 m c)) p (fun k => ?_) l) ?_
  · exact (foxV_at (zB m c t) p k).trans ((congrFun (cols_eq m c t p R hR 3328 (by norm_num) (3148 + 128) (by norm_num) (fun i hi => by unfold Laid; omega)) k).trans (normRow_hi _ 3148 _ k _ _).symm)
  refine View.allAt_cons_unit _ _ _ _ _ (tile2 0 (by norm_num) _ rfl _ (normRow (zr m c R) 3148 (by norm_num) (g13 m c)) p (fun k => ?_) l) ?_
  · exact (fox_at (zB m c t) (vecB m c t) p k).trans ((congrFun (nrm_eq m c t p R hR 3200 (by norm_num) 3148 (by norm_num) (fun i hi => by unfold Laid; omega) 10 (g13 m c) (gain10 m c t)) k).trans (normRow_lo _ 3148 _ k _ _).symm)
  exact View.allAt_nil _ _

include hR in
theorem block19 (l : Fin 256) : (out0_19 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) : Vec Ideal S256x256 .f32) (ix2 p l) = zr m c R ⟨2380 + l.val, by omega⟩ := by
  refine (congrFun (out19_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (ix2 p l)).trans ((sbRow_at (zB m c t) p l).trans (z_at m c t p R hR ⟨2432 + l.val, by omega⟩ ⟨2380 + l.val, by omega⟩ ?_))
  show Laid (2432 + l.val) (2380 + l.val)
  unfold Laid
  omega

include hR in
theorem block22 (l : Fin 12) : (out0_22 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) : Vec Ideal S256x128 .f32) (ix2 p ⟨l.val, by omega⟩) = Ideal.logistic (zr m c R ⟨1856 + l.val, by omega⟩) := by
  refine (congrFun (out22_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (ix2 p ⟨l.val, by omega⟩)).trans ((gate_at (zB m c t) p ⟨l.val, by omega⟩).trans (congrArg Ideal.logistic (z_at m c t p R hR ⟨3456 + l.val, by omega⟩ ⟨1856 + l.val, by omega⟩ ?_)))
  show Laid (3456 + l.val) (1856 + l.val)
  unfold Laid
  omega

include hR in
theorem block23 (l : Fin 4) : (out0_23 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) : Vec Ideal S256x128 .f32) (ix2 p ⟨12 + l.val, by omega⟩)
    = logSig (zr m c R ⟨3404 + l.val, by omega⟩ + (m (c, main_arg14) : FVec Ideal S4 .f32) (ix1 l)) := by
  refine (congrFun (out23_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (ix2 p ⟨12 + l.val, by omega⟩)).trans ((logf_at (zB m c t) p ⟨12 + l.val, by omega⟩ (iblk m c 6 t)).trans (congrArg logSig (congrArg₂ (· + ·) (z_at m c t p R hR ⟨3456 + (12 + l.val), by omega⟩ ⟨3404 + l.val, by omega⟩ ?_) (fb_at m c t p R l))))
  show Laid (3456 + (12 + l.val)) (3404 + l.val)
  unfold Laid
  omega

end Cert.ProjIdeal.Out
end
-- ==== Proof.ProjRun.lean ====
/-
  The projection kernel's results: each row of each result array, from the arguments; and the kernel's run, which ends
  with the results at those arrays and the arguments unchanged.
-/
module

public import proofs.«01_k».proof.Proof.ProjOut
public import Idealize.ShloMosaic.Lib.Tactic
public import Idealize.ShloMosaic.Lib.StableHlo.Run
public import Idealize.ShloMosaic.Lib.Claim

@[expose] public section

set_option maxRecDepth 16384
set_option maxHeartbeats 2000000

noncomputable section

namespace Cert.ProjIdeal.Run

open Cert.ProjIdeal Cert.ProjIdeal.Gen Cert.ProjIdeal.Host Cert.ProjIdeal.Body Cert.ProjIdeal.Blocks Cert.ProjIdeal.Z Cert.ProjIdeal.Out Cert.ProjMath Idealize.ShloMosaic Idealize.ShloMosaic.TcCoe Idealize.SL.Sem

variable (m : (ℓ : Loc nD τ sig) → Buf (Elt Ideal) ℓ) (c : Dev nD)

/-! ## The blocks a result's array is made of: every grid point writes its own -/

theorem flushed13 (t : Fin cfg0.N) : (dats m 0 c).flushed 13 t = (cfg0.win 13).cut (grid0.coords t) (out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  show (cfg0.win 13).cut (grid0.coords t) ((dats m 0 c).after 13 t) = _
  rw [after0_13]
theorem idx_inj13 : ∀ t t' : Fin cfg0.N, win0_13.index t = win0_13.index t' → t = t' := (by decide +kernel : ∀ t t' : Fin grid0.N, win0_13.index t = win0_13.index t' → t = t')
theorem disjoint13 : ∀ t t' : Fin cfg0.N, (cfg0.win 13).flush t = true → (cfg0.win 13).flush t' = true → t ≠ t' → Disjoint ((cfg0.win 13).blk t).view.set ((cfg0.win 13).blk t').view.set :=
  fun t t' _ _ hne => (cfg0.win 13).disjoint_blk fun h => hne (idx_inj13 t t' h)
theorem arr13 (t : Fin cfg0.N) (p : Fin 256) (R : Fin 8704) (hR : R.val = 256 * t.val + p.val) (l : Fin 256) :
    ((dats m 0 c).arrAt 13 cfg0.N : Vec Ideal S8704x256 .f32) (ix2 R l) = (out0_13 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) : Vec Ideal S256x256 .f32) (ix2 p l) := by
  have e := (read_13 c ((dats m 0 c).arrAt 13 cfg0.N) t p l R hR).symm
  have e2 := congrFun (((dats m 0 c).read_blk_arrAt_eq_flushed 13 disjoint13 cfg0.N t t.isLt (flush0_13 t)).trans (flushed13 m c t)) (ix2 p l)
  exact e.trans e2

theorem flushed14 (t : Fin cfg0.N) : (dats m 0 c).flushed 14 t = (cfg0.win 14).cut (grid0.coords t) (out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  show (cfg0.win 14).cut (grid0.coords t) ((dats m 0 c).after 14 t) = _
  rw [after0_14]
theorem idx_inj14 : ∀ t t' : Fin cfg0.N, win0_14.index t = win0_14.index t' → t = t' := (by decide +kernel : ∀ t t' : Fin grid0.N, win0_14.index t = win0_14.index t' → t = t')
theorem disjoint14 : ∀ t t' : Fin cfg0.N, (cfg0.win 14).flush t = true → (cfg0.win 14).flush t' = true → t ≠ t' → Disjoint ((cfg0.win 14).blk t).view.set ((cfg0.win 14).blk t').view.set :=
  fun t t' _ _ hne => (cfg0.win 14).disjoint_blk fun h => hne (idx_inj14 t t' h)
theorem arr14 (t : Fin cfg0.N) (p : Fin 256) (R : Fin 8704) (hR : R.val = 256 * t.val + p.val) (l : Fin 512) :
    ((dats m 0 c).arrAt 14 cfg0.N : Vec Ideal S8704x512 .f32) (ix2 R l) = (out0_14 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) : Vec Ideal S256x512 .f32) (ix2 p l) := by
  have e := (read_14 c ((dats m 0 c).arrAt 14 cfg0.N) t p l R hR).symm
  have e2 := congrFun (((dats m 0 c).read_blk_arrAt_eq_flushed 14 disjoint14 cfg0.N t t.isLt (flush0_14 t)).trans (flushed14 m c t)) (ix2 p l)
  exact e.trans e2

theorem flushed15 (t : Fin cfg0.N) : (dats m 0 c).flushed 15 t = (cfg0.win 15).cut (grid0.coords t) (out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  show (cfg0.win 15).cut (grid0.coords t) ((dats m 0 c).after 15 t) = _
  rw [after0_15]
theorem idx_inj15 : ∀ t t' : Fin cfg0.N, win0_15.index t = win0_15.index t' → t = t' := (by decide +kernel : ∀ t t' : Fin grid0.N, win0_15.index t = win0_15.index t' → t = t')
theorem disjoint15 : ∀ t t' : Fin cfg0.N, (cfg0.win 15).flush t = true → (cfg0.win 15).flush t' = true → t ≠ t' → Disjoint ((cfg0.win 15).blk t).view.set ((cfg0.win 15).blk t').view.set :=
  fun t t' _ _ hne => (cfg0.win 15).disjoint_blk fun h => hne (idx_inj15 t t' h)
theorem arr15 (t : Fin cfg0.N) (p : Fin 256) (R : Fin 8704) (hR : R.val = 256 * t.val + p.val) (l : Fin 256) :
    ((dats m 0 c).arrAt 15 cfg0.N : Vec Ideal S8704x256 .f32) (ix2 R l) = (out0_15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) : Vec Ideal S256x256 .f32) (ix2 p l) := by
  have e := (read_15 c ((dats m 0 c).arrAt 15 cfg0.N) t p l R hR).symm
  have e2 := congrFun (((dats m 0 c).read_blk_arrAt_eq_flushed 15 disjoint15 cfg0.N t t.isLt (flush0_15 t)).trans (flushed15 m c t)) (ix2 p l)
  exact e.trans e2

theorem flushed16 (t : Fin cfg0.N) : (dats m 0 c).flushed 16 t = (cfg0.win 16).cut (grid0.coords t) (out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  show (cfg0.win 16).cut (grid0.coords t) ((dats m 0 c).after 16 t) = _
  rw [after0_16]
theorem idx_inj16 : ∀ t t' : Fin cfg0.N, win0_16.index t = win0_16.index t' → t = t' := (by decide +kernel : ∀ t t' : Fin grid0.N, win0_16.index t = win0_16.index t' → t = t')
theorem disjoint16 : ∀ t t' : Fin cfg0.N, (cfg0.win 16).flush t = true → (cfg0.win 16).flush t' = true → t ≠ t' → Disjoint ((cfg0.win 16).blk t).view.set ((cfg0.win 16).blk t').view.set :=
  fun t t' _ _ hne => (cfg0.win 16).disjoint_blk fun h => hne (idx_inj16 t t' h)
theorem arr16 (t : Fin cfg0.N) (p : Fin 256) (R : Fin 8704) (hR : R.val = 256 * t.val + p.val) (l : Fin 256) :
    ((dats m 0 c).arrAt 16 cfg0.N : Vec Ideal S8704x256 .f32) (ix2 R l) = (out0_16 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) : Vec Ideal S256x256 .f32) (ix2 p l) := by
  have e := (read_16 c ((dats m 0 c).arrAt 16 cfg0.N) t p l R hR).symm
  have e2 := congrFun (((dats m 0 c).read_blk_arrAt_eq_flushed 16 disjoint16 cfg0.N t t.isLt (flush0_16 t)).trans (flushed16 m c t)) (ix2 p l)
  exact e.trans e2

theorem flushed17 (t : Fin cfg0.N) : (dats m 0 c).flushed 17 t = (cfg0.win 17).cut (grid0.coords t) (out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  show (cfg0.win 17).cut (grid0.coords t) ((dats m 0 c).after 17 t) = _
  rw [after0_17]
theorem idx_inj17 : ∀ t t' : Fin cfg0.N, win0_17.index t = win0_17.index t' → t = t' := (by decide +kernel : ∀ t t' : Fin grid0.N, win0_17.index t = win0_17.index t' → t = t')
theorem disjoint17 : ∀ t t' : Fin cfg0.N, (cfg0.win 17).flush t = true → (cfg0.win 17).flush t' = true → t ≠ t' → Disjoint ((cfg0.win 17).blk t).view.set ((cfg0.win 17).blk t').view.set :=
  fun t t' _ _ hne => (cfg0.win 17).disjoint_blk fun h => hne (idx_inj17 t t' h)
theorem arr17 (t : Fin cfg0.N) (p : Fin 256) (R : Fin 8704) (hR : R.val = 256 * t.val + p.val) (l : Fin 256) :
    ((dats m 0 c).arrAt 17 cfg0.N : Vec Ideal S8704x256 .f32) (ix2 R l) = (out0_17 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) : Vec Ideal S256x256 .f32) (ix2 p l) := by
  have e := (read_17 c ((dats m 0 c).arrAt 17 cfg0.N) t p l R hR).symm
  have e2 := congrFun (((dats m 0 c).read_blk_arrAt_eq_flushed 17 disjoint17 cfg0.N t t.isLt (flush0_17 t)).trans (flushed17 m c t)) (ix2 p l)
  exact e.trans e2

theorem flushed18 (t : Fin cfg0.N) : (dats m 0 c).flushed 18 t = (cfg0.win 18).cut (grid0.coords t) (out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  show (cfg0.win 18).cut (grid0.coords t) ((dats m 0 c).after 18 t) = _
  rw [after0_18]
theorem idx_inj18 : ∀ t t' : Fin cfg0.N, win0_18.index t = win0_18.index t' → t = t' := (by decide +kernel : ∀ t t' : Fin grid0.N, win0_18.index t = win0_18.index t' → t = t')
theorem disjoint18 : ∀ t t' : Fin cfg0.N, (cfg0.win 18).flush t = true → (cfg0.win 18).flush t' = true → t ≠ t' → Disjoint ((cfg0.win 18).blk t).view.set ((cfg0.win 18).blk t').view.set :=
  fun t t' _ _ hne => (cfg0.win 18).disjoint_blk fun h => hne (idx_inj18 t t' h)
theorem arr18 (t : Fin cfg0.N) (p : Fin 256) (R : Fin 8704) (hR : R.val = 256 * t.val + p.val) (l : Fin 512) :
    ((dats m 0 c).arrAt 18 cfg0.N : Vec Ideal S8704x512 .f32) (ix2 R l) = (out0_18 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) : Vec Ideal S256x512 .f32) (ix2 p l) := by
  have e := (read_18 c ((dats m 0 c).arrAt 18 cfg0.N) t p l R hR).symm
  have e2 := congrFun (((dats m 0 c).read_blk_arrAt_eq_flushed 18 disjoint18 cfg0.N t t.isLt (flush0_18 t)).trans (flushed18 m c t)) (ix2 p l)
  exact e.trans e2

theorem flushed19 (t : Fin cfg0.N) : (dats m 0 c).flushed 19 t = (cfg0.win 19).cut (grid0.coords t) (out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  show (cfg0.win 19).cut (grid0.coords t) ((dats m 0 c).after 19 t) = _
  rw [after0_19]
theorem idx_inj19 : ∀ t t' : Fin cfg0.N, win0_19.index t = win0_19.index t' → t = t' := (by decide +kernel : ∀ t t' : Fin grid0.N, win0_19.index t = win0_19.index t' → t = t')
theorem disjoint19 : ∀ t t' : Fin cfg0.N, (cfg0.win 19).flush t = true → (cfg0.win 19).flush t' = true → t ≠ t' → Disjoint ((cfg0.win 19).blk t).view.set ((cfg0.win 19).blk t').view.set :=
  fun t t' _ _ hne => (cfg0.win 19).disjoint_blk fun h => hne (idx_inj19 t t' h)
theorem arr19 (t : Fin cfg0.N) (p : Fin 256) (R : Fin 8704) (hR : R.val = 256 * t.val + p.val) (l : Fin 256) :
    ((dats m 0 c).arrAt 19 cfg0.N : Vec Ideal S8704x256 .f32) (ix2 R l) = (out0_19 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) : Vec Ideal S256x256 .f32) (ix2 p l) := by
  have e := (read_19 c ((dats m 0 c).arrAt 19 cfg0.N) t p l R hR).symm
  have e2 := congrFun (((dats m 0 c).read_blk_arrAt_eq_flushed 19 disjoint19 cfg0.N t t.isLt (flush0_19 t)).trans (flushed19 m c t)) (ix2 p l)
  exact e.trans e2

theorem flushed20 (t : Fin cfg0.N) : (dats m 0 c).flushed 20 t = (cfg0.win 20).cut (grid0.coords t) (out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  show (cfg0.win 20).cut (grid0.coords t) ((dats m 0 c).after 20 t) = _
  rw [after0_20]
theorem idx_inj20 : ∀ t t' : Fin cfg0.N, win0_20.index t = win0_20.index t' → t = t' := (by decide +kernel : ∀ t t' : Fin grid0.N, win0_20.index t = win0_20.index t' → t = t')
theorem disjoint20 : ∀ t t' : Fin cfg0.N, (cfg0.win 20).flush t = true → (cfg0.win 20).flush t' = true → t ≠ t' → Disjoint ((cfg0.win 20).blk t).view.set ((cfg0.win 20).blk t').view.set :=
  fun t t' _ _ hne => (cfg0.win 20).disjoint_blk fun h => hne (idx_inj20 t t' h)
theorem arr20 (t : Fin cfg0.N) (p : Fin 256) (R : Fin 8704) (hR : R.val = 256 * t.val + p.val) (l : Fin 512) :
    ((dats m 0 c).arrAt 20 cfg0.N : Vec Ideal S8704x512 .f32) (ix2 R l) = (out0_20 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) : Vec Ideal S256x512 .f32) (ix2 p l) := by
  have e := (read_20 c ((dats m 0 c).arrAt 20 cfg0.N) t p l R hR).symm
  have e2 := congrFun (((dats m 0 c).read_blk_arrAt_eq_flushed 20 disjoint20 cfg0.N t t.isLt (flush0_20 t)).trans (flushed20 m c t)) (ix2 p l)
  exact e.trans e2

theorem flushed21 (t : Fin cfg0.N) : (dats m 0 c).flushed 21 t = (cfg0.win 21).cut (grid0.coords t) (out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  show (cfg0.win 21).cut (grid0.coords t) ((dats m 0 c).after 21 t) = _
  rw [after0_21]
theorem idx_inj21 : ∀ t t' : Fin cfg0.N, win0_21.index t = win0_21.index t' → t = t' := (by decide +kernel : ∀ t t' : Fin grid0.N, win0_21.index t = win0_21.index t' → t = t')
theorem disjoint21 : ∀ t t' : Fin cfg0.N, (cfg0.win 21).flush t = true → (cfg0.win 21).flush t' = true → t ≠ t' → Disjoint ((cfg0.win 21).blk t).view.set ((cfg0.win 21).blk t').view.set :=
  fun t t' _ _ hne => (cfg0.win 21).disjoint_blk fun h => hne (idx_inj21 t t' h)
theorem arr21 (t : Fin cfg0.N) (p : Fin 256) (R : Fin 8704) (hR : R.val = 256 * t.val + p.val) (l : Fin 256) :
    ((dats m 0 c).arrAt 21 cfg0.N : Vec Ideal S8704x256 .f32) (ix2 R l) = (out0_21 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) : Vec Ideal S256x256 .f32) (ix2 p l) := by
  have e := (read_21 c ((dats m 0 c).arrAt 21 cfg0.N) t p l R hR).symm
  have e2 := congrFun (((dats m 0 c).read_blk_arrAt_eq_flushed 21 disjoint21 cfg0.N t t.isLt (flush0_21 t)).trans (flushed21 m c t)) (ix2 p l)
  exact e.trans e2

theorem flushed22 (t : Fin cfg0.N) : (dats m 0 c).flushed 22 t = (cfg0.win 22).cut (grid0.coords t) (out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  show (cfg0.win 22).cut (grid0.coords t) ((dats m 0 c).after 22 t) = _
  rw [after0_22]
theorem idx_inj22 : ∀ t t' : Fin cfg0.N, win0_22.index t = win0_22.index t' → t = t' := (by decide +kernel : ∀ t t' : Fin grid0.N, win0_22.index t = win0_22.index t' → t = t')
theorem disjoint22 : ∀ t t' : Fin cfg0.N, (cfg0.win 22).flush t = true → (cfg0.win 22).flush t' = true → t ≠ t' → Disjoint ((cfg0.win 22).blk t).view.set ((cfg0.win 22).blk t').view.set :=
  fun t t' _ _ hne => (cfg0.win 22).disjoint_blk fun h => hne (idx_inj22 t t' h)
theorem arr22 (t : Fin cfg0.N) (p : Fin 256) (R : Fin 8704) (hR : R.val = 256 * t.val + p.val) (l : Fin 128) :
    ((dats m 0 c).arrAt 22 cfg0.N : Vec Ideal S8704x128 .f32) (ix2 R l) = (out0_22 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) : Vec Ideal S256x128 .f32) (ix2 p l) := by
  have e := (read_22 c ((dats m 0 c).arrAt 22 cfg0.N) t p l R hR).symm
  have e2 := congrFun (((dats m 0 c).read_blk_arrAt_eq_flushed 22 disjoint22 cfg0.N t t.isLt (flush0_22 t)).trans (flushed22 m c t)) (ix2 p l)
  exact e.trans e2

theorem flushed23 (t : Fin cfg0.N) : (dats m 0 c).flushed 23 t = (cfg0.win 23).cut (grid0.coords t) (out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  show (cfg0.win 23).cut (grid0.coords t) ((dats m 0 c).after 23 t) = _
  rw [after0_23]
theorem idx_inj23 : ∀ t t' : Fin cfg0.N, win0_23.index t = win0_23.index t' → t = t' := (by decide +kernel : ∀ t t' : Fin grid0.N, win0_23.index t = win0_23.index t' → t = t')
theorem disjoint23 : ∀ t t' : Fin cfg0.N, (cfg0.win 23).flush t = true → (cfg0.win 23).flush t' = true → t ≠ t' → Disjoint ((cfg0.win 23).blk t).view.set ((cfg0.win 23).blk t').view.set :=
  fun t t' _ _ hne => (cfg0.win 23).disjoint_blk fun h => hne (idx_inj23 t t' h)
theorem arr23 (t : Fin cfg0.N) (p : Fin 256) (R : Fin 8704) (hR : R.val = 256 * t.val + p.val) (l : Fin 128) :
    ((dats m 0 c).arrAt 23 cfg0.N : Vec Ideal S8704x128 .f32) (ix2 R l) = (out0_23 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) : Vec Ideal S256x128 .f32) (ix2 p l) := by
  have e := (read_23 c ((dats m 0 c).arrAt 23 cfg0.N) t p l R hR).symm
  have e2 := congrFun (((dats m 0 c).read_blk_arrAt_eq_flushed 23 disjoint23 cfg0.N t t.isLt (flush0_23 t)).trans (flushed23 m c t)) (ix2 p l)
  exact e.trans e2

/-! ## The results' rows -/

theorem pt_lt (R : Fin 8704) : R.val / 256 < cfg0.N := by
  show R.val / 256 < 34
  omega
/-- The grid point a row is written at, and its row there. -/
abbrev pt (R : Fin 8704) : Fin cfg0.N := ⟨R.val / 256, pt_lt R⟩
abbrev rw' (R : Fin 8704) : Fin 256 := ⟨R.val % 256, by omega⟩
theorem pt_rw (R : Fin 8704) : R.val = 256 * (pt R).val + (rw' R).val := by
  show R.val = 256 * (R.val / 256) + R.val % 256
  omega

theorem row15 (R : Fin 8704) (l : Fin 256) : ((dats m 0 c).arrAt 15 cfg0.N : Vec Ideal S8704x256 .f32) (ix2 R l) = keyRow (zr m c R) 1088 (by norm_num) (g11 m c 0) (a64 R) l :=
  (arr15 m c (pt R) (rw' R) R (pt_rw R) l).trans (block15 m c (pt R) (rw' R) R (pt_rw R) l)

theorem row16 (R : Fin 8704) (l : Fin 256) : ((dats m 0 c).arrAt 16 cfg0.N : Vec Ideal S8704x256 .f32) (ix2 R l) = keyRow (zr m c R) 1344 (by norm_num) (g11 m c 1) (a64 R) l :=
  (arr16 m c (pt R) (rw' R) R (pt_rw R) l).trans (block16 m c (pt R) (rw' R) R (pt_rw R) l)

theorem row17 (R : Fin 8704) (l : Fin 256) : ((dats m 0 c).arrAt 17 cfg0.N : Vec Ideal S8704x256 .f32) (ix2 R l) = keyRow (zr m c R) 1600 (by norm_num) (g11 m c 2) (a64 R) l :=
  (arr17 m c (pt R) (rw' R) R (pt_rw R) l).trans (block17 m c (pt R) (rw' R) R (pt_rw R) l)

theorem row19 (R : Fin 8704) (l : Fin 256) : ((dats m 0 c).arrAt 19 cfg0.N : Vec Ideal S8704x256 .f32) (ix2 R l) = zr m c R ⟨2380 + l.val, by omega⟩ :=
  (arr19 m c (pt R) (rw' R) R (pt_rw R) l).trans (block19 m c (pt R) (rw' R) R (pt_rw R) l)

theorem row21 (R : Fin 8704) (l : Fin 256) : ((dats m 0 c).arrAt 21 cfg0.N : Vec Ideal S8704x256 .f32) (ix2 R l) = normRow (zr m c R) 3148 (by norm_num) (g13 m c) l :=
  (arr21 m c (pt R) (rw' R) R (pt_rw R) l).trans (block21 m c (pt R) (rw' R) R (pt_rw R) l)

theorem row14 (R : Fin 8704) (l : Fin 512) : ((dats m 0 c).arrAt 14 cfg0.N : Vec Ideal S8704x512 .f32) (ix2 R l) = turnedHeads (zr m c R) 576 (by norm_num) (g10 m c) (a64 R) l :=
  (arr14 m c (pt R) (rw' R) R (pt_rw R) l).trans (block14 m c (pt R) (rw' R) R (pt_rw R) l)

theorem row18 (R : Fin 8704) (l : Fin 512) : ((dats m 0 c).arrAt 18 cfg0.N : Vec Ideal S8704x512 .f32) (ix2 R l) = zr m c R ⟨1868 + l.val, by omega⟩ :=
  (arr18 m c (pt R) (rw' R) R (pt_rw R) l).trans (block18 m c (pt R) (rw' R) R (pt_rw R) l)

theorem row20 (R : Fin 8704) (l : Fin 512) : ((dats m 0 c).arrAt 20 cfg0.N : Vec Ideal S8704x512 .f32) (ix2 R l) = normedHeads (zr m c R) 2636 (by norm_num) (g12 m c) l :=
  (arr20 m c (pt R) (rw' R) R (pt_rw R) l).trans (block20 m c (pt R) (rw' R) R (pt_rw R) l)

theorem row13 (R : Fin 8704) (l : Fin 192) : ((dats m 0 c).arrAt 13 cfg0.N : Vec Ideal S8704x256 .f32) (ix2 R ⟨l.val, by omega⟩) = mlaRow (zr m c R) (g7 m c) (g8 m c) (a32 R) l :=
  (arr13 m c (pt R) (rw' R) R (pt_rw R) ⟨l.val, by omega⟩).trans ((block13 m c (pt R) (rw' R) ⟨l.val, by omega⟩).trans (latRow_eq m c (pt R) (rw' R) R (pt_rw R) l))

theorem row22 (R : Fin 8704) (l : Fin 12) : ((dats m 0 c).arrAt 22 cfg0.N : Vec Ideal S8704x128 .f32) (ix2 R ⟨l.val, by omega⟩) = Ideal.logistic (zr m c R ⟨1856 + l.val, by omega⟩) :=
  (arr22 m c (pt R) (rw' R) R (pt_rw R) ⟨l.val, by omega⟩).trans (block22 m c (pt R) (rw' R) R (pt_rw R) l)

theorem row23 (R : Fin 8704) (l : Fin 4) : ((dats m 0 c).arrAt 23 cfg0.N : Vec Ideal S8704x128 .f32) (ix2 R ⟨12 + l.val, by omega⟩)
    = logSig (zr m c R ⟨3404 + l.val, by omega⟩ + (m (c, main_arg14) : FVec Ideal S4 .f32) (ix1 l)) :=
  (arr23 m c (pt R) (rw' R) R (pt_rw R) ⟨12 + l.val, by omega⟩).trans (block23 m c (pt R) (rw' R) R (pt_rw R) l)

/-! ## The results cut out after the call -/

theorem arr_inj : Function.Injective (Pipeline.arrRef spec0) := by
  have h : ∀ w w', Pipeline.arrRef spec0 w = Pipeline.arrRef spec0 w' → w = w' := by decide +kernel
  exact fun w w' => h w w'

/-- The slices of three of the arrays. -/
abbrev lat : FVec Ideal S8704x192 .f32 := extractStridedSlice S8704x192 ![0, 0] ((dats m 0 c).arrAt 13 cfg0.N : FVec Ideal S8704x256 .f32) slices_S8704x256_S8704x192_0_0
abbrev logf : FVec Ideal S8704x4 .f32 := extractStridedSlice S8704x4 ![0, 12] ((dats m 0 c).arrAt 23 cfg0.N : FVec Ideal S8704x128 .f32) slices_S8704x128_S8704x4_0_12
abbrev gate : FVec Ideal S8704x12 .f32 := extractStridedSlice S8704x12 ![0, 0] ((dats m 0 c).arrAt 22 cfg0.N : FVec Ideal S8704x128 .f32) slices_S8704x128_S8704x12_0_0

theorem tail110 : (Pipeline.afterTail₀ cfgs (dats m) 0 (V0 m) [hostOps1] c main_v110 : FVec Ideal S8704x192 .f32) = lat m c := by
  unfold Pipeline.afterTail₀
  simp only [hostOps1, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp
  have e := Pipeline.withArrays_arr spec0 arr_inj c (V0 m c) (fun w => (dats m 0 c).arrAt w cfg0.N) 13
  exact congrArg (fun A : FVec Ideal S8704x256 .f32 => extractStridedSlice S8704x192 _ A _) e

theorem tail111 : (Pipeline.afterTail₀ cfgs (dats m) 0 (V0 m) [hostOps1] c main_v111 : FVec Ideal S8704x4 .f32) = logf m c := by
  unfold Pipeline.afterTail₀
  simp only [hostOps1, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp
  have e := Pipeline.withArrays_arr spec0 arr_inj c (V0 m c) (fun w => (dats m 0 c).arrAt w cfg0.N) 23
  exact congrArg (fun A : FVec Ideal S8704x128 .f32 => extractStridedSlice S8704x4 _ A _) e

theorem tail112 : (Pipeline.afterTail₀ cfgs (dats m) 0 (V0 m) [hostOps1] c main_v112 : FVec Ideal S8704x12 .f32) = gate m c := by
  unfold Pipeline.afterTail₀
  simp only [hostOps1, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp
  have e := Pipeline.withArrays_arr spec0 arr_inj c (V0 m c) (fun w => (dats m 0 c).arrAt w cfg0.N) 22
  exact congrArg (fun A : FVec Ideal S8704x128 .f32 => extractStridedSlice S8704x12 _ A _) e

/-- The kernel's run: the results at the arrays the blocks make, the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v110) = lat m c
      ∧ r.2.mem ((c.tc : Thread nD τ).loc main_v109_3) = (dats m 0 c).arrAt 15 cfg0.N
      ∧ r.2.mem ((c.tc : Thread nD τ).loc main_v109_4) = (dats m 0 c).arrAt 16 cfg0.N
      ∧ r.2.mem ((c.tc : Thread nD τ).loc main_v109_5) = (dats m 0 c).arrAt 17 cfg0.N
      ∧ r.2.mem ((c.tc : Thread nD τ).loc main_v109_7) = (dats m 0 c).arrAt 19 cfg0.N
      ∧ r.2.mem ((c.tc : Thread nD τ).loc main_v109_9) = (dats m 0 c).arrAt 21 cfg0.N
      ∧ r.2.mem ((c.tc : Thread nD τ).loc main_v111) = logf m c
      ∧ r.2.mem ((c.tc : Thread nD τ).loc main_v112) = gate m c
      ∧ r.2.mem ((c.tc : Thread nD τ).loc main_v109_2) = (dats m 0 c).arrAt 14 cfg0.N
      ∧ r.2.mem ((c.tc : Thread nD τ).loc main_v109_6) = (dats m 0 c).arrAt 18 cfg0.N
      ∧ r.2.mem ((c.tc : Thread nD τ).loc main_v109_8) = (dats m 0 c).arrAt 20 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun r h c => ⟨((h.1 c).2 main_v110 (Pipeline.mem_restRefs_of main_v110 (by decide) (by decide))).trans (tail110 m c),
      (h.1 c).1 15,
      (h.1 c).1 16,
      (h.1 c).1 17,
      (h.1 c).1 19,
      (h.1 c).1 21,
      ((h.1 c).2 main_v111 (Pipeline.mem_restRefs_of main_v111 (by decide) (by decide))).trans (tail111 m c),
      ((h.1 c).2 main_v112 (Pipeline.mem_restRefs_of main_v112 (by decide) (by decide))).trans (tail112 m c),
      (h.1 c).1 14,
      (h.1 c).1 18,
      (h.1 c).1 20, h.2 c⟩)
    (θ_run_and (run_main m ρ) (unchanged m ρ))

end Cert.ProjIdeal.Run
end
-- ==== Proof.ProjRef.lean ====
/-
  The projections' mathematics, as the reference program's host operations compute it, read row by row.
-/
module

public import proofs.«01_k».proof.Proof.Gen.ProjReferenceIdeal.Run
public import proofs.«01_k».proof.Proof.ProjMath
public import Idealize.ShloMosaic.Lib.Tactic
public import Idealize.ShloMosaic.Lib.Pointwise

@[expose] public section

set_option maxRecDepth 16384
set_option maxHeartbeats 2000000

noncomputable section

namespace Cert.ProjReferenceIdeal.Ref

open Cert.ProjReferenceIdeal Cert.ProjReferenceIdeal.Gen Cert.ProjMath Idealize.ShloMosaic Idealize.ShloMosaic.TcCoe Idealize.SL.Sem

section
variable {F : FTy → Type} [FloatOps F]

/-- The position of each row. -/
def pos : IVec S8704 32 :=
  concatenate S8704 0 [⟨S8192, shapeCast S8192 (broadcastInDim S2x4096 ![0, 1] bcast_S1x4096_S2x4096_0_1 (shapeCast S1x4096 (iotaInDim S4096 32 0) shapeCasts_S4096_S1x4096)) shapeCasts_S2x4096_S8192⟩,
    ⟨S512, shapeCast S512 (broadcastInDim S128x4 ![0, 1] bcast_S1x4_S128x4_0_1 (shapeCast S1x4 (addi (broadcastInDim S4 ![] bcast_S_S4 (constantI S_ 32 8192#32)) (iotaInDim S4 32 0)) shapeCasts_S4_S1x4)) shapeCasts_S128x4_S512⟩] concatenates_S8192_S512_S8704_d0

/-- The angles of the 128-lane turns, and of the 64-lane turn. -/
def ang64 : FVec F S8704x64 .f32 :=
  mulf (broadcastInDim S8704x64 ![0, 1] bcast_S8704x1_S8704x64_0_1 (broadcastInDim S8704x1 ![0] bcast_S8704_S8704x1_0 (sitofp .f32 pos)))
    (broadcastInDim S8704x64 ![0, 1] bcast_S1x64_S8704x64_0_1 (broadcastInDim S1x64 ![1] bcast_S64_S1x64_1 (Host.powf (broadcastInDim S64 ![] bcast_S_S64 (constant S_ .f32 0x461C4000#32)) (Host.divf (Host.negf (sitofp .f32 (iotaInDim S64 32 0))) (broadcastInDim S64 ![] bcast_S_S64 (constant S_ .f32 0x42800000#32))))))
def ang32 : FVec F S8704x32 .f32 :=
  mulf (broadcastInDim S8704x32 ![0, 1] bcast_S8704x1_S8704x32_0_1 (broadcastInDim S8704x1 ![0] bcast_S8704_S8704x1_0 (sitofp .f32 pos)))
    (broadcastInDim S8704x32 ![0, 1] bcast_S1x32_S8704x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))

/-- The stacked rows. -/
def rows (x : FVec F S2x4096x2048 .f32) (y : FVec F S128x4x2048 .f32) : FVec F S8704x2048 .f32 :=
  concatenate S8704x2048 0 [⟨S8192x2048, shapeCast S8192x2048 x shapeCasts_S2x4096x2048_S8192x2048⟩, ⟨S512x2048, shapeCast S512x2048 y shapeCasts_S128x4x2048_S512x2048⟩] concatenates_S8192x2048_S512x2048_S8704x2048_d0

/-- The normed rows' product with the input weight. -/
def proj (x : FVec F S8704x2048 .f32) (g : FVec F S2048 .f32) (w : FVec F S2048x3408 .f32) : FVec F S8704x3408 .f32 :=
  Host.dotGeneral dot_S8704x2048_S2048x3408_S8704x3408_1_0_0_1_n_n none (mulf (mulf x (broadcastInDim S8704x2048 ![0, 1] bcast_S8704x1_S8704x2048_0_1 (Host.rsqrt (addf (Host.divf (broadcastInDim S8704x1 ![0] bcast_S8704_S8704x1_0 (Host.reduceAdd (mulf x x) (constant S_ .f32 0x00000000#32) reducesTo_S8704x2048_S8704_d1 h_S_)) (broadcastInDim S8704x1 ![] bcast_S_S8704x1 (constant S_ .f32 0x45000000#32))) (broadcastInDim S8704x1 ![] bcast_S_S8704x1 (constant S_ .f32 0x358637BD#32)))))) (broadcastInDim S8704x2048 ![0, 1] bcast_S1x2048_S8704x2048_0_1 (broadcastInDim S1x2048 ![1] bcast_S2048_S1x2048_1 g))) w

/-- The norms of 128 and of 64 lanes, and head by head. -/
def norm128 (x : FVec F S8704x128 .f32) (g : FVec F S128 .f32) : FVec F S8704x128 .f32 :=
  mulf (mulf x (broadcastInDim S8704x128 ![0, 1] bcast_S8704x1_S8704x128_0_1 (Host.rsqrt (addf (Host.divf (broadcastInDim S8704x1 ![0] bcast_S8704_S8704x1_0 (Host.reduceAdd (mulf x x) (constant S_ .f32 0x00000000#32) reducesTo_S8704x128_S8704_d1 h_S_)) (broadcastInDim S8704x1 ![] bcast_S_S8704x1 (constant S_ .f32 0x43000000#32))) (broadcastInDim S8704x1 ![] bcast_S_S8704x1 (constant S_ .f32 0x358637BD#32)))))) (broadcastInDim S8704x128 ![0, 1] bcast_S1x128_S8704x128_0_1 (broadcastInDim S1x128 ![1] bcast_S128_S1x128_1 g))
def norm64 (x : FVec F S8704x64 .f32) (g : FVec F S64 .f32) : FVec F S8704x64 .f32 :=
  mulf (mulf x (broadcastInDim S8704x64 ![0, 1] bcast_S8704x1_S8704x64_0_1 (Host.rsqrt (addf (Host.divf (broadcastInDim S8704x1 ![0] bcast_S8704_S8704x1_0 (Host.reduceAdd (mulf x x) (constant S_ .f32 0x00000000#32) reducesTo_S8704x64_S8704_d1 h_S_)) (broadcastInDim S8704x1 ![] bcast_S_S8704x1 (constant S_ .f32 0x42800000#32))) (broadcastInDim S8704x1 ![] bcast_S_S8704x1 (constant S_ .f32 0x358637BD#32)))))) (broadcastInDim S8704x64 ![0, 1] bcast_S1x64_S8704x64_0_1 (broadcastInDim S1x64 ![1] bcast_S64_S1x64_1 g))
def normHeads (x : FVec F S8704x4x128 .f32) (g : FVec F S128 .f32) : FVec F S8704x4x128 .f32 :=
  mulf (mulf x (broadcastInDim S8704x4x128 ![0, 1, 2] bcast_S8704x4x1_S8704x4x128_0_1_2 (Host.rsqrt (addf (Host.divf (broadcastInDim S8704x4x1 ![0, 1] bcast_S8704x4_S8704x4x1_0_1 (Host.reduceAdd (mulf x x) (constant S_ .f32 0x00000000#32) reducesTo_S8704x4x128_S8704x4_d2 h_S_)) (broadcastInDim S8704x4x1 ![] bcast_S_S8704x4x1 (constant S_ .f32 0x43000000#32))) (broadcastInDim S8704x4x1 ![] bcast_S_S8704x4x1 (constant S_ .f32 0x358637BD#32)))))) (broadcastInDim S8704x4x128 ![0, 1, 2] bcast_S1x1x128_S8704x4x128_0_1_2 (broadcastInDim S1x1x128 ![2] bcast_S128_S1x1x128_2 g))

/-- The turns of 128 and of 64 lanes, and head by head. -/
def turn128 (x : FVec F S8704x128 .f32) (a : FVec F S8704x64 .f32) : FVec F S8704x128 .f32 :=
  concatenate S8704x128 1 [⟨S8704x64, (subf (mulf (extractStridedSlice S8704x64 ![0, 0] x slices_S8704x128_S8704x64_0_0) (Host.cos a)) (mulf (extractStridedSlice S8704x64 ![0, 64] x slices_S8704x128_S8704x64_0_64) (Host.sin a)))⟩,
    ⟨S8704x64, (addf (mulf (extractStridedSlice S8704x64 ![0, 64] x slices_S8704x128_S8704x64_0_64) (Host.cos a)) (mulf (extractStridedSlice S8704x64 ![0, 0] x slices_S8704x128_S8704x64_0_0) (Host.sin a)))⟩] concatenates_S8704x64_S8704x64_S8704x128_d1
def turn64 (x : FVec F S8704x64 .f32) (a : FVec F S8704x32 .f32) : FVec F S8704x64 .f32 :=
  concatenate S8704x64 1 [⟨S8704x32, (subf (mulf (extractStridedSlice S8704x32 ![0, 0] x slices_S8704x64_S8704x32_0_0) (Host.cos a)) (mulf (extractStridedSlice S8704x32 ![0, 32] x slices_S8704x64_S8704x32_0_32) (Host.sin a)))⟩,
    ⟨S8704x32, (addf (mulf (extractStridedSlice S8704x32 ![0, 32] x slices_S8704x64_S8704x32_0_32) (Host.cos a)) (mulf (extractStridedSlice S8704x32 ![0, 0] x slices_S8704x64_S8704x32_0_0) (Host.sin a)))⟩] concatenates_S8704x32_S8704x32_S8704x64_d1
def turnHeads (x : FVec F S8704x4x128 .f32) (a : FVec F S8704x64 .f32) : FVec F S8704x4x128 .f32 :=
  concatenate S8704x4x128 2 [⟨S8704x4x64, (subf (mulf (extractStridedSlice S8704x4x64 ![0, 0, 0] x slices_S8704x4x128_S8704x4x64_0_0_0) (broadcastInDim S8704x4x64 ![0, 1, 2] bcast_S8704x1x64_S8704x4x64_0_1_2 (Host.cos (shapeCast S8704x1x64 a shapeCasts_S8704x64_S8704x1x64)))) (mulf (extractStridedSlice S8704x4x64 ![0, 0, 64] x slices_S8704x4x128_S8704x4x64_0_0_64) (broadcastInDim S8704x4x64 ![0, 1, 2] bcast_S8704x1x64_S8704x4x64_0_1_2 (Host.sin (shapeCast S8704x1x64 a shapeCasts_S8704x64_S8704x1x64)))))⟩,
    ⟨S8704x4x64, (addf (mulf (extractStridedSlice S8704x4x64 ![0, 0, 64] x slices_S8704x4x128_S8704x4x64_0_0_64) (broadcastInDim S8704x4x64 ![0, 1, 2] bcast_S8704x1x64_S8704x4x64_0_1_2 (Host.cos (shapeCast S8704x1x64 a shapeCasts_S8704x64_S8704x1x64)))) (mulf (extractStridedSlice S8704x4x64 ![0, 0, 0] x slices_S8704x4x128_S8704x4x64_0_0_0) (broadcastInDim S8704x4x64 ![0, 1, 2] bcast_S8704x1x64_S8704x4x64_0_1_2 (Host.sin (shapeCast S8704x1x64 a shapeCasts_S8704x64_S8704x1x64)))))⟩] concatenates_S8704x4x64_S8704x4x64_S8704x4x128_d2

variable (z : FVec F S8704x3408 .f32)

/-- The results, from the product: the latent row, a row of turned keys and values, a row of normed keys and values,
    the logarithm of the forget gate, the gates, the turned queries and the normed queries. -/
def resMla (g : FVec F S128 .f32) (g' : FVec F S64 .f32) : FVec F S8704x192 .f32 :=
  concatenate S8704x192 1 [⟨S8704x128, norm128 (extractStridedSlice S8704x128 ![0, 384] z slices_S8704x3408_S8704x128_0_384) g⟩,
    ⟨S8704x64, turn64 (norm64 (extractStridedSlice S8704x64 ![0, 512] z slices_S8704x3408_S8704x64_0_512) g') ang32⟩] concatenates_S8704x128_S8704x64_S8704x192_d1
def resKey (kv : FVec F S8704x256 .f32) (g : FVec F S128 .f32) : FVec F S8704x256 .f32 :=
  concatenate S8704x256 1 [⟨S8704x128, turn128 (norm128 (extractStridedSlice S8704x128 ![0, 0] kv slices_S8704x256_S8704x128_0_0) g) ang64⟩,
    ⟨S8704x128, extractStridedSlice S8704x128 ![0, 128] kv slices_S8704x256_S8704x128_0_128⟩] concatenates_S8704x128_S8704x128_S8704x256_d1
def resFox (kv : FVec F S8704x256 .f32) (g : FVec F S128 .f32) : FVec F S8704x256 .f32 :=
  concatenate S8704x256 1 [⟨S8704x128, norm128 (extractStridedSlice S8704x128 ![0, 0] kv slices_S8704x256_S8704x128_0_0) g⟩,
    ⟨S8704x128, extractStridedSlice S8704x128 ![0, 128] kv slices_S8704x256_S8704x128_0_128⟩] concatenates_S8704x128_S8704x128_S8704x256_d1
def negGate (b : FVec F S4 .f32) : FVec F S8704x4 .f32 :=
  Host.negf (addf (extractStridedSlice S8704x4 ![0, 3404] z slices_S8704x3408_S8704x4_0_3404) (broadcastInDim S8704x4 ![0, 1] bcast_S1x4_S8704x4_0_1 (broadcastInDim S1x4 ![1] bcast_S4_S1x4_1 b)))
def negLogSig (u : FVec F S8704x4 .f32) : FVec F S8704x4 .f32 :=
  Host.negf (select (cmpf .une (subf u (broadcastInDim S8704x4 ![] bcast_S_S8704x4 (constant S_ .f32 0x00000000#32))) (subf u (broadcastInDim S8704x4 ![] bcast_S_S8704x4 (constant S_ .f32 0x00000000#32)))) (addf u (broadcastInDim S8704x4 ![] bcast_S_S8704x4 (constant S_ .f32 0x00000000#32))) (addf (maximumf u (broadcastInDim S8704x4 ![] bcast_S_S8704x4 (constant S_ .f32 0x00000000#32))) (Host.log1p (Host.exp (Host.negf (Host.absf (subf u (broadcastInDim S8704x4 ![] bcast_S_S8704x4 (constant S_ .f32 0x00000000#32)))))))))
def resGate : FVec F S8704x12 .f32 :=
  Host.divf (broadcastInDim S8704x12 ![] bcast_S_S8704x12 (constant S_ .f32 0x3F800000#32)) (addf (broadcastInDim S8704x12 ![] bcast_S_S8704x12 (constant S_ .f32 0x3F800000#32)) (Host.exp (Host.negf (extractStridedSlice S8704x12 ![0, 1856] z slices_S8704x3408_S8704x12_0_1856))))
def resNsaQ (g : FVec F S128 .f32) : FVec F S8704x512 .f32 :=
  shapeCast S8704x512 (turnHeads (normHeads (shapeCast S8704x4x128 (extractStridedSlice S8704x512 ![0, 576] z slices_S8704x3408_S8704x512_0_576) shapeCasts_S8704x512_S8704x4x128) g) ang64) shapeCasts_S8704x4x128_S8704x512
def resFoxQ (g : FVec F S128 .f32) : FVec F S8704x512 .f32 :=
  shapeCast S8704x512 (normHeads (shapeCast S8704x4x128 (extractStridedSlice S8704x512 ![0, 2636] z slices_S8704x3408_S8704x512_0_2636) shapeCasts_S8704x512_S8704x4x128) g) shapeCasts_S8704x4x128_S8704x512
end

/-! ## Read at an index -/

/-- The negated softplus of `-v` is the logarithm of the sigmoid of `v`: the softplus's logarithm is of at least one,
    so neither side meets the infinity the negation would not pass. -/
theorem neg_softplus (v : EReal) :
    -(max (-v) 0 + Ideal.log1p (Ideal.exp (-FloatOps.absf (F := Ideal) (φ := .f32) (-v)))) = logSig v := by
  have ha : FloatOps.absf (F := Ideal) (φ := .f32) (-v) = FloatOps.absf (F := Ideal) (φ := .f32) v := by
    show max (-v) (- -v) = max v (-v)
    rw [neg_neg, max_comm]
  have hm : min v 0 = -max (-v) 0 := by
    rcases le_total v 0 with h | h
    · have h' : 0 ≤ -v := by simpa using EReal.neg_le_neg_iff.2 h
      rw [min_eq_left h, max_eq_left h', neg_neg]
    · have h' : -v ≤ 0 := by simpa using EReal.neg_le_neg_iff.2 h
      rw [min_eq_right h, max_eq_right h', neg_zero]
  have h1 : max (-v) 0 ≠ ⊥ := fun h => absurd (h ▸ le_max_right (-v) (0 : EReal)) (by simp)
  have h2 : ∀ u : EReal, Ideal.log1p (Ideal.exp u) ≠ ⊥ := by
    intro u
    induction u with
    | bot =>
      show Ideal.log (1 + 0) ≠ ⊥
      rw [add_zero]
      show (if (1 : ℝ) ≤ 0 then (⊥ : EReal) else ((Real.log 1 : ℝ) : EReal)) ≠ ⊥
      rw [if_neg (by norm_num)]
      exact EReal.coe_ne_bot _
    | top =>
      show Ideal.log (1 + ⊤) ≠ ⊥
      rw [EReal.add_top_of_ne_bot (by exact EReal.coe_ne_bot 1)]
      exact (by simp : (⊤ : EReal) ≠ ⊥)
    | coe r =>
      show (if 1 + Real.exp r ≤ 0 then (⊥ : EReal) else ((Real.log (1 + Real.exp r) : ℝ) : EReal)) ≠ ⊥
      rw [if_neg (by have := Real.exp_pos r; linarith)]
      exact EReal.coe_ne_bot _
  rw [EReal.neg_add (Or.inl h1) (Or.inr (h2 _)), ha]
  unfold logSig
  rw [hm, zero_sub]

section
variable (R : Fin 8704)

theorem proj_at (x : FVec Ideal S8704x2048 .f32) (g : FVec Ideal S2048 .f32) (w : FVec Ideal S2048x3408 .f32) (j : Fin 3408) :
    proj (F := Ideal) x g w (ix2 R j) = zRow (fun i => x (ix2 R i)) (fun i => g (ix1 i)) (fun d j => w (ix2 d j)) j := by
  unfold zRow nrm
  pointwise [proj]
  simp only [mean2048]

theorem norm128_at (x : FVec Ideal S8704x128 .f32) (g : FVec Ideal S128 .f32) (k : Fin 128) :
    norm128 (F := Ideal) x g (ix2 R k) = nrm inv128 (fun i => x (ix2 R i)) (fun i => g (ix1 i)) k := by
  unfold nrm
  pointwise [norm128]
  simp only [mean128]

theorem norm64_at (x : FVec Ideal S8704x64 .f32) (g : FVec Ideal S64 .f32) (k : Fin 64) :
    norm64 (F := Ideal) x g (ix2 R k) = nrm inv64 (fun i => x (ix2 R i)) (fun i => g (ix1 i)) k := by
  unfold nrm
  pointwise [norm64]
  simp only [mean64]

theorem normHeads_at (x : FVec Ideal S8704x4x128 .f32) (g : FVec Ideal S128 .f32) (h : Fin 4) (k : Fin 128) :
    normHeads (F := Ideal) x g (ix3 R h k) = nrm inv128 (fun i => x (ix3 R h i)) (fun i => g (ix1 i)) k := by
  unfold nrm
  pointwise [normHeads]
  simp only [mean128]

theorem turn128_at (x : FVec Ideal S8704x128 .f32) (a : FVec Ideal S8704x64 .f32) (k : Fin 128) :
    turn128 (F := Ideal) x a (ix2 R k) = rope128 (fun i => x (ix2 R i)) (fun i => a (ix2 R i)) k := by
  unfold rope128
  pointwise [turn128]
  have e : ∀ h : ¬ k.val < 64, (⟨64 + (k.val - 64), by omega⟩ : Fin 128) = k := fun h => Fin.ext (by show 64 + (k.val - 64) = k.val; omega)
  split_ifs with h
  · simp only [Nat.add_comm]
  all_goals exact congrArg (fun q => x (ix2 R q) * _ + _) (e h)

theorem turn64_at (x : FVec Ideal S8704x64 .f32) (a : FVec Ideal S8704x32 .f32) (k : Fin 64) :
    turn64 (F := Ideal) x a (ix2 R k) = rope64 (fun i => x (ix2 R i)) (fun i => a (ix2 R i)) k := by
  unfold rope64
  pointwise [turn64]
  have e : ∀ h : ¬ k.val < 32, (⟨32 + (k.val - 32), by omega⟩ : Fin 64) = k := fun h => Fin.ext (by show 32 + (k.val - 32) = k.val; omega)
  split_ifs with h
  · simp only [Nat.add_comm]
  all_goals exact congrArg (fun q => x (ix2 R q) * _ + _) (e h)

theorem turnHeads_at (x : FVec Ideal S8704x4x128 .f32) (a : FVec Ideal S8704x64 .f32) (h : Fin 4) (k : Fin 128) :
    turnHeads (F := Ideal) x a (ix3 R h k) = rope128 (fun i => x (ix3 R h i)) (fun i => a (ix2 R i)) k := by
  unfold rope128
  pointwise [turnHeads]
  have e : ∀ h' : ¬ k.val < 64, (⟨64 + (k.val - 64), by omega⟩ : Fin 128) = k := fun h => Fin.ext (by show 64 + (k.val - 64) = k.val; omega)
  split_ifs with h'
  · simp only [Nat.add_comm]
  all_goals exact congrArg (fun q => x (ix3 R h q) * _ + _) (e h')

variable (z : FVec Ideal S8704x3408 .f32)

theorem resMla_at (g : FVec Ideal S128 .f32) (g' : FVec Ideal S64 .f32) (l : Fin 192) :
    resMla (F := Ideal) z g g' (ix2 R l) = mlaRow (fun j => z (ix2 R j)) (fun i => g (ix1 i)) (fun i => g' (ix1 i)) (fun i => ang32 (F := Ideal) (ix2 R i)) l := by
  unfold mlaRow
  pointwise [resMla]
  simp only [norm128_at, turn64_at, norm64_at]
  pointwise
  unfold seg
  rfl

theorem resKey_at (kv : FVec Ideal S8704x256 .f32) (o : ℕ) (ho : o + 256 ≤ 3408) (hkv : ∀ l : Fin 256, kv (ix2 R l) = z (ix2 R ⟨o + l.val, by omega⟩)) (g : FVec Ideal S128 .f32) (l : Fin 256) :
    resKey (F := Ideal) kv g (ix2 R l) = keyRow (fun j => z (ix2 R j)) o ho (fun i => g (ix1 i)) (fun i => ang64 (F := Ideal) (ix2 R i)) l := by
  unfold keyRow seg
  pointwise [resKey]
  simp only [turn128_at, norm128_at]
  pointwise
  simp only [hkv]
  split_ifs with h
  · rfl
  all_goals exact congrArg (fun q => z (ix2 R q)) (Fin.ext (by show o + (128 + (l.val - 128)) = o + l.val; omega))

theorem resFox_at (kv : FVec Ideal S8704x256 .f32) (o : ℕ) (ho : o + 256 ≤ 3408) (hkv : ∀ l : Fin 256, kv (ix2 R l) = z (ix2 R ⟨o + l.val, by omega⟩)) (g : FVec Ideal S128 .f32) (l : Fin 256) :
    resFox (F := Ideal) kv g (ix2 R l) = normRow (fun j => z (ix2 R j)) o ho (fun i => g (ix1 i)) l := by
  unfold normRow seg
  pointwise [resFox]
  simp only [norm128_at]
  pointwise
  simp only [hkv]
  split_ifs with h
  · rfl
  all_goals exact congrArg (fun q => z (ix2 R q)) (Fin.ext (by show o + (128 + (l.val - 128)) = o + l.val; omega))

theorem resNsaQ_at (g : FVec Ideal S128 .f32) (l : Fin 512) :
    resNsaQ (F := Ideal) z g (ix2 R l) = turnedHeads (fun j => z (ix2 R j)) 576 (by norm_num) (fun i => g (ix1 i)) (fun i => ang64 (F := Ideal) (ix2 R i)) l := by
  unfold turnedHeads seg
  pointwise [resNsaQ]
  simp only [turnHeads_at, normHeads_at]
  pointwise
  have e : ∀ i : Fin 128, (⟨576 + (l.val / 128 * 128 + i.val), by omega⟩ : Fin 3408) = ⟨576 + 128 * (l.val / 128) + i.val, by omega⟩ :=
    fun i => Fin.ext (by show 576 + (l.val / 128 * 128 + i.val) = 576 + 128 * (l.val / 128) + i.val; omega)
  exact congrArg (fun v => rope128 (nrm inv128 v _) _ _) (funext fun i => congrArg (fun q => z (ix2 R q)) (e i))

theorem resFoxQ_at (g : FVec Ideal S128 .f32) (l : Fin 512) :
    resFoxQ (F := Ideal) z g (ix2 R l) = normedHeads (fun j => z (ix2 R j)) 2636 (by norm_num) (fun i => g (ix1 i)) l := by
  unfold normedHeads seg
  pointwise [resFoxQ]
  simp only [normHeads_at]
  pointwise
  have e : ∀ i : Fin 128, (⟨2636 + (l.val / 128 * 128 + i.val), by omega⟩ : Fin 3408) = ⟨2636 + 128 * (l.val / 128) + i.val, by omega⟩ :=
    fun i => Fin.ext (by show 2636 + (l.val / 128 * 128 + i.val) = 2636 + 128 * (l.val / 128) + i.val; omega)
  exact congrArg (fun v => nrm inv128 v _ _) (funext fun i => congrArg (fun q => z (ix2 R q)) (e i))

theorem resGate_at (l : Fin 12) : resGate (F := Ideal) z (ix2 R l) = Ideal.logistic (z (ix2 R ⟨1856 + l.val, by omega⟩)) := by
  pointwise [resGate]
  rfl

theorem resLogf_at (b : FVec Ideal S4 .f32) (l : Fin 4) : negLogSig (F := Ideal) (negGate (F := Ideal) z b) (ix2 R l) = logSig (z (ix2 R ⟨3404 + l.val, by omega⟩) + b (ix1 l)) := by
  pointwise [negLogSig, negGate]
  rw [if_neg (by simp)]
  exact neg_softplus _
end

end Cert.ProjReferenceIdeal.Ref
end
-- ==== Proof.ProjRefRun.lean ====
/-
  The reference program's eleven results, as the named formulas of its arguments.
-/
module

public import proofs.«01_k».proof.Proof.ProjRef

@[expose] public section

set_option maxRecDepth 16384
set_option maxHeartbeats 4000000

noncomputable section

namespace Cert.ProjReferenceIdeal.Ref

open Cert.ProjReferenceIdeal Cert.ProjReferenceIdeal.Gen Cert.ProjReferenceIdeal.Value Cert.ProjMath Idealize.ShloMosaic Idealize.ShloMosaic.TcCoe Idealize.SL.Sem

section
variable {F : FTy → Type} [FloatOps F]

/-- The product of the normed rows with the input weight, from the arguments. -/
abbrev Z (m : (ℓ : Loc nD τ sig) → Buf (Elt F) ℓ) (c : Dev nD) : FVec F S8704x3408 .f32 :=
  proj (rows (m (c, main_arg0) : FVec F S2x4096x2048 .f32) (m (c, main_arg1) : FVec F S128x4x2048 .f32)) (m (c, main_arg2) : FVec F S2048 .f32) (m (c, main_arg3) : FVec F S2048x3408 .f32)

/-- The run of the reference, its results named. -/
theorem run_named (m : (ℓ : Loc nD τ sig) → Buf (Elt F) ℓ) (ρ : Dev nD → PrngReg) :
    θ_run defs (onTc (τ := τ) (main (F := F))) ⟨m, fun _ => 0, ρ⟩ fun r => ∀ c : Dev nD,
      (r.2.mem ((c.tc : Thread nD τ).loc main_v90) : FVec F S8704x192 .f32) = resMla (Z m c) (m (c, main_arg7) : FVec F S128 .f32) (m (c, main_arg8) : FVec F S64 .f32)
      ∧ (r.2.mem ((c.tc : Thread nD τ).loc main_v131) : FVec F S8704x256 .f32) = resKey (extractStridedSlice S8704x256 ![0, 1088] (Z m c) slices_S8704x3408_S8704x256_0_1088) (shapeCast S128 (extractStridedSlice S1x128 ![0, 0] (m (c, main_arg11) : FVec F S3x128 .f32) slices_S3x128_S1x128_0_0) shapeCasts_S1x128_S128)
      ∧ (r.2.mem ((c.tc : Thread nD τ).loc main_v172) : FVec F S8704x256 .f32) = resKey (extractStridedSlice S8704x256 ![0, 1344] (Z m c) slices_S8704x3408_S8704x256_0_1344) (shapeCast S128 (extractStridedSlice S1x128 ![1, 0] (m (c, main_arg11) : FVec F S3x128 .f32) slices_S3x128_S1x128_1_0) shapeCasts_S1x128_S128)
      ∧ (r.2.mem ((c.tc : Thread nD τ).loc main_v213) : FVec F S8704x256 .f32) = resKey (extractStridedSlice S8704x256 ![0, 1600] (Z m c) slices_S8704x3408_S8704x256_0_1600) (shapeCast S128 (extractStridedSlice S1x128 ![2, 0] (m (c, main_arg11) : FVec F S3x128 .f32) slices_S3x128_S1x128_2_0) shapeCasts_S1x128_S128)
      ∧ (r.2.mem ((c.tc : Thread nD τ).loc main_v37) : FVec F S8704x256 .f32) = extractStridedSlice S8704x256 ![0, 2380] (Z m c) slices_S8704x3408_S8704x256_0_2380
      ∧ (r.2.mem ((c.tc : Thread nD τ).loc main_v229) : FVec F S8704x256 .f32) = resFox (extractStridedSlice S8704x256 ![0, 3148] (Z m c) slices_S8704x3408_S8704x256_0_3148) (m (c, main_arg13) : FVec F S128 .f32)
      ∧ (r.2.mem ((c.tc : Thread nD τ).loc main_v233) : FVec F S8704x4 .f32) = negLogSig (negGate (Z m c) (m (c, main_arg14) : FVec F S4 .f32))
      ∧ (r.2.mem ((c.tc : Thread nD τ).loc main_v239) : FVec F S8704x12 .f32) = resGate (Z m c)
      ∧ (r.2.mem ((c.tc : Thread nD τ).loc main_v296) : FVec F S8704x512 .f32) = resNsaQ (Z m c) (m (c, main_arg10) : FVec F S128 .f32)
      ∧ (r.2.mem ((c.tc : Thread nD τ).loc main_v36) : FVec F S8704x512 .f32) = extractStridedSlice S8704x512 ![0, 1868] (Z m c) slices_S8704x3408_S8704x512_0_1868
      ∧ (r.2.mem ((c.tc : Thread nD τ).loc main_v297) : FVec F S8704x512 .f32) = resFoxQ (Z m c) (m (c, main_arg12) : FVec F S128 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨(h c).1, (h c).2.1, (h c).2.2.1, (h c).2.2.2.1, (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2⟩) (Cert.ProjReferenceIdeal.Value.run m ρ)
end

end Cert.ProjReferenceIdeal.Ref
end
-- ==== Proof.ProjClaim.lean ====
/-
  The projections' value claim: over the extended reals each of the kernel's eleven results is the reference's, at every
  element.
-/
module

public import proofs.«01_k».proof.Defs
public import proofs.«01_k».proof.Proof.ProjRun
public import proofs.«01_k».proof.Proof.ProjRefRun
public import Idealize.ShloMosaic.Lib.Pointwise

@[expose] public section

set_option maxRecDepth 16384
set_option maxHeartbeats 2000000

noncomputable section

namespace Cert.ProjProof

open Idealize.ShloMosaic Idealize.ShloMosaic.TcCoe Idealize.SL.Sem
open Cert.ProjReferenceIdeal Cert.ProjReferenceIdeal.Gen Cert.ProjReferenceIdeal.Ref Cert.ProjMath
open Cert.ProjIdeal.Z (zr a64 a32)
open Cert.ProjIdeal.Out (g7 g8 g10 g11 g12 g13)

/-- Two arrays of two axes are equal when their elements are. -/
theorem ext2 {a b : ℕ} {α : Type} (f g : (Shape.Idx ⟨2, ![a, b]⟩) → α) (h : ∀ (i : Fin a) (l : Fin b), f (ix2 i l) = g (ix2 i l)) : f = g := by
  funext j
  have e : j = ix2 (j 0) (j 1) := by funext a; match a with | ⟨0, _⟩ => rfl | ⟨1, _⟩ => rfl
  rw [e]
  exact h (j 0) (j 1)

variable (m : (ℓ : Loc Cert.ProjIdeal.nD Cert.ProjIdeal.τ Cert.ProjIdeal.sig) → Buf (Elt Ideal) ℓ) (c : Dev Cert.ProjIdeal.nD)

/-! ## The reference's values, at the kernel's arguments -/

section
variable (x0 : FVec Ideal S2x4096x2048 .f32) (x1 : FVec Ideal S128x4x2048 .f32) (x2 : FVec Ideal S2048 .f32) (x3 : FVec Ideal S2048x3408 .f32)
  (h0 : x0 = m (c, Cert.ProjIdeal.main_arg0)) (h1 : x1 = m (c, Cert.ProjIdeal.main_arg1)) (h2 : x2 = m (c, Cert.ProjIdeal.main_arg2))
  (h3 : x3 = m (c, Cert.ProjIdeal.main_arg3))

include h0 h1 h2 h3 in
/-- A row's projections are the same in both. -/
theorem z_row (R : Fin 8704) : (fun j => proj (F := Ideal) (rows (F := Ideal) x0 x1) x2 x3 (ix2 R j)) = zr m c R := by
  funext j
  rw [proj_at, h0, h1, h2, h3]
  rfl

variable (z : FVec Ideal S8704x3408 .f32) (hz : ∀ R : Fin 8704, (fun j => z (ix2 R j)) = zr m c R)

/-- The two programs' angles are one. -/
theorem ang64_eq (R : Fin 8704) : (fun i => ang64 (F := Ideal) (ix2 R i)) = a64 R := rfl
theorem ang32_eq (R : Fin 8704) : (fun i => ang32 (F := Ideal) (ix2 R i)) = a32 R := rfl

theorem gain_row (r : ℕ) (hr : r < 3) (x : FVec Ideal S3x128 .f32) (hs : S3x128.Slices ![r, 0] S1x128) (i : Fin 128) :
    (shapeCast S128 (extractStridedSlice S1x128 ![r, 0] x hs) shapeCasts_S1x128_S128 : FVec Ideal S128 .f32) (ix1 i) = x (ix2 ⟨r, hr⟩ i) := by
  pointwise

include hz

theorem mla_eq (x7 : FVec Ideal S128 .f32) (x8 : FVec Ideal S64 .f32) (h7 : x7 = m (c, Cert.ProjIdeal.main_arg7)) (h8 : x8 = m (c, Cert.ProjIdeal.main_arg8)) :
    resMla (F := Ideal) z x7 x8 = Cert.ProjIdeal.Run.lat m c := by
  refine ext2 _ _ fun R l => (resMla_at R z x7 x8 l).trans ?_
  rw [hz R, ang32_eq, h7, h8]
  refine (Cert.ProjIdeal.Run.row13 m c R l).symm.trans ?_
  symm
  pointwise

theorem key15_eq (x11 : FVec Ideal S3x128 .f32) (h11 : x11 = m (c, Cert.ProjIdeal.main_arg11)) :
    resKey (F := Ideal) (extractStridedSlice S8704x256 ![0, 1088] z slices_S8704x3408_S8704x256_0_1088) (shapeCast S128 (extractStridedSlice S1x128 ![0, 0] x11 slices_S3x128_S1x128_0_0) shapeCasts_S1x128_S128)
      = (Cert.ProjIdeal.Gen.dats m 0 c).arrAt 15 Cert.ProjIdeal.cfg0.N := by
  refine ext2 _ _ fun R l => (resKey_at R z _ 1088 (by norm_num) (fun l => by pointwise) _ l).trans ?_
  simp only [gain_row 0 (by norm_num)]
  rw [hz R, ang64_eq, h11]
  exact (Cert.ProjIdeal.Run.row15 m c R l).symm

theorem key16_eq (x11 : FVec Ideal S3x128 .f32) (h11 : x11 = m (c, Cert.ProjIdeal.main_arg11)) :
    resKey (F := Ideal) (extractStridedSlice S8704x256 ![0, 1344] z slices_S8704x3408_S8704x256_0_1344) (shapeCast S128 (extractStridedSlice S1x128 ![1, 0] x11 slices_S3x128_S1x128_1_0) shapeCasts_S1x128_S128)
      = (Cert.ProjIdeal.Gen.dats m 0 c).arrAt 16 Cert.ProjIdeal.cfg0.N := by
  refine ext2 _ _ fun R l => (resKey_at R z _ 1344 (by norm_num) (fun l => by pointwise) _ l).trans ?_
  simp only [gain_row 1 (by norm_num)]
  rw [hz R, ang64_eq, h11]
  exact (Cert.ProjIdeal.Run.row16 m c R l).symm

theorem key17_eq (x11 : FVec Ideal S3x128 .f32) (h11 : x11 = m (c, Cert.ProjIdeal.main_arg11)) :
    resKey (F := Ideal) (extractStridedSlice S8704x256 ![0, 1600] z slices_S8704x3408_S8704x256_0_1600) (shapeCast S128 (extractStridedSlice S1x128 ![2, 0] x11 slices_S3x128_S1x128_2_0) shapeCasts_S1x128_S128)
      = (Cert.ProjIdeal.Gen.dats m 0 c).arrAt 17 Cert.ProjIdeal.cfg0.N := by
  refine ext2 _ _ fun R l => (resKey_at R z _ 1600 (by norm_num) (fun l => by pointwise) _ l).trans ?_
  simp only [gain_row 2 (by norm_num)]
  rw [hz R, ang64_eq, h11]
  exact (Cert.ProjIdeal.Run.row17 m c R l).symm

theorem fox_eq (x13 : FVec Ideal S128 .f32) (h13 : x13 = m (c, Cert.ProjIdeal.main_arg13)) :
    resFox (F := Ideal) (extractStridedSlice S8704x256 ![0, 3148] z slices_S8704x3408_S8704x256_0_3148) x13
      = (Cert.ProjIdeal.Gen.dats m 0 c).arrAt 21 Cert.ProjIdeal.cfg0.N := by
  refine ext2 _ _ fun R l => (resFox_at R z _ 3148 (by norm_num) (fun l => by pointwise) _ l).trans ?_
  rw [hz R, h13]
  exact (Cert.ProjIdeal.Run.row21 m c R l).symm

theorem nsaq_eq (x10 : FVec Ideal S128 .f32) (h10 : x10 = m (c, Cert.ProjIdeal.main_arg10)) :
    resNsaQ (F := Ideal) z x10 = (Cert.ProjIdeal.Gen.dats m 0 c).arrAt 14 Cert.ProjIdeal.cfg0.N := by
  refine ext2 _ _ fun R l => (resNsaQ_at R z x10 l).trans ?_
  rw [hz R, ang64_eq, h10]
  exact (Cert.ProjIdeal.Run.row14 m c R l).symm

theorem foxq_eq (x12 : FVec Ideal S128 .f32) (h12 : x12 = m (c, Cert.ProjIdeal.main_arg12)) :
    resFoxQ (F := Ideal) z x12 = (Cert.ProjIdeal.Gen.dats m 0 c).arrAt 20 Cert.ProjIdeal.cfg0.N := by
  refine ext2 _ _ fun R l => (resFoxQ_at R z x12 l).trans ?_
  rw [hz R, h12]
  exact (Cert.ProjIdeal.Run.row20 m c R l).symm

theorem sbrow_eq : (extractStridedSlice S8704x256 ![0, 2380] z slices_S8704x3408_S8704x256_0_2380 : FVec Ideal S8704x256 .f32)
    = (Cert.ProjIdeal.Gen.dats m 0 c).arrAt 19 Cert.ProjIdeal.cfg0.N := by
  refine ext2 _ _ fun R l => ?_
  refine Eq.trans (b := z (ix2 R ⟨2380 + l.val, by omega⟩)) (by pointwise) ?_
  exact (congrFun (hz R) ⟨2380 + l.val, by omega⟩).trans (Cert.ProjIdeal.Run.row19 m c R l).symm

theorem sbq_eq : (extractStridedSlice S8704x512 ![0, 1868] z slices_S8704x3408_S8704x512_0_1868 : FVec Ideal S8704x512 .f32)
    = (Cert.ProjIdeal.Gen.dats m 0 c).arrAt 18 Cert.ProjIdeal.cfg0.N := by
  refine ext2 _ _ fun R l => ?_
  refine Eq.trans (b := z (ix2 R ⟨1868 + l.val, by omega⟩)) (by pointwise) ?_
  exact (congrFun (hz R) ⟨1868 + l.val, by omega⟩).trans (Cert.ProjIdeal.Run.row18 m c R l).symm

theorem gate_eq : resGate (F := Ideal) z = Cert.ProjIdeal.Run.gate m c := by
  refine ext2 _ _ fun R l => (resGate_at R z l).trans ?_
  refine (congrArg Ideal.logistic (congrFun (hz R) ⟨1856 + l.val, by omega⟩)).trans ?_
  refine (Cert.ProjIdeal.Run.row22 m c R l).symm.trans ?_
  symm
  pointwise

theorem logf_eq (x14 : FVec Ideal S4 .f32) (h14 : x14 = m (c, Cert.ProjIdeal.main_arg14)) :
    negLogSig (F := Ideal) (negGate (F := Ideal) z x14) = Cert.ProjIdeal.Run.logf m c := by
  refine ext2 _ _ fun R l => (resLogf_at R z x14 l).trans ?_
  have e : z (ix2 R ⟨3404 + l.val, by omega⟩) = zr m c R ⟨3404 + l.val, by omega⟩ := congrFun (hz R) ⟨3404 + l.val, by omega⟩
  rw [e, h14]
  refine (Cert.ProjIdeal.Run.row23 m c R l).symm.trans ?_
  symm
  pointwise

end

/-! ## The claim -/

theorem algebraic : @Cert.algebraic_ProjIdeal_ProjReferenceIdeal Cert.ProjIdeal.Gen.facts Cert.ProjReferenceIdeal.Gen.facts := by
  intro m ρ m' ρ' _ hag
  have hz : ∀ (c : Dev Cert.ProjIdeal.nD) (R : Fin 8704), (fun j => Cert.ProjReferenceIdeal.Ref.Z (F := Ideal) m' c (ix2 R j)) = zr m c R :=
    fun c R => z_row m c _ _ _ _ (hag c).1 (hag c).2.1 (hag c).2.2.1 (hag c).2.2.2.1 R
  exact ⟨fun c => Cert.ProjIdeal.Run.lat m c,
    fun c => (Cert.ProjIdeal.Gen.dats m 0 c).arrAt 15 Cert.ProjIdeal.cfg0.N,
    fun c => (Cert.ProjIdeal.Gen.dats m 0 c).arrAt 16 Cert.ProjIdeal.cfg0.N,
    fun c => (Cert.ProjIdeal.Gen.dats m 0 c).arrAt 17 Cert.ProjIdeal.cfg0.N,
    fun c => (Cert.ProjIdeal.Gen.dats m 0 c).arrAt 19 Cert.ProjIdeal.cfg0.N,
    fun c => (Cert.ProjIdeal.Gen.dats m 0 c).arrAt 21 Cert.ProjIdeal.cfg0.N,
    fun c => Cert.ProjIdeal.Run.logf m c,
    fun c => Cert.ProjIdeal.Run.gate m c,
    fun c => (Cert.ProjIdeal.Gen.dats m 0 c).arrAt 14 Cert.ProjIdeal.cfg0.N,
    fun c => (Cert.ProjIdeal.Gen.dats m 0 c).arrAt 18 Cert.ProjIdeal.cfg0.N,
    fun c => (Cert.ProjIdeal.Gen.dats m 0 c).arrAt 20 Cert.ProjIdeal.cfg0.N,
    Cert.ProjIdeal.Run.run m ρ,
    (θ_run _ _ _).mono (fun _ h c => ⟨(h c).1.trans (mla_eq m c _ (hz c) _ _ (hag c).2.2.2.2.2.2.2.1 (hag c).2.2.2.2.2.2.2.2.1),
      (h c).2.1.trans (key15_eq m c _ (hz c) _ (hag c).2.2.2.2.2.2.2.2.2.2.2.1),
      (h c).2.2.1.trans (key16_eq m c _ (hz c) _ (hag c).2.2.2.2.2.2.2.2.2.2.2.1),
      (h c).2.2.2.1.trans (key17_eq m c _ (hz c) _ (hag c).2.2.2.2.2.2.2.2.2.2.2.1),
      (h c).2.2.2.2.1.trans (sbrow_eq m c _ (hz c)),
      (h c).2.2.2.2.2.1.trans (fox_eq m c _ (hz c) _ (hag c).2.2.2.2.2.2.2.2.2.2.2.2.2.1),
      (h c).2.2.2.2.2.2.1.trans (logf_eq m c _ (hz c) _ (hag c).2.2.2.2.2.2.2.2.2.2.2.2.2.2),
      (h c).2.2.2.2.2.2.2.1.trans (gate_eq m c _ (hz c)),
      (h c).2.2.2.2.2.2.2.2.1.trans (nsaq_eq m c _ (hz c) _ (hag c).2.2.2.2.2.2.2.2.2.2.1),
      (h c).2.2.2.2.2.2.2.2.2.1.trans (sbq_eq m c _ (hz c)),
      (h c).2.2.2.2.2.2.2.2.2.2.1.trans (foxq_eq m c _ (hz c) _ (hag c).2.2.2.2.2.2.2.2.2.2.2.2.1),
      (h c).2.2.2.2.2.2.2.2.2.2.2⟩)
      (Cert.ProjReferenceIdeal.Ref.run_named m' ρ')⟩

end Cert.ProjProof
end
-- ==== Proof.lean ====
/- The claims of this certificate, each from the module that proves it. -/
module

public import proofs.«01_k».proof.Proof.FfnClaim
public import proofs.«01_k».proof.Proof.AttnClaim
public import proofs.«01_k».proof.Proof.ProjClaim
public import proofs.«01_k».proof.Proof.Gen.KernelIdeal.Value
public import proofs.«01_k».proof.Proof.Gen.FfnIdeal.Value
public import proofs.«01_k».proof.Proof.Gen.ReferenceIdeal.Run
public import proofs.«01_k».proof.Proof.Gen.FfnReferenceIdeal.Run
public import proofs.«01_k».proof.Proof.Gen.ProjReferenceIdeal.Run
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnReferenceIdeal
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjReferenceIdeal
public import Idealize.ShloMosaic.Lib.Quiescent
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Ffn.Gen.facts, Cert.FfnIdeal.Gen.facts, Cert.FfnReferenceIdeal.Gen.facts,
  Cert.Proj.Gen.facts, Cert.ProjIdeal.Gen.facts, Cert.ProjReferenceIdeal.Gen.facts,
  fun m ρ _ => Cert.Kernel.Gen.frame m ρ,
  fun m ρ _ => Cert.KernelIdeal.Gen.frame m ρ,
  fun m ρ _ => (θ_run Cert.ReferenceIdeal.defs _ _).mono (fun r h => ⟨fun c => (h c).2, sem_eq_zero_of_no_sems (by decide) r.2⟩) (Cert.ReferenceIdeal.Value.run m ρ),
  fun m ρ _ => Cert.Ffn.Gen.frame m ρ,
  fun m ρ _ => Cert.FfnIdeal.Gen.frame m ρ,
  fun m ρ _ => (θ_run Cert.FfnReferenceIdeal.defs _ _).mono (fun r h => ⟨fun c => (h c).2, sem_eq_zero_of_no_sems (by decide) r.2⟩) (Cert.FfnReferenceIdeal.Value.run m ρ),
  fun m ρ _ => Cert.Proj.Gen.frame m ρ,
  fun m ρ _ => Cert.ProjIdeal.Gen.frame m ρ,
  fun m ρ _ => (θ_run Cert.ProjReferenceIdeal.defs _ _).mono (fun r h => ⟨fun c => (h c).2.2.2.2.2.2.2.2.2.2.2, sem_eq_zero_of_no_sems (by decide) r.2⟩) (Cert.ProjReferenceIdeal.Value.run m ρ),
  IdealRules.named_const.statement Cert.KernelIdeal.κ "mask" .f32 0xF149F2CA#32 ⊥ rfl,
  Cert.AttnProof.algebraic,
  trivial,
  Cert.FfnProof.algebraic,
  trivial,
  Cert.ProjProof.algebraic⟩

end Cert.Proof

end
